-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)) (v3 : (c : Dev Cert.KernelIdeal.nD) → Buf (Elt Ideal) ((c.tc : Thread Cert.KernelIdeal.nD Cert.KernelIdeal.τ).loc Cert.KernelIdeal.main_v44_3)) (v4 : (c : Dev Cert.KernelIdeal.nD) → Buf (Elt Ideal) ((c.tc : Thread Cert.KernelIdeal.nD Cert.KernelIdeal.τ).loc Cert.KernelIdeal.main_v44_4)) (v5 : (c : Dev Cert.KernelIdeal.nD) → Buf (Elt Ideal) ((c.tc : Thread Cert.KernelIdeal.nD Cert.KernelIdeal.τ).loc Cert.KernelIdeal.main_v44_5)) (v6 : (c : Dev Cert.KernelIdeal.nD) → Buf (Elt Ideal) ((c.tc : Thread Cert.KernelIdeal.nD Cert.KernelIdeal.τ).loc Cert.KernelIdeal.main_v44_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_v44_3) = v3 c
          ∧ r.2.mem ((c.tc : Thread Cert.KernelIdeal.nD Cert.KernelIdeal.τ).loc Cert.KernelIdeal.main_v44_4) = v4 c
          ∧ r.2.mem ((c.tc : Thread Cert.KernelIdeal.nD Cert.KernelIdeal.τ).loc Cert.KernelIdeal.main_v44_5) = v5 c
          ∧ r.2.mem ((c.tc : Thread Cert.KernelIdeal.nD Cert.KernelIdeal.τ).loc Cert.KernelIdeal.main_v44_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_v93) = v5 c
          ∧ r.2.mem ((c.tc : Thread Cert.ReferenceIdeal.nD Cert.ReferenceIdeal.τ).loc Cert.ReferenceIdeal.main_v94) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_v4_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_v39) = v2 c
          ∧ r.2.mem ((c.tc : Thread Cert.Reference3Ideal.nD Cert.Reference3Ideal.τ).loc Cert.Reference3Ideal.main_v40) = v3 c
          ∧ r.2.mem ((c.tc : Thread Cert.Reference3Ideal.nD Cert.Reference3Ideal.τ).loc Cert.Reference3Ideal.main_v41) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v51) = v1 c
          ∧ r.2.mem ((c.tc : Thread Cert.Reference5Ideal.nD Cert.Reference5Ideal.τ).loc Cert.Reference5Ideal.main_v52) = v2 c
          ∧ r.2.mem ((c.tc : Thread Cert.Reference5Ideal.nD Cert.Reference5Ideal.τ).loc Cert.Reference5Ideal.main_v34) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_v40) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v72) = v0 c
          ∧ r.2.mem ((c.tc : Thread Cert.Reference11Ideal.nD Cert.Reference11Ideal.τ).loc Cert.Reference11Ideal.main_v53) = v1 c
          ∧ r.2.mem ((c.tc : Thread Cert.Reference11Ideal.nD Cert.Reference11Ideal.τ).loc Cert.Reference11Ideal.main_v56) = v2 c
          ∧ r.2.mem ((c.tc : Thread Cert.Reference11Ideal.nD Cert.Reference11Ideal.τ).loc Cert.Reference11Ideal.main_v37) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v34) = v0 c
          ∧ r.2.mem ((c.tc : Thread Cert.Reference12Ideal.nD Cert.Reference12Ideal.τ).loc Cert.Reference12Ideal.main_v17) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg0) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg0) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg0) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg0) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg0) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg0) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg0) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg0) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite3 : Cert.Pre_finite3.Facts) (hPre_finite5 : Cert.Pre_finite5.Facts) (hPre_finite6 : Cert.Pre_finite6.Facts) (hPre_finite11 : Cert.Pre_finite11.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x5632 .f32) (main_arg2 : FVec F S3x5632 .f32) (main_arg3 : FVec F S1x5632 .f32) (main_arg4 : FVec F S2816x1024 .f32) (main_arg5 : FVec F S4096x1024 .f32) : IVec S4096x1024 1 × IVec S1024x5632 1 × IVec S3x5632 1 × IVec S1x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S1x5632 .f32 := Host.absf main_arg3
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite11.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S4096x512 : S_.BroadcastsInDim S4096x512 (![] : Fin 0 → Fin S4096x512.rank)
  bcast_S_S1x512 : S_.BroadcastsInDim S1x512 (![] : Fin 0 → Fin S1x512.rank)

variable [Facts]

def fn {F : FTy → Type} [FloatOps F] (main_arg0 : FVec F S4096x1024 .f32) (main_arg1 : FVec F S1024x1024 .f32) (main_arg2 : FVec F S4096x512 .f32) (main_arg3 : FVec F S4096x512 .f32) (main_arg4 : FVec F S1x512 .f32) (main_arg5 : FVec F S1x512 .f32) : IVec S4096x1024 1 × IVec S1024x1024 1 × IVec S4096x512 1 × IVec S4096x512 1 × IVec S1x512 1 × IVec S1x512 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  (main_v2, main_v5, main_v8, main_v11, main_v14, main_v17)
-- ==== Pre_finite12.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S1x1024 .f32) (main_arg2 : FVec F S4096x1024 .f32) (main_arg3 : FVec F S4096x1024 .f32) : IVec S4096x1024 1 × IVec S1x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite3.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S1x5632 : S_.BroadcastsInDim S1x5632 (![] : Fin 0 → Fin S1x5632.rank)

variable [Facts]

def fn {F : FTy → Type} [FloatOps F] (main_arg0 : FVec F S4096x1024 .f32) (main_arg1 : FVec F S1024x5632 .f32) (main_arg2 : FVec F S3x5632 .f32) (main_arg3 : FVec F S1x5632 .f32) : IVec S4096x1024 1 × IVec S1024x5632 1 × IVec S3x5632 1 × IVec S1x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S1x5632 .f32 := Host.absf main_arg3
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  (main_v2, main_v5, main_v8, main_v11)
-- ==== Pre_finite5.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S2816x1024 .f32) (main_arg2 : FVec F S4096x1024 .f32) (main_arg3 : FVec F S1x1024 .f32) (main_arg4 : FVec F S4096x1024 .f32) : IVec S4096x2816 1 × IVec S2816x1024 1 × IVec S4096x1024 1 × IVec S1x1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite6.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S4096x2816 .f32) (main_arg2 : FVec F S1024x5632 .f32) (main_arg3 : FVec F S4096x1024 .f32) (main_arg4 : FVec F S1x1024 .f32) (main_arg5 : FVec F S4096x1024 .f32) : IVec S4096x2816 1 × IVec S4096x2816 1 × IVec S1024x5632 1 × IVec S4096x1024 1 × IVec S1x1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Kernel.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S4096x5632 : Shape := ⟨2, ![4096, 5632]⟩
abbrev S2x2048x5632 : Shape := ⟨3, ![2, 2048, 5632]⟩
abbrev S_ : Shape := ⟨0, ![]⟩
abbrev S2x2x5632 : Shape := ⟨3, ![2, 2, 5632]⟩
abbrev S2x2046x5632 : Shape := ⟨3, ![2, 2046, 5632]⟩
abbrev S2x1x5632 : Shape := ⟨3, ![2, 1, 5632]⟩
abbrev S2x2047x5632 : Shape := ⟨3, ![2, 2047, 5632]⟩
abbrev S5632 : Shape := ⟨1, ![5632]⟩
abbrev S1x1x5632 : Shape := ⟨3, ![1, 1, 5632]⟩
abbrev S4096x2816 : Shape := ⟨2, ![4096, 2816]⟩
abbrev S2x2x1024x1408 : Shape := ⟨4, ![2, 2, 1024, 1408]⟩
abbrev S3x2816 : Shape := ⟨2, ![3, 2816]⟩
abbrev S1x2816 : Shape := ⟨2, ![1, 2816]⟩
abbrev S256x1024 : Shape := ⟨2, ![256, 1024]⟩
abbrev S256x1408 : Shape := ⟨2, ![256, 1408]⟩
abbrev S1408x1024 : Shape := ⟨2, ![1408, 1024]⟩
abbrev S3x1408 : Shape := ⟨2, ![3, 1408]⟩
abbrev S2x1x1024x1408 : Shape := ⟨4, ![2, 1, 1024, 1408]⟩
abbrev S1x1408 : Shape := ⟨2, ![1, 1408]⟩
abbrev S8x1408 : Shape := ⟨2, ![8, 1408]⟩
abbrev S2x1024x1408 : Shape := ⟨3, ![2, 1024, 1408]⟩
abbrev S16x1408 : Shape := ⟨2, ![16, 1408]⟩
abbrev S248x1408 : Shape := ⟨2, ![248, 1408]⟩
abbrev S1x1x1024x1408 : Shape := ⟨4, ![1, 1, 1024, 1408]⟩
abbrev S1024x1408 : Shape := ⟨2, ![1024, 1408]⟩
abbrev S1408 : Shape := ⟨1, ![1408]⟩

abbrev nBuf : Space → Nat
  | .hbm => 74
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S2816x1024, .f32⟩
  | .hbm, ⟨5, _⟩ => ⟨S4096x1024, .f32⟩
  | .hbm, ⟨6, _⟩ => ⟨S4096x5632, .f32⟩
  | .hbm, ⟨7, _⟩ => ⟨S2x2048x5632, .f32⟩
  | .hbm, ⟨8, _⟩ => ⟨S_, .f32⟩
  | .hbm, ⟨9, _⟩ => ⟨S2x2x5632, .f32⟩
  | .hbm, ⟨10, _⟩ => ⟨S2x2046x5632, .f32⟩
  | .hbm, ⟨11, _⟩ => ⟨S2x2048x5632, .f32⟩
  | .hbm, ⟨12, _⟩ => ⟨S2x1x5632, .f32⟩
  | .hbm, ⟨13, _⟩ => ⟨S2x2047x5632, .f32⟩
  | .hbm, ⟨14, _⟩ => ⟨S2x2048x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S2x2048x5632, .f32⟩
  | .hbm, ⟨19, _⟩ => ⟨S2x2048x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S2x2048x5632, .f32⟩
  | .hbm, ⟨24, _⟩ => ⟨S2x2048x5632, .f32⟩
  | .hbm, ⟨25, _⟩ => ⟨S2x2048x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S2x2048x5632, .f32⟩
  | .hbm, ⟨30, _⟩ => ⟨S2x2048x5632, .f32⟩
  | .hbm, ⟨31, _⟩ => ⟨S2x2048x5632, .f32⟩
  | .hbm, ⟨32, _⟩ => ⟨S1x1x5632, .f32⟩
  | .hbm, ⟨33, _⟩ => ⟨S2x2048x5632, .f32⟩
  | .hbm, ⟨34, _⟩ => ⟨S2x2048x5632, .f32⟩
  | .hbm, ⟨35, _⟩ => ⟨S4096x5632, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x1024, .bf16⟩
  | .hbm, ⟨61, _⟩ => ⟨S4096x2816, .f32⟩
  | .hbm, ⟨62, _⟩ => ⟨S4096x2816, .f32⟩
  | .hbm, ⟨63, _⟩ => ⟨S4096x2816, .bf16⟩
  | .hbm, ⟨64, _⟩ => ⟨S4096x2816, .bf16⟩
  | .hbm, ⟨65, _⟩ => ⟨S4096x1024, .bf16⟩
  | .hbm, ⟨66, _⟩ => ⟨S2816x1024, .bf16⟩
  | .hbm, ⟨67, _⟩ => ⟨S4096x2816, .bf16⟩
  | .hbm, ⟨68, _⟩ => ⟨S4096x2816, .bf16⟩
  | .hbm, ⟨69, _⟩ => ⟨S2x2x1024x1408, .f32⟩
  | .hbm, ⟨70, _⟩ => ⟨S3x2816, .f32⟩
  | .hbm, ⟨71, _⟩ => ⟨S3x2816, .f32⟩
  | .hbm, ⟨72, _⟩ => ⟨S1x2816, .f32⟩
  | .hbm, ⟨73, _⟩ => ⟨S1x2816, .f32⟩
  | .local _ .vmem, ⟨0, _⟩ => ⟨S256x1024, .bf16⟩
  | .local _ .vmem, ⟨1, _⟩ => ⟨S256x1024, .bf16⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | .local _ .vmem, ⟨10, _⟩ => ⟨S256x1024, .bf16⟩
  | .local _ .vmem, ⟨11, _⟩ => ⟨S256x1024, .bf16⟩
  | .local _ .vmem, ⟨12, _⟩ => ⟨S1408x1024, .bf16⟩
  | .local _ .vmem, ⟨13, _⟩ => ⟨S1408x1024, .bf16⟩
  | .local _ .vmem, ⟨14, _⟩ => ⟨S3x1408, .f32⟩
  | .local _ .vmem, ⟨15, _⟩ => ⟨S3x1408, .f32⟩
  | .local _ .vmem, ⟨16, _⟩ => ⟨S3x1408, .f32⟩
  | .local _ .vmem, ⟨17, _⟩ => ⟨S3x1408, .f32⟩
  | .local _ .vmem, ⟨18, _⟩ => ⟨S256x1408, .bf16⟩
  | .local _ .vmem, ⟨19, _⟩ => ⟨S256x1408, .bf16⟩
  | .local _ .vmem, ⟨20, _⟩ => ⟨S256x1408, .bf16⟩
  | .local _ .vmem, ⟨21, _⟩ => ⟨S256x1408, .bf16⟩
  | .local _ .vmem, ⟨22, _⟩ => ⟨S2x1x1024x1408, .f32⟩
  | .local _ .vmem, ⟨23, _⟩ => ⟨S2x1x1024x1408, .f32⟩
  | .local _ .vmem, ⟨24, _⟩ => ⟨S3x1408, .f32⟩
  | .local _ .vmem, ⟨25, _⟩ => ⟨S3x1408, .f32⟩
  | .local _ .vmem, ⟨26, _⟩ => ⟨S3x1408, .f32⟩
  | .local _ .vmem, ⟨27, _⟩ => ⟨S3x1408, .f32⟩
  | .local _ .vmem, ⟨28, _⟩ => ⟨S1x1408, .f32⟩
  | .local _ .vmem, ⟨29, _⟩ => ⟨S1x1408, .f32⟩
  | .local _ .vmem, ⟨30, _⟩ => ⟨S1x1408, .f32⟩
  | .local _ .vmem, ⟨31, _⟩ => ⟨S1x1408, .f32⟩
  | .local _ .vmem, ⟨32, _⟩ => ⟨S8x1408, .f32⟩
  | .local _ .vmem, ⟨33, _⟩ => ⟨S8x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v31_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v31_1 : Ref sig .tc := ⟨.hbm, 49, rfl⟩
abbrev main_v31_0 : Ref sig .tc := ⟨.hbm, 50, rfl⟩
abbrev main_v32 : Ref sig .tc := ⟨.hbm, 51, rfl⟩
abbrev main_cst_0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44_0 : Ref sig .tc := ⟨.hbm, 67, rfl⟩
abbrev main_v44_1 : Ref sig .tc := ⟨.hbm, 68, rfl⟩
abbrev main_v44_2 : Ref sig .tc := ⟨.hbm, 69, rfl⟩
abbrev main_v44_3 : Ref sig .tc := ⟨.hbm, 70, rfl⟩
abbrev main_v44_4 : Ref sig .tc := ⟨.hbm, 71, rfl⟩
abbrev main_v44_5 : Ref sig .tc := ⟨.hbm, 72, rfl⟩
abbrev main_v44_6 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x1024x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S3x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S3x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1408 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S4096x5632 : Shape := ⟨2, ![4096, 5632]⟩
abbrev S2x2048x5632 : Shape := ⟨3, ![2, 2048, 5632]⟩
abbrev S_ : Shape := ⟨0, ![]⟩
abbrev S2x2x5632 : Shape := ⟨3, ![2, 2, 5632]⟩
abbrev S2x2046x5632 : Shape := ⟨3, ![2, 2046, 5632]⟩
abbrev S2x1x5632 : Shape := ⟨3, ![2, 1, 5632]⟩
abbrev S2x2047x5632 : Shape := ⟨3, ![2, 2047, 5632]⟩
abbrev S5632 : Shape := ⟨1, ![5632]⟩
abbrev S1x1x5632 : Shape := ⟨3, ![1, 1, 5632]⟩
abbrev S4096x2816 : Shape := ⟨2, ![4096, 2816]⟩
abbrev S5632x1024 : Shape := ⟨2, ![5632, 1024]⟩
abbrev S1024x2x2x1408 : Shape := ⟨4, ![1024, 2, 2, 1408]⟩
abbrev S2x2x1024x1408 : Shape := ⟨4, ![2, 2, 1024, 1408]⟩
abbrev S3x2816 : Shape := ⟨2, ![3, 2816]⟩
abbrev S1x2816 : Shape := ⟨2, ![1, 2816]⟩

abbrev nBuf : Space → Nat
  | .hbm => 134
  | .vmem => 0
  | .smem => 0
  | _ => 0

abbrev hbmTy0_0 (i : Nat) : BufTy := match i % 128 with
  | 0 => ⟨S4096x1024, .f32⟩
  | 1 => ⟨S1024x5632, .f32⟩
  | 2 => ⟨S3x5632, .f32⟩
  | 3 => ⟨S1x5632, .f32⟩
  | 4 => ⟨S2816x1024, .f32⟩
  | 5 => ⟨S4096x1024, .f32⟩
  | 6 => ⟨S4096x5632, .f32⟩
  | 7 => ⟨S2x2048x5632, .f32⟩
  | 8 => ⟨S_, .f32⟩
  | 9 => ⟨S2x2x5632, .f32⟩
  | 10 => ⟨S2x2046x5632, .f32⟩
  | 11 => ⟨S2x2048x5632, .f32⟩
  | 12 => ⟨S_, .f32⟩
  | 13 => ⟨S2x2x5632, .f32⟩
  | 14 => ⟨S2x1x5632, .f32⟩
  | 15 => ⟨S2x2047x5632, .f32⟩
  | 16 => ⟨S2x2048x5632, .f32⟩
  | 17 => ⟨S_, .f32⟩
  | 18 => ⟨S2x1x5632, .f32⟩
  | 19 => ⟨S1x5632, .f32⟩
  | 20 => ⟨S5632, .f32⟩
  | 21 => ⟨S1x1x5632, .f32⟩
  | 22 => ⟨S2x2048x5632, .f32⟩
  | 23 => ⟨S2x2048x5632, .f32⟩
  | 24 => ⟨S1x5632, .f32⟩
  | 25 => ⟨S5632, .f32⟩
  | 26 => ⟨S1x1x5632, .f32⟩
  | 27 => ⟨S2x2048x5632, .f32⟩
  | 28 => ⟨S2x2048x5632, .f32⟩
  | 29 => ⟨S2x2048x5632, .f32⟩
  | 30 => ⟨S1x5632, .f32⟩
  | 31 => ⟨S5632, .f32⟩
  | 32 => ⟨S1x1x5632, .f32⟩
  | 33 => ⟨S2x2048x5632, .f32⟩
  | 34 => ⟨S2x2048x5632, .f32⟩
  | 35 => ⟨S2x2048x5632, .f32⟩
  | 36 => ⟨S1x1x5632, .f32⟩
  | 37 => ⟨S2x2048x5632, .f32⟩
  | 38 => ⟨S2x2048x5632, .f32⟩
  | 39 => ⟨S4096x5632, .f32⟩
  | 40 => ⟨S4096x2816, .f32⟩
  | 41 => ⟨S4096x2816, .f32⟩
  | 42 => ⟨S4096x2816, .f32⟩
  | 43 => ⟨S4096x2816, .f32⟩
  | 44 => ⟨S_, .f32⟩
  | 45 => ⟨S4096x2816, .f32⟩
  | 46 => ⟨S4096x2816, .f32⟩
  | 47 => ⟨S_, .f32⟩
  | 48 => ⟨S4096x2816, .f32⟩
  | 49 => ⟨S4096x2816, .f32⟩
  | 50 => ⟨S_, .f32⟩
  | 51 => ⟨S4096x2816, .f32⟩
  | 52 => ⟨S4096x2816, .f32⟩
  | 53 => ⟨S4096x2816, .f32⟩
  | 54 => ⟨S4096x2816, .f32⟩
  | 55 => ⟨S4096x2816, .f32⟩
  | 56 => ⟨S4096x1024, .f32⟩
  | 57 => ⟨S4096x2816, .f32⟩
  | 58 => ⟨S4096x2816, .f32⟩
  | 59 => ⟨S4096x2816, .f32⟩
  | 60 => ⟨S4096x2816, .f32⟩
  | 61 => ⟨S4096x2816, .f32⟩
  | 62 => ⟨S4096x2816, .f32⟩
  | 63 => ⟨S4096x2816, .f32⟩
  | 64 => ⟨S_, .f32⟩
  | 65 => ⟨S4096x5632, .f32⟩
  | 66 => ⟨S_, .f32⟩
  | 67 => ⟨S4096x5632, .f32⟩
  | 68 => ⟨S4096x5632, .f32⟩
  | 69 => ⟨S2x2048x5632, .f32⟩
  | 70 => ⟨S_, .f32⟩
  | 71 => ⟨S5632, .f32⟩
  | 72 => ⟨S1x1x5632, .f32⟩
  | 73 => ⟨S_, .f32⟩
  | 74 => ⟨S5632, .f32⟩
  | 75 => ⟨S1x5632, .f32⟩
  | 76 => ⟨S2x2048x5632, .f32⟩
  | 77 => ⟨S2x2048x5632, .f32⟩
  | 78 => ⟨S2x2048x5632, .f32⟩
  | 79 => ⟨S_, .f32⟩
  | 80 => ⟨S5632, .f32⟩
  | 81 => ⟨S1x1x5632, .f32⟩
  | 82 => ⟨S_, .f32⟩
  | 83 => ⟨S5632, .f32⟩
  | 84 => ⟨S1x5632, .f32⟩
  | 85 => ⟨S_, .f32⟩
  | 86 => ⟨S3x5632, .f32⟩
  | 87 => ⟨S2x2048x5632, .f32⟩
  | 88 => ⟨S2x2048x5632, .f32⟩
  | 89 => ⟨S2x2048x5632, .f32⟩
  | 90 => ⟨S_, .f32⟩
  | 91 => ⟨S5632, .f32⟩
  | 92 => ⟨S1x1x5632, .f32⟩
  | 93 => ⟨S_, .f32⟩
  | 94 => ⟨S5632, .f32⟩
  | 95 => ⟨S1x5632, .f32⟩
  | 96 => ⟨S_, .f32⟩
  | 97 => ⟨S3x5632, .f32⟩
  | 98 => ⟨S3x5632, .f32⟩
  | 99 => ⟨S2x2048x5632, .f32⟩
  | 100 => ⟨S2x2048x5632, .f32⟩
  | 101 => ⟨S2x2048x5632, .f32⟩
  | 102 => ⟨S_, .f32⟩
  | 103 => ⟨S5632, .f32⟩
  | 104 => ⟨S1x1x5632, .f32⟩
  | 105 => ⟨S_, .f32⟩
  | 106 => ⟨S5632, .f32⟩
  | 107 => ⟨S1x5632, .f32⟩
  | 108 => ⟨S_, .f32⟩
  | 109 => ⟨S3x5632, .f32⟩
  | 110 => ⟨S3x5632, .f32⟩
  | 111 => ⟨S2x1x5632, .f32⟩
  | 112 => ⟨S2x2047x5632, .f32⟩
  | 113 => ⟨S_, .f32⟩
  | 114 => ⟨S2x2048x5632, .f32⟩
  | 115 => ⟨S2x2048x5632, .f32⟩
  | 116 => ⟨S2x2x5632, .f32⟩
  | 117 => ⟨S2x2046x5632, .f32⟩
  | 118 => ⟨S_, .f32⟩
  | 119 => ⟨S2x2048x5632, .f32⟩
  | 120 => ⟨S2x2048x5632, .f32⟩
  | 121 => ⟨S4096x5632, .f32⟩
  | 122 => ⟨S5632x1024, .f32⟩
  | 123 => ⟨S1024x5632, .f32⟩
  | 124 => ⟨S1024x2x2x1408, .f32⟩
  | 125 => ⟨S2x2x1024x1408, .f32⟩
  | 126 => ⟨S4096x2816, .f32⟩
  | 127 => ⟨S4096x2816, .bf16⟩
  | _ => ⟨S4096x1024, .f32⟩

abbrev hbmTy0_1 (i : Nat) : BufTy := match i % 128 with
  | 0 => ⟨S4096x2816, .f32⟩
  | 1 => ⟨S4096x2816, .bf16⟩
  | 2 => ⟨S3x2816, .f32⟩
  | 3 => ⟨S3x2816, .f32⟩
  | 4 => ⟨S1x2816, .f32⟩
  | 5 => ⟨S1x2816, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v33_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v33_1 : Ref sig .tc := ⟨.hbm, 53, rfl⟩
abbrev main_v33_0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_cst_2 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_4 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_9 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_v71 : Ref sig .tc := ⟨.hbm, 107, rfl⟩
abbrev main_cst_14 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_15 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x512, .bf16⟩
  | .local _ .vmem, ⟨3, _⟩ => ⟨S1024x512, .bf16⟩
  | .local _ .vmem, ⟨4, _⟩ => ⟨S2816x512, .f32⟩
  | .local _ .vmem, ⟨5, _⟩ => ⟨S2816x512, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S512x1024 : Shape := ⟨2, ![512, 1024]⟩
abbrev S1x1024x1408 : Shape := ⟨3, ![1, 1024, 1408]⟩
abbrev S3x1408 : Shape := ⟨2, ![3, 1408]⟩
abbrev S1x1408 : Shape := ⟨2, ![1, 1408]⟩
abbrev S512x1408 : Shape := ⟨2, ![512, 1408]⟩
abbrev S8x1408 : Shape := ⟨2, ![8, 1408]⟩
abbrev S1024x1408 : Shape := ⟨2, ![1024, 1408]⟩
abbrev S16x1408 : Shape := ⟨2, ![16, 1408]⟩
abbrev S504x1408 : Shape := ⟨2, ![504, 1408]⟩

abbrev nBuf : Space → Nat
  | .hbm => 13
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S1024x4x1408, .f32⟩
  | .hbm, ⟨5, _⟩ => ⟨S4x1024x1408, .f32⟩
  | .hbm, ⟨6, _⟩ => ⟨S4096x1024, .bf16⟩
  | .hbm, ⟨7, _⟩ => ⟨S4x1024x1408, .bf16⟩
  | .hbm, ⟨8, _⟩ => ⟨S4096x2816, .f32⟩
  | .hbm, ⟨9, _⟩ => ⟨S4096x2816, .f32⟩
  | .hbm, ⟨10, _⟩ => ⟨S4096x2816, .bf16⟩
  | .hbm, ⟨11, _⟩ => ⟨S4096x2816, .bf16⟩
  | .hbm, ⟨12, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S3x1408, .f32⟩
  | .local _ .vmem, ⟨7, _⟩ => ⟨S3x1408, .f32⟩
  | .local _ .vmem, ⟨8, _⟩ => ⟨S3x1408, .f32⟩
  | .local _ .vmem, ⟨9, _⟩ => ⟨S3x1408, .f32⟩
  | .local _ .vmem, ⟨10, _⟩ => ⟨S1x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S512x1408, .f32⟩
  | .local _ .vmem, ⟨15, _⟩ => ⟨S512x1408, .f32⟩
  | .local _ .vmem, ⟨16, _⟩ => ⟨S512x1408, .f32⟩
  | .local _ .vmem, ⟨17, _⟩ => ⟨S512x1408, .f32⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S8x1408, .f32⟩
  | .local _ .vmem, ⟨25, _⟩ => ⟨S8x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S4096x5632 : Shape := ⟨2, ![4096, 5632]⟩
abbrev S2x2048x5632 : Shape := ⟨3, ![2, 2048, 5632]⟩
abbrev S_ : Shape := ⟨0, ![]⟩
abbrev S2x2x5632 : Shape := ⟨3, ![2, 2, 5632]⟩
abbrev S2x2046x5632 : Shape := ⟨3, ![2, 2046, 5632]⟩
abbrev S2x1x5632 : Shape := ⟨3, ![2, 1, 5632]⟩
abbrev S2x2047x5632 : Shape := ⟨3, ![2, 2047, 5632]⟩
abbrev S5632 : Shape := ⟨1, ![5632]⟩
abbrev S1x1x5632 : Shape := ⟨3, ![1, 1, 5632]⟩
abbrev S4096x2816 : Shape := ⟨2, ![4096, 2816]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S4096x5632, .f32⟩
  | .hbm, ⟨5, _⟩ => ⟨S2x2048x5632, .f32⟩
  | .hbm, ⟨6, _⟩ => ⟨S_, .f32⟩
  | .hbm, ⟨7, _⟩ => ⟨S2x2x5632, .f32⟩
  | .hbm, ⟨8, _⟩ => ⟨S2x2046x5632, .f32⟩
  | .hbm, ⟨9, _⟩ => ⟨S2x2048x5632, .f32⟩
  | .hbm, ⟨10, _⟩ => ⟨S2x1x5632, .f32⟩
  | .hbm, ⟨11, _⟩ => ⟨S2x2047x5632, .f32⟩
  | .hbm, ⟨12, _⟩ => ⟨S2x2048x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S2x2048x5632, .f32⟩
  | .hbm, ⟨17, _⟩ => ⟨S2x2048x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S2x2048x5632, .f32⟩
  | .hbm, ⟨22, _⟩ => ⟨S2x2048x5632, .f32⟩
  | .hbm, ⟨23, _⟩ => ⟨S2x2048x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S2x2048x5632, .f32⟩
  | .hbm, ⟨28, _⟩ => ⟨S2x2048x5632, .f32⟩
  | .hbm, ⟨29, _⟩ => ⟨S2x2048x5632, .f32⟩
  | .hbm, ⟨30, _⟩ => ⟨S1x1x5632, .f32⟩
  | .hbm, ⟨31, _⟩ => ⟨S2x2048x5632, .f32⟩
  | .hbm, ⟨32, _⟩ => ⟨S2x2048x5632, .f32⟩
  | .hbm, ⟨33, _⟩ => ⟨S4096x5632, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S_, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .bf16⟩
  | .hbm, ⟨61, _⟩ => ⟨S4096x2816, .bf16⟩
  | .hbm, ⟨62, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v31_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v31_1 : Ref sig .tc := ⟨.hbm, 47, rfl⟩
abbrev main_v31_0 : Ref sig .tc := ⟨.hbm, 48, rfl⟩
abbrev main_v32 : Ref sig .tc := ⟨.hbm, 49, rfl⟩
abbrev main_cst_0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Kernel4.lean ====
abbrev S4096x1024 : Shape := ⟨2, ![4096, 1024]⟩
abbrev S4096x512 : Shape := ⟨2, ![4096, 512]⟩
abbrev S4096x384 : Shape := ⟨2, ![4096, 384]⟩
abbrev S2304x1024 : Shape := ⟨2, ![2304, 1024]⟩
abbrev S512x1024 : Shape := ⟨2, ![512, 1024]⟩
abbrev S512x512 : Shape := ⟨2, ![512, 512]⟩
abbrev S512x384 : Shape := ⟨2, ![512, 384]⟩
abbrev S384x1024 : Shape := ⟨2, ![384, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x384, .f32⟩
  | .hbm, ⟨5, _⟩ => ⟨S4096x384, .f32⟩
  | .hbm, ⟨6, _⟩ => ⟨S4096x1024, .bf16⟩
  | .hbm, ⟨7, _⟩ => ⟨S2304x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S2304x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2304x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4096x1024 : Shape := ⟨2, ![4096, 1024]⟩
abbrev S4096x512 : Shape := ⟨2, ![4096, 512]⟩
abbrev S4096x384 : Shape := ⟨2, ![4096, 384]⟩
abbrev S4096x2304 : Shape := ⟨2, ![4096, 2304]⟩
abbrev S_ : Shape := ⟨0, ![]⟩
abbrev S2304x1024 : Shape := ⟨2, ![2304, 1024]⟩
abbrev S1024x2304 : Shape := ⟨2, ![1024, 2304]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x384, .f32⟩
  | .hbm, ⟨5, _⟩ => ⟨S4096x384, .f32⟩
  | .hbm, ⟨6, _⟩ => ⟨S4096x2304, .f32⟩
  | .hbm, ⟨7, _⟩ => ⟨S_, .f32⟩
  | .hbm, ⟨8, _⟩ => ⟨S2304x1024, .f32⟩
  | .hbm, ⟨9, _⟩ => ⟨S1024x2304, .f32⟩
  | .hbm, ⟨10, _⟩ => ⟨S4096x2304, .f32⟩
  | .hbm, ⟨11, _⟩ => ⟨S2304x1024, .f32⟩
  | .hbm, ⟨12, _⟩ => ⟨S1024x2304, .f32⟩
  | .hbm, ⟨13, _⟩ => ⟨S2304x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .bf16⟩
  | .hbm, ⟨6, _⟩ => ⟨S2816x1024, .bf16⟩
  | .hbm, ⟨7, _⟩ => ⟨S4096x1024, .f32⟩
  | .hbm, ⟨8, _⟩ => ⟨S4096x1024, .bf16⟩
  | .hbm, ⟨9, _⟩ => ⟨S1x128, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .bf16⟩
  | .hbm, ⟨73, _⟩ => ⟨S1x128, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Kernel6.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S512x2816 : Shape := ⟨2, ![512, 2816]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x5632, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x4x1408, .f32⟩
  | .hbm, ⟨7, _⟩ => ⟨S4x1024x1408, .f32⟩
  | .hbm, ⟨8, _⟩ => ⟨S4096x2816, .bf16⟩
  | .hbm, ⟨9, _⟩ => ⟨S4096x2816, .bf16⟩
  | .hbm, ⟨10, _⟩ => ⟨S4x1024x1408, .bf16⟩
  | .hbm, ⟨11, _⟩ => ⟨S4096x1024, .f32⟩
  | .hbm, ⟨12, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S4x1024x1408, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x5632, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel7.lean ====
abbrev S4096x512 : Shape := ⟨2, ![4096, 512]⟩
abbrev S4096x384 : Shape := ⟨2, ![4096, 384]⟩
abbrev S2304x1024 : Shape := ⟨2, ![2304, 1024]⟩
abbrev S4096x1024 : Shape := ⟨2, ![4096, 1024]⟩
abbrev S512x512 : Shape := ⟨2, ![512, 512]⟩
abbrev S512x384 : Shape := ⟨2, ![512, 384]⟩
abbrev S512x1024 : Shape := ⟨2, ![512, 1024]⟩
abbrev S384x1024 : Shape := ⟨2, ![384, 1024]⟩

abbrev nBuf : Space → Nat
  | .hbm => 8
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x384, .f32⟩
  | .hbm, ⟨4, _⟩ => ⟨S4096x384, .f32⟩
  | .hbm, ⟨5, _⟩ => ⟨S2304x1024, .f32⟩
  | .hbm, ⟨6, _⟩ => ⟨S2304x1024, .bf16⟩
  | .hbm, ⟨7, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S384x1024, .bf16⟩
  | .local _ .vmem, ⟨14, _⟩ => ⟨S384x1024, .bf16⟩
  | .local _ .vmem, ⟨15, _⟩ => ⟨S512x1024, .f32⟩
  | .local _ .vmem, ⟨16, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_8 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_9 (i : grid0.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S4096x512 : Shape := ⟨2, ![4096, 512]⟩
abbrev S4096x384 : Shape := ⟨2, ![4096, 384]⟩
abbrev S2304x1024 : Shape := ⟨2, ![2304, 1024]⟩
abbrev S4096x2304 : Shape := ⟨2, ![4096, 2304]⟩
abbrev S_ : Shape := ⟨0, ![]⟩
abbrev S4096x1024 : Shape := ⟨2, ![4096, 1024]⟩
abbrev S1024x2304 : Shape := ⟨2, ![1024, 2304]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x384, .f32⟩
  | .hbm, ⟨4, _⟩ => ⟨S4096x384, .f32⟩
  | .hbm, ⟨5, _⟩ => ⟨S2304x1024, .f32⟩
  | .hbm, ⟨6, _⟩ => ⟨S4096x2304, .f32⟩
  | .hbm, ⟨7, _⟩ => ⟨S_, .f32⟩
  | .hbm, ⟨8, _⟩ => ⟨S4096x1024, .f32⟩
  | .hbm, ⟨9, _⟩ => ⟨S1024x2304, .f32⟩
  | .hbm, ⟨10, _⟩ => ⟨S4096x2304, .f32⟩
  | .hbm, ⟨11, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Kernel8.lean ====
abbrev S4096x1024 : Shape := ⟨2, ![4096, 1024]⟩
abbrev S2304x1024 : Shape := ⟨2, ![2304, 1024]⟩
abbrev S4096x2304 : Shape := ⟨2, ![4096, 2304]⟩
abbrev S512x1024 : Shape := ⟨2, ![512, 1024]⟩
abbrev S1152x1024 : Shape := ⟨2, ![1152, 1024]⟩
abbrev S512x1152 : Shape := ⟨2, ![512, 1152]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2304x1024, .f32⟩
  | .hbm, ⟨2, _⟩ => ⟨S4096x1024, .bf16⟩
  | .hbm, ⟨3, _⟩ => ⟨S2304x1024, .bf16⟩
  | .hbm, ⟨4, _⟩ => ⟨S4096x2304, .f32⟩
  | .local _ .vmem, ⟨0, _⟩ => ⟨S512x1024, .bf16⟩
  | .local _ .vmem, ⟨1, _⟩ => ⟨S512x1024, .bf16⟩
  | .local _ .vmem, ⟨2, _⟩ => ⟨S1152x1024, .bf16⟩
  | .local _ .vmem, ⟨3, _⟩ => ⟨S1152x1024, .bf16⟩
  | .local _ .vmem, ⟨4, _⟩ => ⟨S512x1152, .f32⟩
  | .local _ .vmem, ⟨5, _⟩ => ⟨S512x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S2304x1024 : Shape := ⟨2, ![2304, 1024]⟩
abbrev S1024x2304 : Shape := ⟨2, ![1024, 2304]⟩
abbrev S4096x2304 : Shape := ⟨2, ![4096, 2304]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2304x1024, .f32⟩
  | .hbm, ⟨2, _⟩ => ⟨S1024x2304, .f32⟩
  | .hbm, ⟨3, _⟩ => ⟨S4096x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S4096x1024, .f32⟩
  | .hbm, ⟨6, _⟩ => ⟨S1x1024, .f32⟩
  | .hbm, ⟨7, _⟩ => ⟨S1024x1024, .bf16⟩
  | .hbm, ⟨8, _⟩ => ⟨S4096x1024, .bf16⟩
  | .hbm, ⟨9, _⟩ => ⟨S4096x1024, .f32⟩
  | .hbm, ⟨10, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S4096x1024, .f32⟩
  | .hbm, ⟨6, _⟩ => ⟨S1x1024, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S1024x1024, .bf16⟩
  | .hbm, ⟨7, _⟩ => ⟨S4096x512, .f32⟩
  | .hbm, ⟨8, _⟩ => ⟨S4096x512, .f32⟩
  | .hbm, ⟨9, _⟩ => ⟨S1x512, .f32⟩
  | .hbm, ⟨10, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference11Ideal.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x512, .f32⟩
  | .hbm, ⟨60, _⟩ => ⟨S4096x512, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x512, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x512, .f32⟩
  | .hbm, ⟨83, _⟩ => ⟨S4096x512, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x512, .f32⟩
  | .hbm, ⟨91, _⟩ => ⟨S4096x512, .f32⟩
  | .hbm, ⟨92, _⟩ => ⟨S4096x512, .f32⟩
  | .hbm, ⟨93, _⟩ => ⟨S4096x512, .f32⟩
  | .hbm, ⟨94, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference12Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel13.lean ====
abbrev S1024x1408 : Shape := ⟨2, ![1024, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S704x1024 : Shape := ⟨2, ![704, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S552x1024 : Shape := ⟨2, ![552, 1024]⟩
abbrev S184x1024 : Shape := ⟨2, ![184, 1024]⟩

abbrev nBuf : Space → Nat
  | .hbm => 8
  | .vmem => 16
  | .smem => 0
  | _ => 0

abbrev bufTy : (tb : Table) → Fin (tcTables nBuf tb) → BufTy
  | .hbm, ⟨0, _⟩ => ⟨S552x1024, .f32⟩
  | .hbm, ⟨1, _⟩ => ⟨S552x1024, .f32⟩
  | .hbm, ⟨2, _⟩ => ⟨S552x1024, .f32⟩
  | .hbm, ⟨3, _⟩ => ⟨S552x1024, .f32⟩
  | .hbm, ⟨4, _⟩ => ⟨S552x1024, .f32⟩
  | .hbm, ⟨5, _⟩ => ⟨S552x1024, .f32⟩
  | .hbm, ⟨6, _⟩ => ⟨S552x1024, .f32⟩
  | .hbm, ⟨7, _⟩ => ⟨S552x1024, .f32⟩
  | .local _ .vmem, ⟨0, _⟩ => ⟨S184x1024, .f32⟩
  | .local _ .vmem, ⟨1, _⟩ => ⟨S184x1024, .f32⟩
  | .local _ .vmem, ⟨2, _⟩ => ⟨S184x1024, .f32⟩
  | .local _ .vmem, ⟨3, _⟩ => ⟨S184x1024, .f32⟩
  | .local _ .vmem, ⟨4, _⟩ => ⟨S184x1024, .f32⟩
  | .local _ .vmem, ⟨5, _⟩ => ⟨S184x1024, .f32⟩
  | .local _ .vmem, ⟨6, _⟩ => ⟨S184x1024, .f32⟩
  | .local _ .vmem, ⟨7, _⟩ => ⟨S184x1024, .f32⟩
  | .local _ .vmem, ⟨8, _⟩ => ⟨S184x1024, .f32⟩
  | .local _ .vmem, ⟨9, _⟩ => ⟨S184x1024, .f32⟩
  | .local _ .vmem, ⟨10, _⟩ => ⟨S184x1024, .f32⟩
  | .local _ .vmem, ⟨11, _⟩ => ⟨S184x1024, .f32⟩
  | .local _ .vmem, ⟨12, _⟩ => ⟨S184x1024, .f32⟩
  | .local _ .vmem, ⟨13, _⟩ => ⟨S184x1024, .f32⟩
  | .local _ .vmem, ⟨14, _⟩ => ⟨S184x1024, .f32⟩
  | .local _ .vmem, ⟨15, _⟩ => ⟨S184x1024, .f32⟩
  | _, _ => ⟨S552x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S184x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S184x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S184x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S184x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S184x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S184x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S184x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S184x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S552x1024 : Shape := ⟨2, ![552, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S552x1024, .f32⟩
  | .hbm, ⟨1, _⟩ => ⟨S552x1024, .f32⟩
  | .hbm, ⟨2, _⟩ => ⟨S552x1024, .f32⟩
  | .hbm, ⟨3, _⟩ => ⟨S552x1024, .f32⟩
  | .hbm, ⟨4, _⟩ => ⟨S_, .f32⟩
  | .hbm, ⟨5, _⟩ => ⟨S552x1024, .f32⟩
  | .hbm, ⟨6, _⟩ => ⟨S552x1024, .f32⟩
  | .hbm, ⟨7, _⟩ => ⟨S_, .f32⟩
  | .hbm, ⟨8, _⟩ => ⟨S552x1024, .f32⟩
  | .hbm, ⟨9, _⟩ => ⟨S552x1024, .f32⟩
  | .hbm, ⟨10, _⟩ => ⟨S552x1024, .f32⟩
  | .hbm, ⟨11, _⟩ => ⟨S_, .f32⟩
  | .hbm, ⟨12, _⟩ => ⟨S552x1024, .f32⟩
  | .hbm, ⟨13, _⟩ => ⟨S552x1024, .f32⟩
  | .hbm, ⟨14, _⟩ => ⟨S552x1024, .f32⟩
  | .hbm, ⟨15, _⟩ => ⟨S_, .f32⟩
  | .hbm, ⟨16, _⟩ => ⟨S552x1024, .f32⟩
  | .hbm, ⟨17, _⟩ => ⟨S552x1024, .f32⟩
  | .hbm, ⟨18, _⟩ => ⟨S552x1024, .f32⟩
  | .hbm, ⟨19, _⟩ => ⟨S_, .f32⟩
  | .hbm, ⟨20, _⟩ => ⟨S552x1024, .f32⟩
  | .hbm, ⟨21, _⟩ => ⟨S552x1024, .f32⟩
  | .hbm, ⟨22, _⟩ => ⟨S_, .f32⟩
  | .hbm, ⟨23, _⟩ => ⟨S552x1024, .f32⟩
  | .hbm, ⟨24, _⟩ => ⟨S552x1024, .f32⟩
  | .hbm, ⟨25, _⟩ => ⟨S552x1024, .f32⟩
  | .hbm, ⟨26, _⟩ => ⟨S_, .f32⟩
  | .hbm, ⟨27, _⟩ => ⟨S552x1024, .f32⟩
  | .hbm, ⟨28, _⟩ => ⟨S552x1024, .f32⟩
  | .hbm, ⟨29, _⟩ => ⟨S552x1024, .f32⟩
  | .hbm, ⟨30, _⟩ => ⟨S_, .f32⟩
  | .hbm, ⟨31, _⟩ => ⟨S552x1024, .f32⟩
  | .hbm, ⟨32, _⟩ => ⟨S552x1024, .f32⟩
  | .hbm, ⟨33, _⟩ => ⟨S552x1024, .f32⟩
  | .hbm, ⟨34, _⟩ => ⟨S_, .f32⟩
  | .hbm, ⟨35, _⟩ => ⟨S552x1024, .f32⟩
  | .hbm, ⟨36, _⟩ => ⟨S552x1024, .f32⟩
  | _, _ => ⟨S552x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S384x192 : Shape := ⟨2, ![384, 192]⟩
abbrev S192x192 : Shape := ⟨2, ![192, 192]⟩

abbrev nBuf : Space → Nat
  | .hbm => 8
  | .vmem => 16
  | .smem => 0
  | _ => 0

abbrev bufTy : (tb : Table) → Fin (tcTables nBuf tb) → BufTy
  | .hbm, ⟨0, _⟩ => ⟨S384x192, .f32⟩
  | .hbm, ⟨1, _⟩ => ⟨S384x192, .f32⟩
  | .hbm, ⟨2, _⟩ => ⟨S384x192, .f32⟩
  | .hbm, ⟨3, _⟩ => ⟨S384x192, .f32⟩
  | .hbm, ⟨4, _⟩ => ⟨S384x192, .f32⟩
  | .hbm, ⟨5, _⟩ => ⟨S384x192, .f32⟩
  | .hbm, ⟨6, _⟩ => ⟨S384x192, .f32⟩
  | .hbm, ⟨7, _⟩ => ⟨S384x192, .f32⟩
  | .local _ .vmem, ⟨0, _⟩ => ⟨S192x192, .f32⟩
  | .local _ .vmem, ⟨1, _⟩ => ⟨S192x192, .f32⟩
  | .local _ .vmem, ⟨2, _⟩ => ⟨S192x192, .f32⟩
  | .local _ .vmem, ⟨3, _⟩ => ⟨S192x192, .f32⟩
  | .local _ .vmem, ⟨4, _⟩ => ⟨S192x192, .f32⟩
  | .local _ .vmem, ⟨5, _⟩ => ⟨S192x192, .f32⟩
  | .local _ .vmem, ⟨6, _⟩ => ⟨S192x192, .f32⟩
  | .local _ .vmem, ⟨7, _⟩ => ⟨S192x192, .f32⟩
  | .local _ .vmem, ⟨8, _⟩ => ⟨S192x192, .f32⟩
  | .local _ .vmem, ⟨9, _⟩ => ⟨S192x192, .f32⟩
  | .local _ .vmem, ⟨10, _⟩ => ⟨S192x192, .f32⟩
  | .local _ .vmem, ⟨11, _⟩ => ⟨S192x192, .f32⟩
  | .local _ .vmem, ⟨12, _⟩ => ⟨S192x192, .f32⟩
  | .local _ .vmem, ⟨13, _⟩ => ⟨S192x192, .f32⟩
  | .local _ .vmem, ⟨14, _⟩ => ⟨S192x192, .f32⟩
  | .local _ .vmem, ⟨15, _⟩ => ⟨S192x192, .f32⟩
  | _, _ => ⟨S384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S384x192 : Shape := ⟨2, ![384, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x192, .f32⟩
  | .hbm, ⟨1, _⟩ => ⟨S384x192, .f32⟩
  | .hbm, ⟨2, _⟩ => ⟨S384x192, .f32⟩
  | .hbm, ⟨3, _⟩ => ⟨S384x192, .f32⟩
  | .hbm, ⟨4, _⟩ => ⟨S_, .f32⟩
  | .hbm, ⟨5, _⟩ => ⟨S384x192, .f32⟩
  | .hbm, ⟨6, _⟩ => ⟨S384x192, .f32⟩
  | .hbm, ⟨7, _⟩ => ⟨S_, .f32⟩
  | .hbm, ⟨8, _⟩ => ⟨S384x192, .f32⟩
  | .hbm, ⟨9, _⟩ => ⟨S384x192, .f32⟩
  | .hbm, ⟨10, _⟩ => ⟨S384x192, .f32⟩
  | .hbm, ⟨11, _⟩ => ⟨S_, .f32⟩
  | .hbm, ⟨12, _⟩ => ⟨S384x192, .f32⟩
  | .hbm, ⟨13, _⟩ => ⟨S384x192, .f32⟩
  | .hbm, ⟨14, _⟩ => ⟨S384x192, .f32⟩
  | .hbm, ⟨15, _⟩ => ⟨S_, .f32⟩
  | .hbm, ⟨16, _⟩ => ⟨S384x192, .f32⟩
  | .hbm, ⟨17, _⟩ => ⟨S384x192, .f32⟩
  | .hbm, ⟨18, _⟩ => ⟨S384x192, .f32⟩
  | .hbm, ⟨19, _⟩ => ⟨S_, .f32⟩
  | .hbm, ⟨20, _⟩ => ⟨S384x192, .f32⟩
  | .hbm, ⟨21, _⟩ => ⟨S384x192, .f32⟩
  | .hbm, ⟨22, _⟩ => ⟨S_, .f32⟩
  | .hbm, ⟨23, _⟩ => ⟨S384x192, .f32⟩
  | .hbm, ⟨24, _⟩ => ⟨S384x192, .f32⟩
  | .hbm, ⟨25, _⟩ => ⟨S384x192, .f32⟩
  | .hbm, ⟨26, _⟩ => ⟨S_, .f32⟩
  | .hbm, ⟨27, _⟩ => ⟨S384x192, .f32⟩
  | .hbm, ⟨28, _⟩ => ⟨S384x192, .f32⟩
  | .hbm, ⟨29, _⟩ => ⟨S384x192, .f32⟩
  | .hbm, ⟨30, _⟩ => ⟨S_, .f32⟩
  | .hbm, ⟨31, _⟩ => ⟨S384x192, .f32⟩
  | .hbm, ⟨32, _⟩ => ⟨S384x192, .f32⟩
  | .hbm, ⟨33, _⟩ => ⟨S384x192, .f32⟩
  | .hbm, ⟨34, _⟩ => ⟨S_, .f32⟩
  | .hbm, ⟨35, _⟩ => ⟨S384x192, .f32⟩
  | .hbm, ⟨36, _⟩ => ⟨S384x192, .f32⟩
  | _, _ => ⟨S384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S3x1408 : Shape := ⟨2, ![3, 1408]⟩

abbrev nBuf : Space → Nat
  | .hbm => 8
  | .vmem => 8
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .hbm, ⟨7, _⟩ => ⟨S3x1408, .f32⟩
  | .local _ .vmem, ⟨0, _⟩ => ⟨S3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S3x1408 : Shape := ⟨2, ![3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S_, .f32⟩
  | .hbm, ⟨5, _⟩ => ⟨S3x1408, .f32⟩
  | .hbm, ⟨6, _⟩ => ⟨S3x1408, .f32⟩
  | .hbm, ⟨7, _⟩ => ⟨S_, .f32⟩
  | .hbm, ⟨8, _⟩ => ⟨S3x1408, .f32⟩
  | .hbm, ⟨9, _⟩ => ⟨S3x1408, .f32⟩
  | .hbm, ⟨10, _⟩ => ⟨S3x1408, .f32⟩
  | .hbm, ⟨11, _⟩ => ⟨S_, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S_, .f32⟩
  | .hbm, ⟨16, _⟩ => ⟨S3x1408, .f32⟩
  | .hbm, ⟨17, _⟩ => ⟨S3x1408, .f32⟩
  | .hbm, ⟨18, _⟩ => ⟨S3x1408, .f32⟩
  | .hbm, ⟨19, _⟩ => ⟨S_, .f32⟩
  | .hbm, ⟨20, _⟩ => ⟨S3x1408, .f32⟩
  | .hbm, ⟨21, _⟩ => ⟨S3x1408, .f32⟩
  | .hbm, ⟨22, _⟩ => ⟨S_, .f32⟩
  | .hbm, ⟨23, _⟩ => ⟨S3x1408, .f32⟩
  | .hbm, ⟨24, _⟩ => ⟨S3x1408, .f32⟩
  | .hbm, ⟨25, _⟩ => ⟨S3x1408, .f32⟩
  | .hbm, ⟨26, _⟩ => ⟨S_, .f32⟩
  | .hbm, ⟨27, _⟩ => ⟨S3x1408, .f32⟩
  | .hbm, ⟨28, _⟩ => ⟨S3x1408, .f32⟩
  | .hbm, ⟨29, _⟩ => ⟨S3x1408, .f32⟩
  | .hbm, ⟨30, _⟩ => ⟨S_, .f32⟩
  | .hbm, ⟨31, _⟩ => ⟨S3x1408, .f32⟩
  | .hbm, ⟨32, _⟩ => ⟨S3x1408, .f32⟩
  | .hbm, ⟨33, _⟩ => ⟨S3x1408, .f32⟩
  | .hbm, ⟨34, _⟩ => ⟨S_, .f32⟩
  | .hbm, ⟨35, _⟩ => ⟨S3x1408, .f32⟩
  | .hbm, ⟨36, _⟩ => ⟨S3x1408, .f32⟩
  | _, _ => ⟨S3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S216x128 : Shape := ⟨2, ![216, 128]⟩

abbrev nBuf : Space → Nat
  | .hbm => 8
  | .vmem => 8
  | .smem => 0
  | _ => 0

abbrev bufTy : (tb : Table) → Fin (tcTables nBuf tb) → BufTy
  | .hbm, ⟨0, _⟩ => ⟨S216x128, .f32⟩
  | .hbm, ⟨1, _⟩ => ⟨S216x128, .f32⟩
  | .hbm, ⟨2, _⟩ => ⟨S216x128, .f32⟩
  | .hbm, ⟨3, _⟩ => ⟨S216x128, .f32⟩
  | .hbm, ⟨4, _⟩ => ⟨S216x128, .f32⟩
  | .hbm, ⟨5, _⟩ => ⟨S216x128, .f32⟩
  | .hbm, ⟨6, _⟩ => ⟨S216x128, .f32⟩
  | .hbm, ⟨7, _⟩ => ⟨S216x128, .f32⟩
  | .local _ .vmem, ⟨0, _⟩ => ⟨S216x128, .f32⟩
  | .local _ .vmem, ⟨1, _⟩ => ⟨S216x128, .f32⟩
  | .local _ .vmem, ⟨2, _⟩ => ⟨S216x128, .f32⟩
  | .local _ .vmem, ⟨3, _⟩ => ⟨S216x128, .f32⟩
  | .local _ .vmem, ⟨4, _⟩ => ⟨S216x128, .f32⟩
  | .local _ .vmem, ⟨5, _⟩ => ⟨S216x128, .f32⟩
  | .local _ .vmem, ⟨6, _⟩ => ⟨S216x128, .f32⟩
  | .local _ .vmem, ⟨7, _⟩ => ⟨S216x128, .f32⟩
  | _, _ => ⟨S216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S216x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S216x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S216x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S216x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S216x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S216x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S216x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S216x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S216x128 : Shape := ⟨2, ![216, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S216x128, .f32⟩
  | .hbm, ⟨1, _⟩ => ⟨S216x128, .f32⟩
  | .hbm, ⟨2, _⟩ => ⟨S216x128, .f32⟩
  | .hbm, ⟨3, _⟩ => ⟨S216x128, .f32⟩
  | .hbm, ⟨4, _⟩ => ⟨S_, .f32⟩
  | .hbm, ⟨5, _⟩ => ⟨S216x128, .f32⟩
  | .hbm, ⟨6, _⟩ => ⟨S216x128, .f32⟩
  | .hbm, ⟨7, _⟩ => ⟨S_, .f32⟩
  | .hbm, ⟨8, _⟩ => ⟨S216x128, .f32⟩
  | .hbm, ⟨9, _⟩ => ⟨S216x128, .f32⟩
  | .hbm, ⟨10, _⟩ => ⟨S216x128, .f32⟩
  | .hbm, ⟨11, _⟩ => ⟨S_, .f32⟩
  | .hbm, ⟨12, _⟩ => ⟨S216x128, .f32⟩
  | .hbm, ⟨13, _⟩ => ⟨S216x128, .f32⟩
  | .hbm, ⟨14, _⟩ => ⟨S216x128, .f32⟩
  | .hbm, ⟨15, _⟩ => ⟨S_, .f32⟩
  | .hbm, ⟨16, _⟩ => ⟨S216x128, .f32⟩
  | .hbm, ⟨17, _⟩ => ⟨S216x128, .f32⟩
  | .hbm, ⟨18, _⟩ => ⟨S216x128, .f32⟩
  | .hbm, ⟨19, _⟩ => ⟨S_, .f32⟩
  | .hbm, ⟨20, _⟩ => ⟨S216x128, .f32⟩
  | .hbm, ⟨21, _⟩ => ⟨S216x128, .f32⟩
  | .hbm, ⟨22, _⟩ => ⟨S_, .f32⟩
  | .hbm, ⟨23, _⟩ => ⟨S216x128, .f32⟩
  | .hbm, ⟨24, _⟩ => ⟨S216x128, .f32⟩
  | .hbm, ⟨25, _⟩ => ⟨S216x128, .f32⟩
  | .hbm, ⟨26, _⟩ => ⟨S_, .f32⟩
  | .hbm, ⟨27, _⟩ => ⟨S216x128, .f32⟩
  | .hbm, ⟨28, _⟩ => ⟨S216x128, .f32⟩
  | .hbm, ⟨29, _⟩ => ⟨S216x128, .f32⟩
  | .hbm, ⟨30, _⟩ => ⟨S_, .f32⟩
  | .hbm, ⟨31, _⟩ => ⟨S216x128, .f32⟩
  | .hbm, ⟨32, _⟩ => ⟨S216x128, .f32⟩
  | .hbm, ⟨33, _⟩ => ⟨S216x128, .f32⟩
  | .hbm, ⟨34, _⟩ => ⟨S_, .f32⟩
  | .hbm, ⟨35, _⟩ => ⟨S216x128, .f32⟩
  | .hbm, ⟨36, _⟩ => ⟨S216x128, .f32⟩
  | _, _ => ⟨S216x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Pay.lean ====
/- What the backward call's body computes from its blocks, read at an index: the gradient behind the gate, the rows shifted
   up over the rows carried from the tile that follows, the gradient of the up projection's result, and the partial sums. -/
module

public import proofs.«01_k».proof.Proof.Gen.KernelIdeal.Skeleton
public import Idealize.ShloMosaic.Lib.Pointwise

@[expose] public section

set_option maxRecDepth 16384

noncomputable section

namespace Cert.KernelIdeal.Pay

open Cert.KernelIdeal Cert.KernelIdeal.Gen Idealize.ShloMosaic Idealize.ShloMosaic.TcCoe Idealize.SL.Sem

/-- A tile's rows moved up by `n`, the rows past its end taken from the eight rows that follow it. -/
def up (n : ℕ) (hn : n < 8) (d : Fin 256 → Fin 1408 → EReal) (nx : Fin 8 → Fin 1408 → EReal) (r : Fin 256) (c : Fin 1408) : EReal :=
  if h : (r : ℕ) + n < 256 then d ⟨r + n, h⟩ c else nx ⟨r + n - 256, by omega⟩ c

/-- The value branch's gradient behind the gate: the product's row times the coefficient. -/
theorem pay10_at (x : Vec Ideal S256x1024 .bf16) (w : Vec Ideal S1408x1024 .bf16) (g : Vec Ideal S256x1408 .bf16) (r : Fin 256) (c : Fin 1408) :
    k0_pay10 (F := Ideal) x w g (ix2 r c) = (∑ k : Fin 1024, (x (ix2 r k) : EReal) * w (ix2 c k)) * g (ix2 r c) := by
  pointwise [k0_pay10, k0_pay9]

/-- The gate branch's gradient. -/
theorem pay11_at (x : Vec Ideal S256x1024 .bf16) (w : Vec Ideal S1408x1024 .bf16) (g : Vec Ideal S256x1408 .bf16) (r : Fin 256) (c : Fin 1408) :
    k0_pay11 (F := Ideal) x w g (ix2 r c) = (∑ k : Fin 1024, (x (ix2 r k) : EReal) * w (ix2 c k)) * g (ix2 r c) := by
  pointwise [k0_pay11, k0_pay9]

theorem pay14_at (d : FVec Ideal S256x1408 .f32) (nx : Vec Ideal S8x1408 .f32) (r : Fin 256) (c : Fin 1408) :
    k0_pay14 (F := Ideal) d nx (ix2 r c) = up 1 (by decide) (fun r c => d (ix2 r c)) (fun r c => nx (ix2 r c)) r c := by
  pointwise [k0_pay14, up]
  by_cases h : (r : ℕ) + 1 < 256
  · rw [dif_pos h]
    split_ifs with h1 h2 <;> first
      | exact congrArg (fun k => d (ix2 k c)) (Fin.ext (by dsimp only; omega))
      | exact absurd h (by omega)
  · rw [dif_neg h, dif_neg (by omega), dif_neg (by omega)]
    exact congrArg (fun k => nx (ix2 k c)) (Fin.ext (by dsimp only; omega))

theorem pay15_at (d : FVec Ideal S256x1408 .f32) (nx : Vec Ideal S8x1408 .f32) (r : Fin 256) (c : Fin 1408) :
    k0_pay15 (F := Ideal) d nx (ix2 r c) = up 2 (by decide) (fun r c => d (ix2 r c)) (fun r c => nx (ix2 r c)) r c := by
  pointwise [k0_pay15, up]
  by_cases h : (r : ℕ) + 2 < 256
  · rw [dif_pos h]
    split_ifs with h1 h2 <;> first
      | exact congrArg (fun k => d (ix2 k c)) (Fin.ext (by dsimp only; omega))
      | exact absurd h (by omega)
  · rw [dif_neg h, dif_neg (by omega), dif_neg (by omega)]
    exact congrArg (fun k => nx (ix2 k c)) (Fin.ext (by dsimp only; omega))

/-- The gradient of a tile's up projection: the third tap at the row itself, the second at the row after, the first two rows after. -/
def du (d : Fin 256 → Fin 1408 → EReal) (nx : Fin 8 → Fin 1408 → EReal) (w : Fin 3 → Fin 1408 → EReal) (r : Fin 256) (c : Fin 1408) : EReal :=
  w 2 c * d r c + w 1 c * up 1 (by decide) d nx r c + w 0 c * up 2 (by decide) d nx r c

theorem pay25_at (d : FVec Ideal S256x1408 .f32) (nx : Vec Ideal S8x1408 .f32) (r : Fin 256) (c : Fin 1408) :
    k0_pay25 (F := Ideal) d nx (ix2 r c) = up 1 (by decide) (fun r c => d (ix2 r c)) (fun r c => nx (ix2 r c)) r c :=
  pay14_at d nx r c

theorem pay26_at (d : FVec Ideal S256x1408 .f32) (nx : Vec Ideal S8x1408 .f32) (r : Fin 256) (c : Fin 1408) :
    k0_pay26 (F := Ideal) d nx (ix2 r c) = up 2 (by decide) (fun r c => d (ix2 r c)) (fun r c => nx (ix2 r c)) r c :=
  pay15_at d nx r c

theorem pay16_at (d : FVec Ideal S256x1408 .f32) (w : Vec Ideal S3x1408 .f32) (nx : Vec Ideal S8x1408 .f32) (r : Fin 256) (c : Fin 1408) :
    k0_pay16 (F := Ideal) d (View.ld w (Rect.unit ![0, 0] ![1, 1408] inb_S3x1408_S1x1408_0_0)) (View.ld w (Rect.unit ![1, 0] ![1, 1408] inb_S3x1408_S1x1408_1_0)) (View.ld w (Rect.unit ![2, 0] ![1, 1408] inb_S3x1408_S1x1408_2_0)) nx (ix2 r c) = du (fun r c => d (ix2 r c)) (fun r c => nx (ix2 r c)) (fun k c => w (ix2 k c)) r c := by
  pointwise [k0_pay16]
  rw [pay14_at, pay15_at]
  rfl

theorem pay27_at (d : FVec Ideal S256x1408 .f32) (w : Vec Ideal S3x1408 .f32) (nx : Vec Ideal S8x1408 .f32) (r : Fin 256) (c : Fin 1408) :
    k0_pay27 (F := Ideal) d (View.ld w (Rect.unit ![0, 0] ![1, 1408] inb_S3x1408_S1x1408_0_0)) (View.ld w (Rect.unit ![1, 0] ![1, 1408] inb_S3x1408_S1x1408_1_0)) (View.ld w (Rect.unit ![2, 0] ![1, 1408] inb_S3x1408_S1x1408_2_0)) nx (ix2 r c) = du (fun r c => d (ix2 r c)) (fun r c => nx (ix2 r c)) (fun k c => w (ix2 k c)) r c := by
  pointwise [k0_pay27]
  rw [pay25_at, pay26_at]
  rfl

theorem pay18_at (a : Vec Ideal S256x1024 .bf16) (u : FVec Ideal S256x1408 .bf16) (acc : Vec Ideal S1x1x1024x1408 .f32) (k : Fin 1024) (c : Fin 1408) :
    k0_pay18 (F := Ideal) (k0_pay12 (F := Ideal) a) u (k0_pay17 (F := Ideal) acc) (ix4 0 0 k c) = (acc (ix4 0 0 k c) : EReal) + ∑ r : Fin 256, (a (ix2 r k) : EReal) * u (ix2 r c) := by
  pointwise [k0_pay18, k0_pay17, k0_pay12]

theorem pay29_at (d : FVec Ideal S256x1408 .f32) (a : Vec Ideal S256x1024 .bf16) (w : Vec Ideal S3x1408 .f32) (nx : Vec Ideal S8x1408 .f32) (acc : Vec Ideal S1x1x1024x1408 .f32) (k : Fin 1024) (c : Fin 1408) :
    k0_pay29 (F := Ideal) (k0_pay28 (F := Ideal) d (k0_pay12 (F := Ideal) a) (View.ld w (Rect.unit ![0, 0] ![1, 1408] inb_S3x1408_S1x1408_0_0)) (View.ld w (Rect.unit ![1, 0] ![1, 1408] inb_S3x1408_S1x1408_1_0)) (View.ld w (Rect.unit ![2, 0] ![1, 1408] inb_S3x1408_S1x1408_2_0)) nx acc) (ix4 0 0 k c)
      = (acc (ix4 0 0 k c) : EReal) + ∑ r : Fin 256, (a (ix2 r k) : EReal) * du (fun r c => d (ix2 r c)) (fun r c => nx (ix2 r c)) (fun k c => w (ix2 k c)) r c := by
  pointwise [k0_pay29, k0_pay28, k0_pay12]
  refine congrArg _ (Finset.sum_congr rfl fun r _ => congrArg _ ?_)
  exact pay27_at d w nx r c

theorem pay19_at (d : FVec Ideal S256x1408 .f32) (acc : Vec Ideal S1x1408 .f32) (c : Fin 1408) :
    k0_pay19 (F := Ideal) d acc (ix2 0 c) = (acc (ix2 0 c) : EReal) + ∑ r : Fin 256, (d (ix2 r c) : EReal) := by
  pointwise [k0_pay19]

theorem pay30_at (d : FVec Ideal S256x1408 .f32) (acc : Vec Ideal S1x1408 .f32) (c : Fin 1408) :
    k0_pay30 (F := Ideal) d acc (ix2 0 c) = (acc (ix2 0 c) : EReal) + ∑ r : Fin 256, (d (ix2 r c) : EReal) := by
  pointwise [k0_pay30]

theorem pay20_at (u : Vec Ideal S256x1408 .f32) (e : FVec Ideal S256x1408 .f32) (acc : Vec Ideal S1x1408 .f32) (c : Fin 1408) :
    k0_pay20 (F := Ideal) (k0_pay13 (F := Ideal) u) e acc (ix2 0 c) = (acc (ix2 0 c) : EReal) + ∑ r : Fin 256, (e (ix2 r c) : EReal) * u (ix2 r c) := by
  pointwise [k0_pay20, k0_pay13]

theorem pay21_at (u : Vec Ideal S256x1408 .f32) (e : FVec Ideal S256x1408 .f32) (acc : Vec Ideal S1x1408 .f32) (c : Fin 1408) :
    k0_pay21 (F := Ideal) (k0_pay13 (F := Ideal) u) e acc (ix2 0 c) = (acc (ix2 0 c) : EReal) + ∑ r : Fin 256, (e (ix2 r c) : EReal) * u (ix2 r c) := by
  pointwise [k0_pay21, k0_pay13]

theorem pay31_at (u : Vec Ideal S256x1408 .f32) (e : FVec Ideal S256x1408 .f32) (acc : Vec Ideal S1x1408 .f32) (c : Fin 1408) :
    k0_pay31 (F := Ideal) (k0_pay24 (F := Ideal) u) e acc (ix2 0 c) = (acc (ix2 0 c) : EReal) + ∑ r : Fin 256, (e (ix2 r c) : EReal) * u (ix2 r c) := by
  pointwise [k0_pay31, k0_pay24]

theorem pay32_at (u : Vec Ideal S256x1408 .f32) (e : FVec Ideal S256x1408 .f32) (acc : Vec Ideal S1x1408 .f32) (c : Fin 1408) :
    k0_pay32 (F := Ideal) (k0_pay24 (F := Ideal) u) e acc (ix2 0 c) = (acc (ix2 0 c) : EReal) + ∑ r : Fin 256, (e (ix2 r c) : EReal) * u (ix2 r c) := by
  pointwise [k0_pay32, k0_pay24]

theorem pay22_at (u : Vec Ideal S256x1408 .f32) (d : FVec Ideal S256x1408 .f32) (acc : Vec Ideal S1x1408 .f32) (c : Fin 1408) :
    k0_pay22 (F := Ideal) d (k0_pay13 (F := Ideal) u) acc (ix2 0 c) = (acc (ix2 0 c) : EReal) + ∑ r : Fin 256, (d (ix2 r c) : EReal) * u (ix2 r c) := by
  pointwise [k0_pay22, k0_pay13]

theorem pay33_at (u : Vec Ideal S256x1408 .f32) (d : FVec Ideal S256x1408 .f32) (acc : Vec Ideal S1x1408 .f32) (c : Fin 1408) :
    k0_pay33 (F := Ideal) d (k0_pay24 (F := Ideal) u) acc (ix2 0 c) = (acc (ix2 0 c) : EReal) + ∑ r : Fin 256, (d (ix2 r c) : EReal) * u (ix2 r c) := by
  pointwise [k0_pay33, k0_pay24]

theorem pay23_at (d : FVec Ideal S256x1408 .f32) (r : Fin 8) (c : Fin 1408) :
    k0_pay23 (F := Ideal) d (ix2 r c) = d (ix2 ⟨r, by omega⟩ c) := by
  pointwise [k0_pay23]

theorem pay34_at (d : FVec Ideal S256x1408 .f32) (r : Fin 8) (c : Fin 1408) :
    k0_pay1 (F := Ideal) (k0_pay34 (F := Ideal) d) (ix2 r c) = d (ix2 ⟨r, by omega⟩ c) := by
  pointwise [k0_pay1, k0_pay34]

/-- The fills are zeros. -/
theorem fill2 : k0_pay2 (F := Ideal) = fun _ => (0 : EReal) := by funext i; pointwise [k0_pay2]
theorem fill3 : k0_pay3 (F := Ideal) = fun _ => (0 : EReal) := by funext i; pointwise [k0_pay3]
theorem fill4 : k0_pay4 (F := Ideal) = fun _ => (0 : EReal) := by funext i; pointwise [k0_pay4]
theorem fill5 : k0_pay5 (F := Ideal) = fun _ => (0 : EReal) := by funext i; pointwise [k0_pay5]
theorem fill6 : k0_pay6 (F := Ideal) = fun _ => (0 : EReal) := by funext i; pointwise [k0_pay6]
theorem fill7 : k0_pay7 (F := Ideal) = fun _ => (0 : EReal) := by funext i; pointwise [k0_pay7]
theorem fill8 : k0_pay8 (F := Ideal) = fun _ => (0 : EReal) := by funext i; pointwise [k0_pay8]

end Cert.KernelIdeal.Pay

end
-- ==== Proof.Canon.lean ====
module
public import proofs.«01_k».proof.Proof.Pay
public import Idealize.ShloMosaic.Lib.Pointwise
public import Idealize.ShloMosaic.Lib.Pipeline.ValueKit
public import Idealize.ShloMosaic.Lib.Pipeline.ReadBack
@[expose] public section
set_option maxRecDepth 16384
noncomputable section

/-! Reading the staged blocks of three rows (the taps) and of two slabs (the product), each written a row or a slab at a time. -/

namespace Cert.KernelIdeal.Canon
open Cert.KernelIdeal Cert.KernelIdeal.Gen Idealize.ShloMosaic Idealize.ShloMosaic.TcCoe Idealize.SL.Sem

theorem row_emb (k : Fin 3) (inb : ∀ a, (![k.val, 0] : Fin 2 → ℕ) a + (![1, 1408] : Fin 2 → ℕ) a ≤ S3x1408.size a) (c : Fin 1408) :
    (Rect.unit (s := S3x1408) ![k.val, 0] ![1, 1408] inb).emb (ix2 0 c) = ix2 k c := by
  idx_ext

theorem row_hit (k : Fin 3) (inb : ∀ a, (![k.val, 0] : Fin 2 → ℕ) a + (![1, 1408] : Fin 2 → ℕ) a ≤ S3x1408.size a)
    (w : Vec Ideal S1x1408 .f32) (L : List (View.Piece (Elt Ideal) S3x1408 .f32)) (c : Fin 1408) :
    View.canon (⟨Rect.unit ![k.val, 0] ![1, 1408] inb, w⟩ :: L) (ix2 k c) = w (ix2 0 c) := by
  have h := View.canon_cons_emb (Rect.unit (s := S3x1408) ![k.val, 0] ![1, 1408] inb) w L (ix2 0 c)
  rw [row_emb] at h
  exact h

theorem row_miss (k j : Fin 3) (hj : j ≠ k) (inb : ∀ a, (![k.val, 0] : Fin 2 → ℕ) a + (![1, 1408] : Fin 2 → ℕ) a ≤ S3x1408.size a)
    (w : Vec Ideal S1x1408 .f32) (L : List (View.Piece (Elt Ideal) S3x1408 .f32)) (c : Fin 1408) :
    View.canon (⟨Rect.unit ![k.val, 0] ![1, 1408] inb, w⟩ :: L) (ix2 j c) = View.canon L (ix2 j c) := by
  refine View.canon_cons_of_not_mem _ L fun hm => hj ?_
  have h := (Rect.mem_set_unit (inb := inb).mp hm) 0
  have h1 : k.val ≤ j.val := h.1
  have h2 : j.val < k.val + 1 := h.2
  exact Fin.ext (by omega)

theorem row_fill (inb : ∀ a, (![0, 0] : Fin 2 → ℕ) a + (![3, 1408] : Fin 2 → ℕ) a ≤ S3x1408.size a)
    (w : Vec Ideal S3x1408 .f32) (L : List (View.Piece (Elt Ideal) S3x1408 .f32)) (j : Fin 3) (c : Fin 1408) :
    View.canon (⟨Rect.unit ![0, 0] ![3, 1408] inb, w⟩ :: L) (ix2 j c) = w (ix2 j c) := by
  have h := View.canon_cons_emb (Rect.unit (s := S3x1408) ![0, 0] ![3, 1408] inb) w L (ix2 j c)
  have e : (Rect.unit (s := S3x1408) ![0, 0] ![3, 1408] inb).emb (ix2 j c) = ix2 j c := by idx_ext
  rw [e] at h
  exact h

theorem row_load {sig : RefSig} {κ : Kind} {sp : Space} (v : View sig κ sp S3x1408 .f32) (k : Fin 3)
    (inb : ∀ a, (![k.val, 0] : Fin 2 → ℕ) a + (![1, 1408] : Fin 2 → ℕ) a ≤ S3x1408.size a)
    (L : List (View.Piece (Elt Ideal) S3x1408 .f32)) (c : Fin 1408) :
    v.readCov L (Rect.unit (s := S3x1408) ![k.val, 0] ![1, 1408] inb).toLoadRect (ix2 0 c) = View.canon L (ix2 k c) := by
  rw [View.readCov_eq_canon']
  refine congrArg (View.canon L) ?_
  idx_ext

theorem slab_emb (k : Fin 2) (inb : ∀ a, (![k.val, 0, 0, 0] : Fin 4 → ℕ) a + (![1, 1, 1024, 1408] : Fin 4 → ℕ) a ≤ S2x1x1024x1408.size a)
    (r : Fin 1024) (c : Fin 1408) :
    (Rect.unit (s := S2x1x1024x1408) ![k.val, 0, 0, 0] ![1, 1, 1024, 1408] inb).emb (ix4 0 0 r c) = ix4 k 0 r c := by
  idx_ext

theorem slab_hit (k : Fin 2) (inb : ∀ a, (![k.val, 0, 0, 0] : Fin 4 → ℕ) a + (![1, 1, 1024, 1408] : Fin 4 → ℕ) a ≤ S2x1x1024x1408.size a)
    (w : Vec Ideal S1x1x1024x1408 .f32) (L : List (View.Piece (Elt Ideal) S2x1x1024x1408 .f32)) (r : Fin 1024) (c : Fin 1408) :
    View.canon (⟨Rect.unit ![k.val, 0, 0, 0] ![1, 1, 1024, 1408] inb, w⟩ :: L) (ix4 k 0 r c) = w (ix4 0 0 r c) := by
  have h := View.canon_cons_emb (Rect.unit (s := S2x1x1024x1408) ![k.val, 0, 0, 0] ![1, 1, 1024, 1408] inb) w L (ix4 0 0 r c)
  rw [slab_emb] at h
  exact h

theorem slab_miss (k j : Fin 2) (hj : j ≠ k) (inb : ∀ a, (![k.val, 0, 0, 0] : Fin 4 → ℕ) a + (![1, 1, 1024, 1408] : Fin 4 → ℕ) a ≤ S2x1x1024x1408.size a)
    (w : Vec Ideal S1x1x1024x1408 .f32) (L : List (View.Piece (Elt Ideal) S2x1x1024x1408 .f32)) (r : Fin 1024) (c : Fin 1408) :
    View.canon (⟨Rect.unit ![k.val, 0, 0, 0] ![1, 1, 1024, 1408] inb, w⟩ :: L) (ix4 j 0 r c) = View.canon L (ix4 j 0 r c) := by
  refine View.canon_cons_of_not_mem _ L fun hm => hj ?_
  have h := (Rect.mem_set_unit (inb := inb).mp hm) 0
  have h1 : k.val ≤ j.val := h.1
  have h2 : j.val < k.val + 1 := h.2
  exact Fin.ext (by omega)

theorem slab_fill (inb : ∀ a, (![0, 0, 0, 0] : Fin 4 → ℕ) a + (![2, 1, 1024, 1408] : Fin 4 → ℕ) a ≤ S2x1x1024x1408.size a)
    (w : Vec Ideal S2x1x1024x1408 .f32) (L : List (View.Piece (Elt Ideal) S2x1x1024x1408 .f32)) (j : Fin 2) (r : Fin 1024) (c : Fin 1408) :
    View.canon (⟨Rect.unit ![0, 0, 0, 0] ![2, 1, 1024, 1408] inb, w⟩ :: L) (ix4 j 0 r c) = w (ix4 j 0 r c) := by
  have h := View.canon_cons_emb (Rect.unit (s := S2x1x1024x1408) ![0, 0, 0, 0] ![2, 1, 1024, 1408] inb) w L (ix4 j 0 r c)
  have e : (Rect.unit (s := S2x1x1024x1408) ![0, 0, 0, 0] ![2, 1, 1024, 1408] inb).emb (ix4 j 0 r c) = ix4 j 0 r c := by idx_ext
  rw [e] at h
  exact h

theorem slab_load {sig : RefSig} {κ : Kind} {sp : Space} (v : View sig κ sp S2x1x1024x1408 .f32) (k : Fin 2)
    (inb : ∀ a, (![k.val, 0, 0, 0] : Fin 4 → ℕ) a + (![1, 1, 1024, 1408] : Fin 4 → ℕ) a ≤ S2x1x1024x1408.size a)
    (L : List (View.Piece (Elt Ideal) S2x1x1024x1408 .f32)) (r : Fin 1024) (c : Fin 1408) :
    v.readCov L (Rect.unit (s := S2x1x1024x1408) ![k.val, 0, 0, 0] ![1, 1, 1024, 1408] inb).toLoadRect (ix4 0 0 r c) = View.canon L (ix4 k 0 r c) := by
  rw [View.readCov_eq_canon']
  refine congrArg (View.canon L) ?_
  idx_ext

end Cert.KernelIdeal.Canon

end
-- ==== Proof.Case.lean ====
module
public import proofs.«01_k».proof.Proof.Gen.KernelIdeal.Frame
public import proofs.«01_k».proof.Proof.Canon
@[expose] public section
set_option maxRecDepth 16384
set_option maxHeartbeats 2000000
noncomputable section

/-! What the kernel leaves in each block it stages at a grid point, the three cases of its two conditionals taken together. -/

namespace Cert.KernelIdeal.Case
open Cert.KernelIdeal Cert.KernelIdeal.Gen Idealize.ShloMosaic Idealize.ShloMosaic.TcCoe Idealize.SL.Sem
open Cert.KernelIdeal.Pay Cert.KernelIdeal.Canon
variable (m : (ℓ : Loc nD τ sig) → Buf (Elt Ideal) ℓ)

/-- The point before. -/
theorem pred_lt (t : Fin cfg0.N) : t.val - 1 < cfg0.N := lt_of_le_of_lt (Nat.sub_le _ _) t.isLt

/-- The activations' block. -/
def hB (c : Dev nD) (t : Fin cfg0.N) (r : Fin 256) (k : Fin 1024) : EReal := iblk m c 0 t (ix2 r k)

/-- The gradient of the convolution's result on the gate half, a tile of it. -/
def dG (c : Dev nD) (t : Fin cfg0.N) (r : Fin 256) (x : Fin 1408) : EReal := k0_pay11 (F := Ideal) (iblk m c 5 t) (iblk m c 6 t) (iblk m c 4 t) (ix2 r x)
/-- The first rows of the tile after, zero at a sequence's last tile. -/
def nxG (c : Dev nD) (t : Fin cfg0.N) (r : Fin 8) (x : Fin 1408) : EReal :=
  if t.val % 8 = 0 then 0 else (outsAt0 m c (t.val - 1) (pred_lt t)).2.2.2.2.2.2.2.1 (ix2 r x)
/-- The taps and the forward projection, their blocks. -/
def wG (c : Dev nD) (t : Fin cfg0.N) (k : Fin 3) (x : Fin 1408) : EReal := iblk m c 7 t (ix2 k x)
def uG (c : Dev nD) (t : Fin cfg0.N) (r : Fin 256) (x : Fin 1408) : EReal := iblk m c 1 t (ix2 r x)

theorem fstG (c : Dev nD) (t : Fin cfg0.N) (h : t.val % 8 = 0) : nxG m c t = fun _ _ => 0 := by
  funext r x
  exact if_pos h
theorem nxtG (c : Dev nD) (t : Fin cfg0.N) (h : ¬t.val % 8 = 0) : nxG m c t = fun r x => (outsAt0 m c (t.val - 1) (pred_lt t)).2.2.2.2.2.2.2.1 (ix2 r x) := by
  funext r x
  exact if_neg h

theorem scrG (c : Dev nD) (t : Fin cfg0.N) (r : Fin 8) (x : Fin 1408) :
    (outsAt0 m c t.val t.isLt).2.2.2.2.2.2.2.1 (ix2 r x) = dG m c t ⟨r, by omega⟩ x := by
  by_cases h1 : t.val % 8 = 0
  · by_cases h0 : t.val % 16 = 0
    · rw [outsAt0_A m c t h0 h1]; frame_out
      exact pay23_at _ r x
    · rw [outsAt0_C m c t h0 h1]; frame_out
      exact pay23_at _ r x
  · have h0 : ¬t.val % 16 = 0 := by omega
    rw [outsAt0_B m c t h0 h1]; frame_out
    exact pay23_at _ r x

theorem outG (c : Dev nD) (t : Fin cfg0.N) (r : Fin 256) (x : Fin 1408) :
    (outsAt0 m c t.val t.isLt).1 (ix2 r x) = du (dG m c t) (nxG m c t) (wG m c t) r x := by
  by_cases h1 : t.val % 8 = 0
  · by_cases h0 : t.val % 16 = 0
    · rw [outsAt0_A m c t h0 h1]; frame_out
      refine (pay16_at _ (iblk m c 7 t) _ r x).trans ?_
      rw [fstG m c t h1]
      rw [fill7]
      rfl
    · rw [outsAt0_C m c t h0 h1]; frame_out
      refine (pay16_at _ (iblk m c 7 t) _ r x).trans ?_
      rw [fstG m c t h1]
      rw [fill7]
      rfl
  · have h0 : ¬t.val % 16 = 0 := by omega
    rw [outsAt0_B m c t h0 h1]; frame_out
    rw [read_unread_whole]
    refine (pay16_at _ (iblk m c 7 t) _ r x).trans ?_
    rw [nxtG m c t h1]
    rfl

theorem sumG (c : Dev nD) (t : Fin cfg0.N) (x : Fin 1408) :
    (outsAt0 m c t.val t.isLt).2.2.2.2.2.1 (ix2 0 x)
      = (if t.val % 16 = 0 then 0 else ((outsAt0 m c (t.val - 1) (pred_lt t)).2.2.2.2.2.1 (ix2 0 x) : EReal)) + ∑ r : Fin 256, dG m c t r x := by
  by_cases h1 : t.val % 8 = 0
  · by_cases h0 : t.val % 16 = 0
    · rw [outsAt0_A m c t h0 h1]; frame_out
      refine (pay19_at _ _ x).trans ?_
      rw [if_pos h0, fill5]
      rfl
    · rw [outsAt0_C m c t h0 h1]; frame_out
      refine (pay19_at _ _ x).trans ?_
      rw [if_neg h0]
      rfl
  · have h0 : ¬t.val % 16 = 0 := by omega
    rw [outsAt0_B m c t h0 h1]; frame_out
    refine (pay19_at _ _ x).trans ?_
    rw [if_neg h0]
    rfl

theorem rowG0 (c : Dev nD) (t : Fin cfg0.N) (x : Fin 1408) :
    (outsAt0 m c t.val t.isLt).2.2.2.1 (ix2 0 x)
      = (if t.val % 16 = 0 then 0 else ((outsAt0 m c (t.val - 1) (pred_lt t)).2.2.2.1 (ix2 0 x) : EReal)) + ∑ r : Fin 256, up 2 (by decide) (dG m c t) (nxG m c t) r x * uG m c t r x := by
  by_cases h1 : t.val % 8 = 0
  · by_cases h0 : t.val % 16 = 0
    · rw [outsAt0_A m c t h0 h1]; frame_out
      refine (row_miss 2 0 (by decide) _ _ _ x).trans <| (row_miss 1 0 (by decide) _ _ _ x).trans <| (row_hit 0 _ _ _ x).trans <| (pay20_at _ _ _ x).trans ?_
      rw [fstG m c t h1]
      rw [if_pos h0]
      refine congrArg₂ (· + ·) ((row_load _ 0 _ _ x).trans <| (row_fill _ _ _ 0 x).trans (congrFun fill3 _)) ?_
      refine Finset.sum_congr rfl fun r _ => congrArg (· * _) ?_
      refine (pay15_at _ _ r x).trans ?_
      rw [fill7]
      rfl
    · rw [outsAt0_C m c t h0 h1]; frame_out
      refine (row_miss 2 0 (by decide) _ _ _ x).trans <| (row_miss 1 0 (by decide) _ _ _ x).trans <| (row_hit 0 _ _ _ x).trans <| (pay20_at _ _ _ x).trans ?_
      rw [fstG m c t h1]
      rw [if_neg h0]
      refine congrArg₂ (· + ·) (congrArg _ (row_emb 0 _ x)) ?_
      refine Finset.sum_congr rfl fun r _ => congrArg (· * _) ?_
      refine (pay15_at _ _ r x).trans ?_
      rw [fill7]
      rfl
  · have h0 : ¬t.val % 16 = 0 := by omega
    rw [outsAt0_B m c t h0 h1]; frame_out
    simp only [read_unread_whole]
    refine (row_miss 2 0 (by decide) _ _ _ x).trans <| (row_miss 1 0 (by decide) _ _ _ x).trans <| (row_hit 0 _ _ _ x).trans <| (pay20_at _ _ _ x).trans ?_
    rw [nxtG m c t h1]
    rw [if_neg h0]
    refine congrArg₂ (· + ·) (congrArg _ (row_emb 0 _ x)) ?_
    refine Finset.sum_congr rfl fun r _ => congrArg (· * _) ?_
    refine (pay15_at _ _ r x).trans ?_
    rfl

theorem rowG1 (c : Dev nD) (t : Fin cfg0.N) (x : Fin 1408) :
    (outsAt0 m c t.val t.isLt).2.2.2.1 (ix2 1 x)
      = (if t.val % 16 = 0 then 0 else ((outsAt0 m c (t.val - 1) (pred_lt t)).2.2.2.1 (ix2 1 x) : EReal)) + ∑ r : Fin 256, up 1 (by decide) (dG m c t) (nxG m c t) r x * uG m c t r x := by
  by_cases h1 : t.val % 8 = 0
  · by_cases h0 : t.val % 16 = 0
    · rw [outsAt0_A m c t h0 h1]; frame_out
      refine (row_miss 2 1 (by decide) _ _ _ x).trans <| (row_hit 1 _ _ _ x).trans <| (pay21_at _ _ _ x).trans ?_
      rw [fstG m c t h1]
      rw [if_pos h0]
      refine congrArg₂ (· + ·) ((row_load _ 1 _ _ x).trans <| (row_miss 0 1 (by decide) _ _ _ x).trans <| (row_fill _ _ _ 1 x).trans (congrFun fill3 _)) ?_
      refine Finset.sum_congr rfl fun r _ => congrArg (· * _) ?_
      refine (pay14_at _ _ r x).trans ?_
      rw [fill7]
      rfl
    · rw [outsAt0_C m c t h0 h1]; frame_out
      refine (row_miss 2 1 (by decide) _ _ _ x).trans <| (row_hit 1 _ _ _ x).trans <| (pay21_at _ _ _ x).trans ?_
      rw [fstG m c t h1]
      rw [if_neg h0]
      refine congrArg₂ (· + ·) (congrArg _ (row_emb 1 _ x)) ?_
      refine Finset.sum_congr rfl fun r _ => congrArg (· * _) ?_
      refine (pay14_at _ _ r x).trans ?_
      rw [fill7]
      rfl
  · have h0 : ¬t.val % 16 = 0 := by omega
    rw [outsAt0_B m c t h0 h1]; frame_out
    simp only [read_unread_whole]
    refine (row_miss 2 1 (by decide) _ _ _ x).trans <| (row_hit 1 _ _ _ x).trans <| (pay21_at _ _ _ x).trans ?_
    rw [nxtG m c t h1]
    rw [if_neg h0]
    refine congrArg₂ (· + ·) (congrArg _ (row_emb 1 _ x)) ?_
    refine Finset.sum_congr rfl fun r _ => congrArg (· * _) ?_
    refine (pay14_at _ _ r x).trans ?_
    rfl

theorem rowG2 (c : Dev nD) (t : Fin cfg0.N) (x : Fin 1408) :
    (outsAt0 m c t.val t.isLt).2.2.2.1 (ix2 2 x)
      = (if t.val % 16 = 0 then 0 else ((outsAt0 m c (t.val - 1) (pred_lt t)).2.2.2.1 (ix2 2 x) : EReal)) + ∑ r : Fin 256, dG m c t r x * uG m c t r x := by
  by_cases h1 : t.val % 8 = 0
  · by_cases h0 : t.val % 16 = 0
    · rw [outsAt0_A m c t h0 h1]; frame_out
      refine (row_hit 2 _ _ _ x).trans <| (pay22_at _ _ _ x).trans ?_
      rw [if_pos h0]
      refine congrArg₂ (· + ·) ((row_load _ 2 _ _ x).trans <| (row_miss 1 2 (by decide) _ _ _ x).trans <| (row_miss 0 2 (by decide) _ _ _ x).trans <| (row_fill _ _ _ 2 x).trans (congrFun fill3 _)) ?_
      rfl
    · rw [outsAt0_C m c t h0 h1]; frame_out
      refine (row_hit 2 _ _ _ x).trans <| (pay22_at _ _ _ x).trans ?_
      rw [if_neg h0]
      refine congrArg₂ (· + ·) (congrArg _ (row_emb 2 _ x)) ?_
      rfl
  · have h0 : ¬t.val % 16 = 0 := by omega
    rw [outsAt0_B m c t h0 h1]; frame_out
    refine (row_hit 2 _ _ _ x).trans <| (pay22_at _ _ _ x).trans ?_
    rw [if_neg h0]
    refine congrArg₂ (· + ·) (congrArg _ (row_emb 2 _ x)) ?_
    rfl

/-- The gradient of the convolution's result on the value half, a tile of it. -/
def dV (c : Dev nD) (t : Fin cfg0.N) (r : Fin 256) (x : Fin 1408) : EReal := k0_pay10 (F := Ideal) (iblk m c 5 t) (iblk m c 6 t) (iblk m c 3 t) (ix2 r x)
/-- The first rows of the tile after, zero at a sequence's last tile. -/
def nxV (c : Dev nD) (t : Fin cfg0.N) (r : Fin 8) (x : Fin 1408) : EReal :=
  if t.val % 8 = 0 then 0 else (outsAt0 m c (t.val - 1) (pred_lt t)).2.2.2.2.2.2.2.2 (ix2 r x)
/-- The taps and the forward projection, their blocks. -/
def wV (c : Dev nD) (t : Fin cfg0.N) (k : Fin 3) (x : Fin 1408) : EReal := iblk m c 8 t (ix2 k x)
def uV (c : Dev nD) (t : Fin cfg0.N) (r : Fin 256) (x : Fin 1408) : EReal := iblk m c 2 t (ix2 r x)

theorem fstV (c : Dev nD) (t : Fin cfg0.N) (h : t.val % 8 = 0) : nxV m c t = fun _ _ => 0 := by
  funext r x
  exact if_pos h
theorem nxtV (c : Dev nD) (t : Fin cfg0.N) (h : ¬t.val % 8 = 0) : nxV m c t = fun r x => (outsAt0 m c (t.val - 1) (pred_lt t)).2.2.2.2.2.2.2.2 (ix2 r x) := by
  funext r x
  exact if_neg h

theorem scrV (c : Dev nD) (t : Fin cfg0.N) (r : Fin 8) (x : Fin 1408) :
    (outsAt0 m c t.val t.isLt).2.2.2.2.2.2.2.2 (ix2 r x) = dV m c t ⟨r, by omega⟩ x := by
  by_cases h1 : t.val % 8 = 0
  · by_cases h0 : t.val % 16 = 0
    · rw [outsAt0_A m c t h0 h1]; frame_out
      exact pay34_at _ r x
    · rw [outsAt0_C m c t h0 h1]; frame_out
      exact pay34_at _ r x
  · have h0 : ¬t.val % 16 = 0 := by omega
    rw [outsAt0_B m c t h0 h1]; frame_out
    exact pay34_at _ r x

theorem outV (c : Dev nD) (t : Fin cfg0.N) (r : Fin 256) (x : Fin 1408) :
    (outsAt0 m c t.val t.isLt).2.1 (ix2 r x) = du (dV m c t) (nxV m c t) (wV m c t) r x := by
  by_cases h1 : t.val % 8 = 0
  · by_cases h0 : t.val % 16 = 0
    · rw [outsAt0_A m c t h0 h1]; frame_out
      refine (pay27_at _ (iblk m c 8 t) _ r x).trans ?_
      rw [fstV m c t h1]
      rw [fill8]
      rfl
    · rw [outsAt0_C m c t h0 h1]; frame_out
      refine (pay27_at _ (iblk m c 8 t) _ r x).trans ?_
      rw [fstV m c t h1]
      rw [fill8]
      rfl
  · have h0 : ¬t.val % 16 = 0 := by omega
    rw [outsAt0_B m c t h0 h1]; frame_out
    rw [read_unread_whole]
    refine (pay27_at _ (iblk m c 8 t) _ r x).trans ?_
    rw [nxtV m c t h1]
    rfl

theorem sumV (c : Dev nD) (t : Fin cfg0.N) (x : Fin 1408) :
    (outsAt0 m c t.val t.isLt).2.2.2.2.2.2.1 (ix2 0 x)
      = (if t.val % 16 = 0 then 0 else ((outsAt0 m c (t.val - 1) (pred_lt t)).2.2.2.2.2.2.1 (ix2 0 x) : EReal)) + ∑ r : Fin 256, dV m c t r x := by
  by_cases h1 : t.val % 8 = 0
  · by_cases h0 : t.val % 16 = 0
    · rw [outsAt0_A m c t h0 h1]; frame_out
      refine (pay30_at _ _ x).trans ?_
      rw [if_pos h0, fill6]
      rfl
    · rw [outsAt0_C m c t h0 h1]; frame_out
      refine (pay30_at _ _ x).trans ?_
      rw [if_neg h0]
      rfl
  · have h0 : ¬t.val % 16 = 0 := by omega
    rw [outsAt0_B m c t h0 h1]; frame_out
    refine (pay30_at _ _ x).trans ?_
    rw [if_neg h0]
    rfl

theorem rowV0 (c : Dev nD) (t : Fin cfg0.N) (x : Fin 1408) :
    (outsAt0 m c t.val t.isLt).2.2.2.2.1 (ix2 0 x)
      = (if t.val % 16 = 0 then 0 else ((outsAt0 m c (t.val - 1) (pred_lt t)).2.2.2.2.1 (ix2 0 x) : EReal)) + ∑ r : Fin 256, up 2 (by decide) (dV m c t) (nxV m c t) r x * uV m c t r x := by
  by_cases h1 : t.val % 8 = 0
  · by_cases h0 : t.val % 16 = 0
    · rw [outsAt0_A m c t h0 h1]; frame_out
      refine (row_miss 2 0 (by decide) _ _ _ x).trans <| (row_miss 1 0 (by decide) _ _ _ x).trans <| (row_hit 0 _ _ _ x).trans <| (pay31_at _ _ _ x).trans ?_
      rw [fstV m c t h1]
      rw [if_pos h0]
      refine congrArg₂ (· + ·) ((row_load _ 0 _ _ x).trans <| (row_fill _ _ _ 0 x).trans (congrFun fill4 _)) ?_
      refine Finset.sum_congr rfl fun r _ => congrArg (· * _) ?_
      refine (pay26_at _ _ r x).trans ?_
      rw [fill8]
      rfl
    · rw [outsAt0_C m c t h0 h1]; frame_out
      refine (row_miss 2 0 (by decide) _ _ _ x).trans <| (row_miss 1 0 (by decide) _ _ _ x).trans <| (row_hit 0 _ _ _ x).trans <| (pay31_at _ _ _ x).trans ?_
      rw [fstV m c t h1]
      rw [if_neg h0]
      refine congrArg₂ (· + ·) (congrArg _ (row_emb 0 _ x)) ?_
      refine Finset.sum_congr rfl fun r _ => congrArg (· * _) ?_
      refine (pay26_at _ _ r x).trans ?_
      rw [fill8]
      rfl
  · have h0 : ¬t.val % 16 = 0 := by omega
    rw [outsAt0_B m c t h0 h1]; frame_out
    simp only [read_unread_whole]
    refine (row_miss 2 0 (by decide) _ _ _ x).trans <| (row_miss 1 0 (by decide) _ _ _ x).trans <| (row_hit 0 _ _ _ x).trans <| (pay31_at _ _ _ x).trans ?_
    rw [nxtV m c t h1]
    rw [if_neg h0]
    refine congrArg₂ (· + ·) (congrArg _ (row_emb 0 _ x)) ?_
    refine Finset.sum_congr rfl fun r _ => congrArg (· * _) ?_
    refine (pay26_at _ _ r x).trans ?_
    rfl

theorem rowV1 (c : Dev nD) (t : Fin cfg0.N) (x : Fin 1408) :
    (outsAt0 m c t.val t.isLt).2.2.2.2.1 (ix2 1 x)
      = (if t.val % 16 = 0 then 0 else ((outsAt0 m c (t.val - 1) (pred_lt t)).2.2.2.2.1 (ix2 1 x) : EReal)) + ∑ r : Fin 256, up 1 (by decide) (dV m c t) (nxV m c t) r x * uV m c t r x := by
  by_cases h1 : t.val % 8 = 0
  · by_cases h0 : t.val % 16 = 0
    · rw [outsAt0_A m c t h0 h1]; frame_out
      refine (row_miss 2 1 (by decide) _ _ _ x).trans <| (row_hit 1 _ _ _ x).trans <| (pay32_at _ _ _ x).trans ?_
      rw [fstV m c t h1]
      rw [if_pos h0]
      refine congrArg₂ (· + ·) ((row_load _ 1 _ _ x).trans <| (row_miss 0 1 (by decide) _ _ _ x).trans <| (row_fill _ _ _ 1 x).trans (congrFun fill4 _)) ?_
      refine Finset.sum_congr rfl fun r _ => congrArg (· * _) ?_
      refine (pay25_at _ _ r x).trans ?_
      rw [fill8]
      rfl
    · rw [outsAt0_C m c t h0 h1]; frame_out
      refine (row_miss 2 1 (by decide) _ _ _ x).trans <| (row_hit 1 _ _ _ x).trans <| (pay32_at _ _ _ x).trans ?_
      rw [fstV m c t h1]
      rw [if_neg h0]
      refine congrArg₂ (· + ·) (congrArg _ (row_emb 1 _ x)) ?_
      refine Finset.sum_congr rfl fun r _ => congrArg (· * _) ?_
      refine (pay25_at _ _ r x).trans ?_
      rw [fill8]
      rfl
  · have h0 : ¬t.val % 16 = 0 := by omega
    rw [outsAt0_B m c t h0 h1]; frame_out
    simp only [read_unread_whole]
    refine (row_miss 2 1 (by decide) _ _ _ x).trans <| (row_hit 1 _ _ _ x).trans <| (pay32_at _ _ _ x).trans ?_
    rw [nxtV m c t h1]
    rw [if_neg h0]
    refine congrArg₂ (· + ·) (congrArg _ (row_emb 1 _ x)) ?_
    refine Finset.sum_congr rfl fun r _ => congrArg (· * _) ?_
    refine (pay25_at _ _ r x).trans ?_
    rfl

theorem rowV2 (c : Dev nD) (t : Fin cfg0.N) (x : Fin 1408) :
    (outsAt0 m c t.val t.isLt).2.2.2.2.1 (ix2 2 x)
      = (if t.val % 16 = 0 then 0 else ((outsAt0 m c (t.val - 1) (pred_lt t)).2.2.2.2.1 (ix2 2 x) : EReal)) + ∑ r : Fin 256, dV m c t r x * uV m c t r x := by
  by_cases h1 : t.val % 8 = 0
  · by_cases h0 : t.val % 16 = 0
    · rw [outsAt0_A m c t h0 h1]; frame_out
      refine (row_hit 2 _ _ _ x).trans <| (pay33_at _ _ _ x).trans ?_
      rw [if_pos h0]
      refine congrArg₂ (· + ·) ((row_load _ 2 _ _ x).trans <| (row_miss 1 2 (by decide) _ _ _ x).trans <| (row_miss 0 2 (by decide) _ _ _ x).trans <| (row_fill _ _ _ 2 x).trans (congrFun fill4 _)) ?_
      rfl
    · rw [outsAt0_C m c t h0 h1]; frame_out
      refine (row_hit 2 _ _ _ x).trans <| (pay33_at _ _ _ x).trans ?_
      rw [if_neg h0]
      refine congrArg₂ (· + ·) (congrArg _ (row_emb 2 _ x)) ?_
      rfl
  · have h0 : ¬t.val % 16 = 0 := by omega
    rw [outsAt0_B m c t h0 h1]; frame_out
    refine (row_hit 2 _ _ _ x).trans <| (pay33_at _ _ _ x).trans ?_
    rw [if_neg h0]
    refine congrArg₂ (· + ·) (congrArg _ (row_emb 2 _ x)) ?_
    rfl

end Cert.KernelIdeal.Case

end
-- ==== Proof.Slab.lean ====
module
public import proofs.«01_k».proof.Proof.Case
@[expose] public section
set_option maxRecDepth 16384
set_option maxHeartbeats 2000000
noncomputable section

/-! The two slabs of the staged product after a grid point. -/

namespace Cert.KernelIdeal.Case
open Cert.KernelIdeal Cert.KernelIdeal.Gen Idealize.ShloMosaic Idealize.ShloMosaic.TcCoe Idealize.SL.Sem
open Cert.KernelIdeal.Pay Cert.KernelIdeal.Canon
variable (m : (ℓ : Loc nD τ sig) → Buf (Elt Ideal) ℓ)

theorem slabG (c : Dev nD) (t : Fin cfg0.N) (k : Fin 1024) (x : Fin 1408) :
    (outsAt0 m c t.val t.isLt).2.2.1 (ix4 0 0 k x)
      = (if t.val % 16 = 0 then 0 else ((outsAt0 m c (t.val - 1) (pred_lt t)).2.2.1 (ix4 0 0 k x) : EReal))
        + ∑ r : Fin 256, hB m c t r k * du (dG m c t) (nxG m c t) (wG m c t) r x := by
  by_cases h1 : t.val % 8 = 0
  · by_cases h0 : t.val % 16 = 0
    · rw [outsAt0_A m c t h0 h1]; frame_out
      refine (slab_miss 1 0 (by decide) _ _ _ k x).trans <| (slab_hit 0 _ _ _ k x).trans <| (pay18_at _ _ _ k x).trans ?_
      rw [fstG m c t h1]
      rw [if_pos h0]
      refine congrArg₂ (· + ·) ((slab_load _ 0 _ _ k x).trans <| (slab_fill _ _ _ 0 k x).trans (congrFun fill2 _)) ?_
      refine Finset.sum_congr rfl fun r _ => congrArg (fun z : EReal => hB m c t r k * z) ?_
      refine (pay16_at _ (iblk m c 7 t) _ r x).trans ?_
      rw [fill7]
      rfl
    · rw [outsAt0_C m c t h0 h1]; frame_out
      refine (slab_miss 1 0 (by decide) _ _ _ k x).trans <| (slab_hit 0 _ _ _ k x).trans <| (pay18_at _ _ _ k x).trans ?_
      rw [fstG m c t h1]
      rw [if_neg h0]
      refine congrArg₂ (· + ·) (congrArg _ (slab_emb 0 _ k x)) ?_
      refine Finset.sum_congr rfl fun r _ => congrArg (fun z : EReal => hB m c t r k * z) ?_
      refine (pay16_at _ (iblk m c 7 t) _ r x).trans ?_
      rw [fill7]
      rfl
  · have h0 : ¬t.val % 16 = 0 := by omega
    rw [outsAt0_B m c t h0 h1]; frame_out
    simp only [read_unread_whole]
    refine (slab_miss 1 0 (by decide) _ _ _ k x).trans <| (slab_hit 0 _ _ _ k x).trans <| (pay18_at _ _ _ k x).trans ?_
    rw [nxtG m c t h1]
    rw [if_neg h0]
    refine congrArg₂ (· + ·) (congrArg _ (slab_emb 0 _ k x)) ?_
    refine Finset.sum_congr rfl fun r _ => congrArg (fun z : EReal => hB m c t r k * z) ?_
    refine (pay16_at _ (iblk m c 7 t) _ r x).trans ?_
    rfl

theorem slabV (c : Dev nD) (t : Fin cfg0.N) (k : Fin 1024) (x : Fin 1408) :
    (outsAt0 m c t.val t.isLt).2.2.1 (ix4 1 0 k x)
      = (if t.val % 16 = 0 then 0 else ((outsAt0 m c (t.val - 1) (pred_lt t)).2.2.1 (ix4 1 0 k x) : EReal))
        + ∑ r : Fin 256, hB m c t r k * du (dV m c t) (nxV m c t) (wV m c t) r x := by
  by_cases h1 : t.val % 8 = 0
  · by_cases h0 : t.val % 16 = 0
    · rw [outsAt0_A m c t h0 h1]; frame_out
      refine (slab_hit 1 _ _ _ k x).trans <| (pay29_at _ _ (iblk m c 8 t) _ _ k x).trans ?_
      rw [fstV m c t h1]
      rw [if_pos h0]
      refine congrArg₂ (· + ·) ((slab_load _ 1 _ _ k x).trans <| (slab_miss 0 1 (by decide) _ _ _ k x).trans <| (slab_fill _ _ _ 1 k x).trans (congrFun fill2 _)) ?_
      rw [fill8]
      rfl
    · rw [outsAt0_C m c t h0 h1]; frame_out
      refine (slab_hit 1 _ _ _ k x).trans <| (pay29_at _ _ (iblk m c 8 t) _ _ k x).trans ?_
      rw [fstV m c t h1]
      rw [if_neg h0]
      refine congrArg₂ (· + ·) (congrArg _ (slab_emb 1 _ k x)) ?_
      rw [fill8]
      rfl
  · have h0 : ¬t.val % 16 = 0 := by omega
    rw [outsAt0_B m c t h0 h1]; frame_out
    simp only [read_unread_whole]
    refine (slab_hit 1 _ _ _ k x).trans <| (pay29_at _ _ (iblk m c 8 t) _ _ k x).trans ?_
    rw [nxtV m c t h1]
    rw [if_neg h0]
    refine congrArg₂ (· + ·) (congrArg _ (slab_emb 1 _ k x)) ?_
    rfl

end Cert.KernelIdeal.Case

end
-- ==== Proof.Shift.lean ====
/- Sums of a sequence against another one shifted inside each block of 2048 tokens, and a sum over the sixteen tiles of
   256 tokens taken last to first. -/
module

public import Idealize.ShloMosaic.Lib.Pointwise
public import Idealize.ShloMosaic.Lib.Pipeline.ValueKit

@[expose] public section

noncomputable section

namespace Cert.Shift

open Idealize.ShloMosaic

/-- The value `n` tokens later in the same sequence of 2048, zero past the sequence's end. -/
def later (n : ℕ) (f : Fin 4096 → EReal) (T : Fin 4096) : EReal :=
  if h : (T : ℕ) % 2048 + n < 2048 then f ⟨T + n, by omega⟩ else 0

/-- The value `n` tokens before in the same sequence of 2048, zero before the sequence's start. -/
def before (n : ℕ) (f : Fin 4096 → EReal) (T : Fin 4096) : EReal :=
  if h : n ≤ (T : ℕ) % 2048 then f ⟨T - n, by omega⟩ else 0

/-- Moving one factor later is moving the other one back. -/
theorem sum_later_mul (n : ℕ) (f g : Fin 4096 → EReal) :
    ∑ T, later n f T * g T = ∑ T, f T * before n g T := by
  have hl : ∀ T : Fin 4096, later n f T * g T
      = ∑ U : Fin 4096, if (T : ℕ) % 2048 + n < 2048 ∧ (U : ℕ) = T + n then f U * g T else 0 := by
    intro T
    unfold later
    by_cases h : (T : ℕ) % 2048 + n < 2048
    · rw [dif_pos h, Finset.sum_eq_single (⟨T + n, by omega⟩ : Fin 4096)]
      · rw [if_pos ⟨h, rfl⟩]
      · intro U _ hU
        rw [if_neg]
        rintro ⟨_, e⟩
        exact hU (Fin.ext e)
      · intro hU
        exact absurd (Finset.mem_univ _) hU
    · rw [dif_neg h, zero_mul]
      symm
      refine Finset.sum_eq_zero fun U _ => ?_
      rw [if_neg fun e => h e.1]
  have hr : ∀ U : Fin 4096, f U * before n g U
      = ∑ T : Fin 4096, if (T : ℕ) % 2048 + n < 2048 ∧ (U : ℕ) = T + n then f U * g T else 0 := by
    intro U
    unfold before
    by_cases h : n ≤ (U : ℕ) % 2048
    · rw [dif_pos h, Finset.sum_eq_single (⟨U - n, by omega⟩ : Fin 4096)]
      · rw [if_pos]
        constructor
        · dsimp only; omega
        · dsimp only; omega
      · intro T _ hT
        rw [if_neg]
        rintro ⟨h1, e⟩
        refine hT (Fin.ext ?_)
        dsimp only
        omega
      · intro hT
        exact absurd (Finset.mem_univ _) hT
    · rw [dif_neg h, mul_zero]
      symm
      refine Finset.sum_eq_zero fun T _ => ?_
      rw [if_neg]
      rintro ⟨h1, e⟩
      omega
  rw [Finset.sum_congr rfl fun T _ => hl T, Finset.sum_congr rfl fun U _ => hr U, Finset.sum_comm]

/-- Token `r` of tile `15 - s`. -/
def tok (s : Fin 16) (r : Fin 256) : Fin 4096 := ⟨256 * (15 - s) + r, by omega⟩

/-- The sixteen tiles, last to first, are all the tokens. -/
theorem sum_tok (f : Fin 4096 → EReal) : ∑ s : Fin 16, ∑ r : Fin 256, f (tok s r) = ∑ T, f T := by
  rw [← Fintype.sum_prod_type']
  refine Fintype.sum_bijective (fun p : Fin 16 × Fin 256 => tok p.1 p.2) ⟨?_, ?_⟩ _ _ fun p => rfl
  · rintro ⟨s, r⟩ ⟨s', r'⟩ h
    have h := congrArg Fin.val h
    dsimp only [tok] at h
    exact Prod.ext (Fin.ext (by dsimp only; omega)) (Fin.ext (by dsimp only; omega))
  · intro T
    exact ⟨(⟨15 - T / 256, by omega⟩, ⟨T % 256, by omega⟩), Fin.ext (by dsimp only [tok]; omega)⟩

/-- The two sequences of 2048 tokens are all the tokens. -/
theorem sum_seq (f : Fin 4096 → EReal) : ∑ b : Fin 2, ∑ s : Fin 2048, f ⟨b * 2048 + s, by omega⟩ = ∑ T, f T := by
  rw [← Fintype.sum_prod_type' (f := fun (b : Fin 2) (s : Fin 2048) => f ⟨b * 2048 + s, by omega⟩)]
  refine Fintype.sum_bijective (fun p : Fin 2 × Fin 2048 => (⟨p.1 * 2048 + p.2, by omega⟩ : Fin 4096)) ⟨?_, ?_⟩ _ _ fun p => rfl
  · rintro ⟨s, r⟩ ⟨s', r'⟩ h
    have h := congrArg Fin.val h
    dsimp only at h
    exact Prod.ext (Fin.ext (by dsimp only; omega)) (Fin.ext (by dsimp only; omega))
  · intro T
    exact ⟨(⟨T / 2048, by omega⟩, ⟨T % 2048, by omega⟩), Fin.ext (by dsimp only; omega)⟩

end Cert.Shift

end
-- ==== Proof.Point.lean ====
module
public import proofs.«01_k».proof.Proof.Slab
public import proofs.«01_k».proof.Proof.Shift
public import Idealize.ShloMosaic.Lib.Claim
@[expose] public section
set_option maxRecDepth 16384
noncomputable section

/-! A grid point's blocks as places of the arrays: tiles go from the last to the first, the columns in two halves. -/

namespace Cert.KernelIdeal.Point
open Cert.KernelIdeal Cert.KernelIdeal.Gen Idealize.ShloMosaic Idealize.ShloMosaic.TcCoe Idealize.SL.Sem
open Cert.KernelIdeal.Pay Cert.KernelIdeal.Case Cert.Shift
variable (m : (ℓ : Loc nD τ sig) → Buf (Elt Ideal) ℓ)

theorem idx : ∀ t : Fin cfg0.N, win0_0.index t = ![15 - t.val % 16, 0] ∧ win0_1.index t = ![15 - t.val % 16, t.val / 16]
    ∧ win0_2.index t = ![15 - t.val % 16, t.val / 16] ∧ win0_3.index t = ![15 - t.val % 16, t.val / 16]
    ∧ win0_4.index t = ![15 - t.val % 16, t.val / 16] ∧ win0_5.index t = ![15 - t.val % 16, 0]
    ∧ win0_6.index t = ![t.val / 16, 0] ∧ win0_7.index t = ![0, t.val / 16] ∧ win0_8.index t = ![0, 2 + t.val / 16] :=
  (by decide +kernel : ∀ t : Fin grid0.N, _)

theorem lt32 (t : Fin cfg0.N) : t.val < 32 := lt_of_lt_of_eq t.isLt N_0

/-- The token of a tile's row and the column of a block's. -/
def tk (t : Fin cfg0.N) (r : Fin 256) : Fin 4096 := ⟨256 * (15 - t.val % 16) + r, by omega⟩
def cl (t : Fin cfg0.N) (x : Fin 1408) : Fin 2816 := ⟨1408 * (t.val / 16) + x, by have := lt32 t; omega⟩

/-- The gradients of the convolution's result, the forward projection, the taps and the activations, over the entry's arrays. -/
def DX (c : Dev nD) (T : Fin 4096) (q : Fin 1024) : EReal := V m c main_v42 (ix2 T q)
def WD (c : Dev nD) (f : Fin 2816) (q : Fin 1024) : EReal := V m c main_v43 (ix2 f q)
def CG (c : Dev nD) (f : Fin 2816) (T : Fin 4096) : EReal := V m c main_v40 (ix2 T f)
def CV (c : Dev nD) (f : Fin 2816) (T : Fin 4096) : EReal := V m c main_v41 (ix2 T f)
def DG (c : Dev nD) (f : Fin 2816) (T : Fin 4096) : EReal := (∑ q : Fin 1024, DX m c T q * WD m c f q) * CV m c f T
def DV (c : Dev nD) (f : Fin 2816) (T : Fin 4096) : EReal := (∑ q : Fin 1024, DX m c T q * WD m c f q) * CG m c f T
def UG (c : Dev nD) (f : Fin 2816) (T : Fin 4096) : EReal := V m c main_v38 (ix2 T f)
def UV (c : Dev nD) (f : Fin 2816) (T : Fin 4096) : EReal := V m c main_v39 (ix2 T f)
def WG (c : Dev nD) (k : Fin 3) (f : Fin 2816) : EReal := V m c main_arg2 (ix2 k ⟨f, by omega⟩)
def WV (c : Dev nD) (k : Fin 3) (f : Fin 2816) : EReal := V m c main_arg2 (ix2 k ⟨2816 + f, by omega⟩)
def HN (c : Dev nD) (T : Fin 4096) (k : Fin 1024) : EReal := V m c main_v37 (ix2 T k)

theorem b5_at (c : Dev nD) (t : Fin cfg0.N) (r : Fin 256) (q : Fin 1024) : (iblk m c 5 t (ix2 r q) : EReal) = DX m c (tk t r) q := by
  unfold DX tk
  blk_ext [iblk, V, idx t]

theorem b6_at (c : Dev nD) (t : Fin cfg0.N) (x : Fin 1408) (q : Fin 1024) : (iblk m c 6 t (ix2 x q) : EReal) = WD m c (cl t x) q := by
  unfold WD cl
  blk_ext [iblk, V, idx t]

theorem b3_at (c : Dev nD) (t : Fin cfg0.N) (r : Fin 256) (x : Fin 1408) : (iblk m c 3 t (ix2 r x) : EReal) = CG m c (cl t x) (tk t r) := by
  unfold CG cl tk
  blk_ext [iblk, V, idx t]

theorem b4_at (c : Dev nD) (t : Fin cfg0.N) (r : Fin 256) (x : Fin 1408) : (iblk m c 4 t (ix2 r x) : EReal) = CV m c (cl t x) (tk t r) := by
  unfold CV cl tk
  blk_ext [iblk, V, idx t]

theorem dG_at (c : Dev nD) (t : Fin cfg0.N) (r : Fin 256) (x : Fin 1408) : dG m c t r x = DG m c (cl t x) (tk t r) :=
  (pay11_at _ _ _ r x).trans <| congrArg₂ (fun a b : EReal => a * b)
    (Finset.sum_congr rfl fun q _ => congrArg₂ (fun a b : EReal => a * b) (b5_at m c t r q) (b6_at m c t x q)) (b4_at m c t r x)

theorem dV_at (c : Dev nD) (t : Fin cfg0.N) (r : Fin 256) (x : Fin 1408) : dV m c t r x = DV m c (cl t x) (tk t r) :=
  (pay10_at _ _ _ r x).trans <| congrArg₂ (fun a b : EReal => a * b)
    (Finset.sum_congr rfl fun q _ => congrArg₂ (fun a b : EReal => a * b) (b5_at m c t r q) (b6_at m c t x q)) (b3_at m c t r x)

theorem uG_at (c : Dev nD) (t : Fin cfg0.N) (r : Fin 256) (x : Fin 1408) : uG m c t r x = UG m c (cl t x) (tk t r) := by
  unfold uG UG cl tk
  blk_ext [iblk, V, idx t]

theorem uV_at (c : Dev nD) (t : Fin cfg0.N) (r : Fin 256) (x : Fin 1408) : uV m c t r x = UV m c (cl t x) (tk t r) := by
  unfold uV UV cl tk
  blk_ext [iblk, V, idx t]

theorem wG_at (c : Dev nD) (t : Fin cfg0.N) (k : Fin 3) (x : Fin 1408) : wG m c t k x = WG m c k (cl t x) := by
  unfold wG WG cl
  blk_ext [iblk, V, idx t]

theorem wV_at (c : Dev nD) (t : Fin cfg0.N) (k : Fin 3) (x : Fin 1408) : wV m c t k x = WV m c k (cl t x) := by
  unfold wV WV cl
  blk_ext [iblk, V, idx t]

theorem hB_at (c : Dev nD) (t : Fin cfg0.N) (r : Fin 256) (k : Fin 1024) : hB m c t r k = HN m c (tk t r) k := by
  unfold hB HN tk
  blk_ext [iblk, V, idx t]

/-- A shift over a tile and the rows kept from the tile after it is the shift over the sequence. -/
theorem up_later (n : ℕ) (hn : n < 8) (hp : 0 < n) (t : Fin cfg0.N) (D : Fin 2816 → Fin 4096 → EReal) (d : Fin 256 → Fin 1408 → EReal)
    (nx : Fin 8 → Fin 1408 → EReal) (x : Fin 1408) (hd : ∀ r, d r x = D (cl t x) (tk t r)) (hz : t.val % 8 = 0 → ∀ r, nx r x = 0)
    (hs : ¬t.val % 8 = 0 → ∀ r : Fin 8, nx r x = D (cl t x) ⟨256 * (15 - (t.val - 1) % 16) + r, by omega⟩) (r : Fin 256) :
    up n hn d nx r x = later n (D (cl t x)) (tk t r) := by
  have h32 := lt32 t
  unfold up later tk
  by_cases h : r.val + n < 256
  · rw [dif_pos h, dif_pos (by dsimp only; omega), hd]
    refine congrArg (D _) (Fin.ext ?_)
    simp only [tk]
    omega
  · rw [dif_neg h]
    by_cases h8 : t.val % 8 = 0
    · rw [dif_neg (by dsimp only; omega), hz h8]
    · rw [dif_pos (by dsimp only; omega), hs h8]
      refine congrArg (D _) (Fin.ext ?_)
      dsimp only
      omega

theorem prevG (c : Dev nD) (t : Fin cfg0.N) (h : ¬t.val % 8 = 0) (r : Fin 8) (x : Fin 1408) :
    nxG m c t r x = DG m c (cl t x) ⟨256 * (15 - (t.val - 1) % 16) + r, by omega⟩ := by
  unfold nxG
  rw [if_neg h, scrG m c ⟨t.val - 1, pred_lt t⟩ r x, dG_at]
  have : cl ⟨t.val - 1, pred_lt t⟩ x = cl t x := Fin.ext (by simp only [cl]; omega)
  rw [this]
  rfl

theorem prevV (c : Dev nD) (t : Fin cfg0.N) (h : ¬t.val % 8 = 0) (r : Fin 8) (x : Fin 1408) :
    nxV m c t r x = DV m c (cl t x) ⟨256 * (15 - (t.val - 1) % 16) + r, by omega⟩ := by
  unfold nxV
  rw [if_neg h, scrV m c ⟨t.val - 1, pred_lt t⟩ r x, dV_at]
  have : cl ⟨t.val - 1, pred_lt t⟩ x = cl t x := Fin.ext (by simp only [cl]; omega)
  rw [this]
  rfl

theorem upG (n : ℕ) (hn : n < 8) (hp : 0 < n) (c : Dev nD) (t : Fin cfg0.N) (r : Fin 256) (x : Fin 1408) :
    up n hn (dG m c t) (nxG m c t) r x = later n (DG m c (cl t x)) (tk t r) :=
  up_later n hn hp t (DG m c) _ _ x (fun r => dG_at m c t r x) (fun h r => if_pos h) (fun h r => prevG m c t h r x) r

theorem upV (n : ℕ) (hn : n < 8) (hp : 0 < n) (c : Dev nD) (t : Fin cfg0.N) (r : Fin 256) (x : Fin 1408) :
    up n hn (dV m c t) (nxV m c t) r x = later n (DV m c (cl t x)) (tk t r) :=
  up_later n hn hp t (DV m c) _ _ x (fun r => dV_at m c t r x) (fun h r => if_pos h) (fun h r => prevV m c t h r x) r

/-- The gradient of the up projection's result, over the whole arrays. -/
def UU (D : Fin 2816 → Fin 4096 → EReal) (W : Fin 3 → Fin 2816 → EReal) (f : Fin 2816) (T : Fin 4096) : EReal :=
  W 2 f * D f T + W 1 f * later 1 (D f) T + W 0 f * later 2 (D f) T

theorem duG (c : Dev nD) (t : Fin cfg0.N) (r : Fin 256) (x : Fin 1408) :
    du (dG m c t) (nxG m c t) (wG m c t) r x = UU (DG m c) (WG m c) (cl t x) (tk t r) := by
  unfold du UU
  rw [upG m 1 _ Nat.one_pos, upG m 2 _ Nat.two_pos, wG_at, wG_at, wG_at, dG_at]

theorem duV (c : Dev nD) (t : Fin cfg0.N) (r : Fin 256) (x : Fin 1408) :
    du (dV m c t) (nxV m c t) (wV m c t) r x = UU (DV m c) (WV m c) (cl t x) (tk t r) := by
  unfold du UU
  rw [upV m 1 _ Nat.one_pos, upV m 2 _ Nat.two_pos, wV_at, wV_at, wV_at, dV_at]

/-- An accumulated block of a column half, when it is written back: the sum over all tokens. -/
theorem total (f : (n : ℕ) → n < cfg0.N → EReal) (g : Fin 2816 → Fin 4096 → EReal) (x : Fin 1408)
    (h : ∀ t : Fin cfg0.N, f t.val t.isLt = (if t.val % 16 = 0 then 0 else f (t.val - 1) (pred_lt t)) + ∑ r : Fin 256, g (cl t x) (tk t r))
    (t : Fin cfg0.N) (ht : t.val % 16 = 15) : f t.val t.isLt = ∑ T, g (cl t x) T := by
  rw [Pipeline.eq_sum_fin_of_reset_step_of_flush f 16 (0 : EReal) (fun t => ∑ r : Fin 256, g (cl t x) (tk t r))
    (fun t h0 => by rw [h t, if_pos h0]) (fun t h0 => by rw [h t, if_neg h0]) t ht, zero_add, ← sum_tok]
  have h32 := lt32 t
  refine Finset.sum_congr rfl fun s _ => Finset.sum_congr rfl fun r _ => ?_
  have e1 : cl ⟨16 * (t.val / 16) + s.val, Pipeline.run_point_lt_of_flush t ht s⟩ x = cl t x := Fin.ext (by simp only [cl]; omega)
  have e2 : tk ⟨16 * (t.val / 16) + s.val, Pipeline.run_point_lt_of_flush t ht s⟩ r = tok s r := Fin.ext (by simp only [tk, tok]; omega)
  rw [e1, e2]

end Cert.KernelIdeal.Point

end
-- ==== Proof.Final.lean ====
module
public import proofs.«01_k».proof.Proof.Point
@[expose] public section
set_option maxRecDepth 16384
noncomputable section

/-! The result arrays after the run, over the arrays at the kernel's entry. -/

namespace Cert.KernelIdeal.Final
open Cert.KernelIdeal Cert.KernelIdeal.Gen Idealize.ShloMosaic Idealize.ShloMosaic.TcCoe Idealize.SL.Sem
open Idealize.ShloMosaic.Pipeline (Dat)
open Cert.KernelIdeal.Pay Cert.KernelIdeal.Case Cert.KernelIdeal.Point Cert.Shift
variable (m : (ℓ : Loc nD τ sig) → Buf (Elt Ideal) ℓ)

theorem odx : ∀ t : Fin cfg0.N, win0_9.index t = ![15 - t.val % 16, t.val / 16] ∧ win0_10.index t = ![15 - t.val % 16, t.val / 16]
    ∧ win0_11.index t = ![0, t.val / 16, 0, 0] ∧ win0_12.index t = ![0, t.val / 16] ∧ win0_13.index t = ![0, t.val / 16]
    ∧ win0_14.index t = ![0, t.val / 16] ∧ win0_15.index t = ![0, t.val / 16] :=
  (by decide +kernel : ∀ t : Fin grid0.N, _)

/-- A result array of two axes from a function of column and row. -/
def arr {a b : ℕ} (g : Fin b → Fin a → EReal) : (⟨2, ![a, b]⟩ : Shape).Idx → EReal := fun i => g (i 1) (i 0)

theorem arr_at {a b : ℕ} (g : Fin b → Fin a → EReal) (i : (⟨2, ![a, b]⟩ : Shape).Idx) (x : Fin b) (y : Fin a)
    (h0 : (i 0 : ℕ) = y) (h1 : (i 1 : ℕ) = x) : g x y = arr g i := by
  unfold arr
  rw [show i 0 = y from Fin.ext h0, show i 1 = x from Fin.ext h1]

/-- The taps' gradient: each row pairs the result's gradient, moved later, with the projection. -/
def taps (D U : Fin 2816 → Fin 4096 → EReal) (f : Fin 2816) (k : Fin 3) : EReal :=
  if k = 0 then ∑ T, later 2 (D f) T * U f T else if k = 1 then ∑ T, later 1 (D f) T * U f T else ∑ T, D f T * U f T

/-- The weight gradient: halves of the gate and the value, each in two halves of columns. -/
def wgrad (H : Fin 4096 → Fin 1024 → EReal) (A B : Fin 2816 → Fin 4096 → EReal) (a b : Fin 2) (k : Fin 1024) (x : Fin 1408) : EReal :=
  if a = 0 then ∑ T, H T k * A ⟨1408 * b + x, by omega⟩ T else ∑ T, H T k * B ⟨1408 * b + x, by omega⟩ T

theorem wgrad_at (H : Fin 4096 → Fin 1024 → EReal) (A B : Fin 2816 → Fin 4096 → EReal) (i : S2x2x1024x1408.Idx) (a b : Fin 2)
    (k : Fin 1024) (x : Fin 1408) (h0 : (i 0 : ℕ) = a) (h1 : (i 1 : ℕ) = b) (h2 : (i 2 : ℕ) = k) (h3 : (i 3 : ℕ) = x) :
    wgrad H A B a b k x = wgrad H A B (i 0) (i 1) (i 2) (i 3) := by
  rw [show i 0 = a from Fin.ext h0, show i 1 = b from Fin.ext h1, show i 2 = k from Fin.ext h2, show i 3 = x from Fin.ext h3]

theorem out9 (c : Dev nD) : (dats m 0 c).arrAt 9 (cfgs 0).N = arr (UU (DG m c) (WG m c)) := by
  refine (dats m 0 c).arrAt_eq_of_covers 9 _ (by decide +kernel) fun t hf y => ?_
  blk_simp
  idx_vars y
  rw [after0_9]
  refine (outG m c t _ _).trans <| (duG m c t _ _).trans <| arr_at _ _ _ _ ?_ ?_
  · blk_simp [odx t] <;> first | omega | (simp only [tk, cl]; omega)
  · blk_simp [odx t] <;> first | omega | (simp only [tk, cl]; omega)

theorem out10 (c : Dev nD) : (dats m 0 c).arrAt 10 (cfgs 0).N = arr (UU (DV m c) (WV m c)) := by
  refine (dats m 0 c).arrAt_eq_of_covers 10 _ (by decide +kernel) fun t hf y => ?_
  blk_simp
  idx_vars y
  rw [after0_10]
  refine (outV m c t _ _).trans <| (duV m c t _ _).trans <| arr_at _ _ _ _ ?_ ?_
  · blk_simp [odx t] <;> first | omega | (simp only [tk, cl]; omega)
  · blk_simp [odx t] <;> first | omega | (simp only [tk, cl]; omega)

theorem out12 (c : Dev nD) : (dats m 0 c).arrAt 12 (cfgs 0).N = arr (taps (DG m c) (UG m c)) := by
  refine (dats m 0 c).arrAt_eq_of_covers 12 _ (by decide +kernel) fun t hf y => ?_
  blk_simp
  idx_vars y
  rw [after0_12]
  have hr := (flush0_12 t).mp hf
  refine Eq.trans (b := taps (DG m c) (UG m c) (cl t y1) y0) ?_ (arr_at _ _ _ _ ?_ ?_)
  · obtain rfl | rfl | rfl : y0 = 0 ∨ y0 = 1 ∨ y0 = 2 := by omega
    · refine (total (fun n h => (outsAt0 m c n h).2.2.2.1 (ix2 0 y1)) (fun f T => later 2 (DG m c f) T * UG m c f T) y1 (fun t => ?_) t hr).trans (if_pos rfl).symm
      refine (rowG0 m c t y1).trans (congrArg _ (Finset.sum_congr rfl fun r _ => ?_))
      rw [upG m 2 _ Nat.two_pos, uG_at]
    · refine (total (fun n h => (outsAt0 m c n h).2.2.2.1 (ix2 1 y1)) (fun f T => later 1 (DG m c f) T * UG m c f T) y1 (fun t => ?_) t hr).trans ?_
      · refine (rowG1 m c t y1).trans (congrArg _ (Finset.sum_congr rfl fun r _ => ?_))
        rw [upG m 1 _ Nat.one_pos, uG_at]
      · exact ((if_neg (by decide)).trans (if_pos rfl)).symm
    · refine (total (fun n h => (outsAt0 m c n h).2.2.2.1 (ix2 2 y1)) (fun f T => DG m c f T * UG m c f T) y1 (fun t => ?_) t hr).trans ?_
      · refine (rowG2 m c t y1).trans (congrArg _ (Finset.sum_congr rfl fun r _ => ?_))
        rw [dG_at, uG_at]
      · exact ((if_neg (by decide)).trans (if_neg (by decide))).symm
  · blk_simp [odx t] <;> first | omega | (simp only [tk, cl]; omega)
  · blk_simp [odx t] <;> first | omega | (simp only [tk, cl]; omega)

theorem out13 (c : Dev nD) : (dats m 0 c).arrAt 13 (cfgs 0).N = arr (taps (DV m c) (UV m c)) := by
  refine (dats m 0 c).arrAt_eq_of_covers 13 _ (by decide +kernel) fun t hf y => ?_
  blk_simp
  idx_vars y
  rw [after0_13]
  have hr := (flush0_13 t).mp hf
  refine Eq.trans (b := taps (DV m c) (UV m c) (cl t y1) y0) ?_ (arr_at _ _ _ _ ?_ ?_)
  · obtain rfl | rfl | rfl : y0 = 0 ∨ y0 = 1 ∨ y0 = 2 := by omega
    · refine (total (fun n h => (outsAt0 m c n h).2.2.2.2.1 (ix2 0 y1)) (fun f T => later 2 (DV m c f) T * UV m c f T) y1 (fun t => ?_) t hr).trans (if_pos rfl).symm
      refine (rowV0 m c t y1).trans (congrArg _ (Finset.sum_congr rfl fun r _ => ?_))
      rw [upV m 2 _ Nat.two_pos, uV_at]
    · refine (total (fun n h => (outsAt0 m c n h).2.2.2.2.1 (ix2 1 y1)) (fun f T => later 1 (DV m c f) T * UV m c f T) y1 (fun t => ?_) t hr).trans ?_
      · refine (rowV1 m c t y1).trans (congrArg _ (Finset.sum_congr rfl fun r _ => ?_))
        rw [upV m 1 _ Nat.one_pos, uV_at]
      · exact ((if_neg (by decide)).trans (if_pos rfl)).symm
    · refine (total (fun n h => (outsAt0 m c n h).2.2.2.2.1 (ix2 2 y1)) (fun f T => DV m c f T * UV m c f T) y1 (fun t => ?_) t hr).trans ?_
      · refine (rowV2 m c t y1).trans (congrArg _ (Finset.sum_congr rfl fun r _ => ?_))
        rw [dV_at, uV_at]
      · exact ((if_neg (by decide)).trans (if_neg (by decide))).symm
  · blk_simp [odx t] <;> first | omega | (simp only [tk, cl]; omega)
  · blk_simp [odx t] <;> first | omega | (simp only [tk, cl]; omega)

theorem out14 (c : Dev nD) : (dats m 0 c).arrAt 14 (cfgs 0).N = arr (fun f _ => ∑ T, DG m c f T) := by
  refine (dats m 0 c).arrAt_eq_of_covers 14 _ (by decide +kernel) fun t hf y => ?_
  blk_simp
  idx_vars y
  rw [after0_14]
  have hr := (flush0_14 t).mp hf
  obtain rfl : y0 = 0 := Subsingleton.elim _ _
  refine (total (fun n h => (outsAt0 m c n h).2.2.2.2.2.1 (ix2 0 y1)) (fun f T => DG m c f T) y1 (fun t => ?_) t hr).trans
    (arr_at (fun f _ => ∑ T, DG m c f T) _ (cl t y1) 0 ?_ ?_)
  · refine (sumG m c t y1).trans (congrArg _ (Finset.sum_congr rfl fun r _ => ?_))
    rw [dG_at]
  · blk_simp [odx t] <;> first | omega | (simp only [tk, cl]; omega)
  · blk_simp [odx t] <;> first | omega | (simp only [tk, cl]; omega)

theorem out15 (c : Dev nD) : (dats m 0 c).arrAt 15 (cfgs 0).N = arr (fun f _ => ∑ T, DV m c f T) := by
  refine (dats m 0 c).arrAt_eq_of_covers 15 _ (by decide +kernel) fun t hf y => ?_
  blk_simp
  idx_vars y
  rw [after0_15]
  have hr := (flush0_15 t).mp hf
  obtain rfl : y0 = 0 := Subsingleton.elim _ _
  refine (total (fun n h => (outsAt0 m c n h).2.2.2.2.2.2.1 (ix2 0 y1)) (fun f T => DV m c f T) y1 (fun t => ?_) t hr).trans
    (arr_at (fun f _ => ∑ T, DV m c f T) _ (cl t y1) 0 ?_ ?_)
  · refine (sumV m c t y1).trans (congrArg _ (Finset.sum_congr rfl fun r _ => ?_))
    rw [dV_at]
  · blk_simp [odx t] <;> first | omega | (simp only [tk, cl]; omega)
  · blk_simp [odx t] <;> first | omega | (simp only [tk, cl]; omega)

theorem out11 (c : Dev nD) : (dats m 0 c).arrAt 11 (cfgs 0).N
    = fun i => wgrad (HN m c) (UU (DG m c) (WG m c)) (UU (DV m c) (WV m c)) (i 0) (i 1) (i 2) (i 3) := by
  refine (dats m 0 c).arrAt_eq_of_covers 11 _ (by decide +kernel) fun t hf y => ?_
  blk_simp
  idx_vars y
  rw [after0_11]
  have hr := (flush0_11 t).mp hf
  have h32 := lt32 t
  obtain rfl : y1 = 0 := Subsingleton.elim _ _
  refine Eq.trans (b := wgrad (HN m c) (UU (DG m c) (WG m c)) (UU (DV m c) (WV m c)) y0 ⟨t.val / 16, by omega⟩ y2 y3) ?_ ?_
  · obtain rfl | rfl : y0 = 0 ∨ y0 = 1 := by omega
    · refine (total (fun n h => (outsAt0 m c n h).2.2.1 (ix4 0 0 y2 y3)) (fun f T => HN m c T y2 * UU (DG m c) (WG m c) f T) y3 (fun t => ?_) t hr).trans (if_pos rfl).symm
      refine (slabG m c t y2 y3).trans (congrArg _ (Finset.sum_congr rfl fun r _ => ?_))
      rw [duG, hB_at]
    · refine (total (fun n h => (outsAt0 m c n h).2.2.1 (ix4 1 0 y2 y3)) (fun f T => HN m c T y2 * UU (DV m c) (WV m c) f T) y3 (fun t => ?_) t hr).trans (if_neg (by decide)).symm
      refine (slabV m c t y2 y3).trans (congrArg _ (Finset.sum_congr rfl fun r _ => ?_))
      rw [duV, hB_at]
  · refine wgrad_at _ _ _ _ _ _ _ _ ?_ ?_ ?_ ?_ <;> blk_simp [odx t] <;> first | omega | (dsimp only; omega)

end Cert.KernelIdeal.Final

end
-- ==== Proof.Host.lean ====
module
public import proofs.«01_k».proof.Proof.Gen.KernelIdeal.Frame
public import proofs.«01_k».proof.Proof.Gen.ReferenceIdeal.Read
public import Idealize.ShloMosaic.Lib.Pointwise
public import Idealize.ShloMosaic.Lib.Claim
@[expose] public section
set_option maxRecDepth 16384
noncomputable section

/-! The arrays at the kernel's entry: the forward values prepared on the host are the reference's own. -/

namespace Cert.KernelIdeal.Host
open Cert.KernelIdeal Cert.KernelIdeal.Gen Idealize.ShloMosaic Idealize.ShloMosaic.TcCoe Idealize.SL.Sem
open Cert.ReferenceIdeal.Read
variable (m : (ℓ : Loc nD τ sig) → Buf (Elt Ideal) ℓ)

abbrev a0 (c : Dev nD) : FVec Ideal S4096x1024 .f32 := m ((c : Thread nD τ).loc main_arg0)
abbrev a1 (c : Dev nD) : FVec Ideal S1024x5632 .f32 := m ((c : Thread nD τ).loc main_arg1)
abbrev a2 (c : Dev nD) : FVec Ideal S3x5632 .f32 := m ((c : Thread nD τ).loc main_arg2)
abbrev a3 (c : Dev nD) : FVec Ideal S1x5632 .f32 := m ((c : Thread nD τ).loc main_arg3)
abbrev a4 (c : Dev nD) : FVec Ideal S2816x1024 .f32 := m ((c : Thread nD τ).loc main_arg4)
abbrev a5 (c : Dev nD) : FVec Ideal S4096x1024 .f32 := m ((c : Thread nD τ).loc main_arg5)

theorem e2 (c : Dev nD) : V m c main_arg2 = a2 m c := by
  exact V_main_arg2 m c
theorem e37 (c : Dev nD) : V m c main_v37 = fun i => a0 m c i := by
  entry_read
  rfl
theorem e42 (c : Dev nD) : V m c main_v42 = fun i => a5 m c i := by
  entry_read
  rfl
theorem e43 (c : Dev nD) : V m c main_v43 = fun i => a4 m c i := by
  entry_read
  rfl
theorem s38 (c : Dev nD) :
    V m c main_v38 = extractStridedSlice S4096x2816 ![0, 0] (val_main_v0 (F := Ideal) (a0 m c) (a1 m c)) slices_S4096x5632_S4096x2816_0_0 := by
  entry_read
  rfl
theorem s39 (c : Dev nD) :
    V m c main_v39 = extractStridedSlice S4096x2816 ![0, 2816] (val_main_v0 (F := Ideal) (a0 m c) (a1 m c)) slices_S4096x5632_S4096x2816_0_2816 := by
  entry_read
  rfl
theorem e38 (c : Dev nD) (T : Fin 4096) (f : Fin 2816) :
    (V m c main_v38 (ix2 T f) : EReal) = val_main_v0 (F := Ideal) (a0 m c) (a1 m c) (ix2 T ⟨f, by omega⟩) := by
  rw [s38]
  pointwise
theorem e39 (c : Dev nD) (T : Fin 4096) (f : Fin 2816) :
    (V m c main_v39 (ix2 T f) : EReal) = val_main_v0 (F := Ideal) (a0 m c) (a1 m c) (ix2 T ⟨2816 + f, by omega⟩) := by
  rw [s39]
  pointwise
theorem s40 (c : Dev nD) :
    V m c main_v40 = fun i => (val_main_v33_0 (F := Ideal) (a0 m c) (a1 m c) (a2 m c) (a3 m c) i : EReal) * val_main_call0_v4 (F := Ideal) i := by
  entry_read
  rfl
theorem s41 (c : Dev nD) :
    V m c main_v41 = fun i => ((val_main_call0_v4 (F := Ideal) i : EReal) * val_main_v32 (F := Ideal) (a0 m c) (a1 m c) (a2 m c) (a3 m c) i)
        * val_main_v33_2 (F := Ideal) (a0 m c) (a1 m c) (a2 m c) (a3 m c) i
      + (val_main_v31 (F := Ideal) (a0 m c) (a1 m c) (a2 m c) (a3 m c) i * ((val_main_call0_v4 (F := Ideal) i : EReal) * val_main_v32 (F := Ideal) (a0 m c) (a1 m c) (a2 m c) (a3 m c) i))
        * val_main_v33_1 (F := Ideal) (a0 m c) (a1 m c) (a2 m c) (a3 m c) i := by
  entry_read
  rfl
theorem one_at (i) : (val_main_call0_v4 (F := Ideal) i : EReal) = 1 := by
  pointwise [val_main_call0_v4, val_main_call0_cst_0]
end Cert.KernelIdeal.Host

end
-- ==== Proof.RefRead.lean ====
/- The reference's results at an index: the gradient behind the gate as one array over tokens and columns, the gradient of
   the up projection's result as its taps at this token and the two after it, and the sums over the tokens. -/
module

public import proofs.«01_k».proof.Proof.Gen.ReferenceIdeal.Read
public import proofs.«01_k».proof.Proof.Shift
public import Idealize.ShloMosaic.Lib.Pointwise
public import Idealize.ShloMosaic.Lib.IdealHost

@[expose] public section

set_option maxRecDepth 16384

noncomputable section

namespace Cert.RefRead

open Cert.ReferenceIdeal Cert.ReferenceIdeal.Gen Cert.ReferenceIdeal.Read Idealize.ShloMosaic Idealize.ShloMosaic.TcCoe Idealize.SL.Sem
open Cert.Shift

/-- A sum over the first two axes of three, started from a value. -/
theorem sum_front (b s n : ℕ) (x : (⟨3, ![b, s, n]⟩ : Shape).Idx → EReal) (init : EReal)
    (h : (⟨3, ![b, s, n]⟩ : Shape).ReducesTo [0, 1] ⟨1, ![n]⟩) (c : Fin n) :
    Ideal.hostReduceAdd h x init (ix1 c) = init + ∑ i : Fin b, ∑ k : Fin s, x (ix3 i k c) := by
  have fib : ∀ i : (⟨3, ![b, s, n]⟩ : Shape).Idx, h.drop i = ix1 c ↔ ∃ k : Fin b × Fin s, ix3 k.1 k.2 c = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, Nat.one_pos⟩)).symm
    · rintro ⟨k, rfl⟩
      funext a
      apply Fin.ext
      match a with
      | ⟨0, _⟩ => rfl
  unfold Ideal.hostReduceAdd
  rw [Finset.sum_filter_eq_sum_of_fiber _ (fun k : Fin b × Fin s => (ix3 k.1 k.2 c : (⟨3, ![b, s, n]⟩ : Shape).Idx))
    (fun _ _ e => Prod.ext (congrFun e 0) (congrFun e 1)) fib x, Fintype.sum_prod_type]

/-- The reference sums an array over its tokens in two reductions, the second over axes of size one: one sum over the tokens. -/
theorem sum_twice (x : FVec Ideal S2x2048x5632 .f32) (i1 i2 : FVec Ideal S_ .f32) (h1 : i1 = constant S_ .f32 0x00000000#32)
    (h2 : i2 = constant S_ .f32 0x00000000#32) (f : Fin 4096 → EReal) (C : Fin 5632)
    (hx : ∀ (b : Fin 2) (s : Fin 2048), (x (ix3 b s C) : EReal) = f ⟨b * 2048 + s, by omega⟩) :
    Host.reduceAdd (F := Ideal) (shapeCast S1x1x5632 (Host.reduceAdd (F := Ideal) x i1 reducesTo_S2x2048x5632_S5632_d0_1 h_S_) shapeCasts_S5632_S1x1x5632)
      i2 reducesTo_S1x1x5632_S5632_d0_1 h_S_ (ix1 C) = ∑ T, f T := by
  subst h1 h2
  rw [ValueIdx.hostReduceAdd_apply, sum_front, Fin.sum_univ_one, Fin.sum_univ_one]
  pointwise
  rw [sum_front, ← sum_seq f]
  pointwise
  exact Finset.sum_congr rfl fun b _ => Finset.sum_congr rfl fun s _ => hx b s

variable (x0 : (⟨S4096x1024, .f32⟩ : BufTy).Contents (Elt Ideal)) (x1 : (⟨S1024x5632, .f32⟩ : BufTy).Contents (Elt Ideal))
  (x2 : (⟨S3x5632, .f32⟩ : BufTy).Contents (Elt Ideal)) (x3 : (⟨S1x5632, .f32⟩ : BufTy).Contents (Elt Ideal))
  (x4 : (⟨S2816x1024, .f32⟩ : BufTy).Contents (Elt Ideal)) (x5 : (⟨S4096x1024, .f32⟩ : BufTy).Contents (Elt Ideal))

/-- The gradient behind the gate, both halves side by side. -/
def dz (C : Fin 5632) (T : Fin 4096) : EReal := val_main_v42 (F := Ideal) x0 x1 x2 x3 x4 x5 (ix2 T C)

theorem v43_at (b : Fin 2) (s : Fin 2048) (C : Fin 5632) :
    val_main_v43 (F := Ideal) x0 x1 x2 x3 x4 x5 (ix3 b s C) = dz x0 x1 x2 x3 x4 x5 C ⟨b * 2048 + s, by omega⟩ := by
  unfold dz
  pointwise [val_main_v43]

/-- The first half is the gate's. -/
theorem dz_gate (f : Fin 2816) (T : Fin 4096) :
    dz x0 x1 x2 x3 x4 x5 ⟨f, by omega⟩ T = val_main_v39 (F := Ideal) x0 x1 x2 x3 x4 x5 (ix2 T f) := by
  unfold dz
  pointwise [val_main_v42, val_main_v40, val_main_v41, val_main_cst_2, val_main_cst_3]
  rw [dif_neg (fun h => h.1), zero_add]

/-- The second half is the value's. -/
theorem dz_value (f : Fin 2816) (T : Fin 4096) :
    dz x0 x1 x2 x3 x4 x5 ⟨2816 + f, by omega⟩ T = val_main_v37 (F := Ideal) x0 x1 x2 x3 x4 x5 (ix2 T f) := by
  unfold dz
  pointwise [val_main_v42, val_main_v40, val_main_v41, val_main_cst_2, val_main_cst_3]

/-- The bias's gradient: the sum over the tokens. -/
theorem v47_at (C : Fin 5632) :
    val_main_v47 (F := Ideal) x0 x1 x2 x3 x4 x5 (ix2 0 C) = ∑ T, dz x0 x1 x2 x3 x4 x5 C T := by
  rw [val_main_v47_apply]
  unfold val_main_v46 val_main_v45 val_main_v44
  have e := sum_twice (val_main_v43 (F := Ideal) x0 x1 x2 x3 x4 x5) (val_main_cst_4 (F := Ideal)) (val_main_cst_5 (F := Ideal)) rfl rfl (dz x0 x1 x2 x3 x4 x5 C) C (v43_at x0 x1 x2 x3 x4 x5 · · C)
  refine Eq.trans (congrArg _ (funext fun a => ?_)) e
  match a with
  | ⟨0, _⟩ => rfl

/-- The gradient of the up projection's result: this token's tap, the next one's and the one after. -/
theorem v82_at (T : Fin 4096) (C : Fin 5632) :
    val_main_v82 (F := Ideal) x0 x1 x2 x3 x4 x5 (ix2 T C) = (x2 (ix2 2 C) : EReal) * dz x0 x1 x2 x3 x4 x5 C T
      + (x2 (ix2 1 C) : EReal) * later 1 (dz x0 x1 x2 x3 x4 x5 C) T + (x2 (ix2 0 C) : EReal) * later 2 (dz x0 x1 x2 x3 x4 x5 C) T := by
  pointwise [val_main_v82, val_main_v81, val_main_v80, val_main_v79, val_main_v77, val_main_v76, val_main_v75, val_main_v66, val_main_v65, val_main_v57, val_main_v56, val_main_v49, val_main_v48, val_main_v23, val_main_v22, val_main_v21, val_main_v17, val_main_v16, val_main_v15, val_main_v12, val_main_v11, val_main_v10, val_main_cst_15, val_main_cst_16]
  unfold later
  congr 1
  · congr 1
    · rw [v43_at]
      exact congrArg (fun k => (x2 (ix2 2 C) : EReal) * dz x0 x1 x2 x3 x4 x5 C k) (Fin.ext (by dsimp only; omega))
    · split_ifs with h h' h'
      · rw [v43_at]
        exact congrArg (fun k => (x2 (ix2 1 C) : EReal) * dz x0 x1 x2 x3 x4 x5 C k) (Fin.ext (by dsimp only; omega))
      · exact absurd h (by omega)
      · exact absurd h (by omega)
      · rw [mul_zero]
  · split_ifs with h h' h'
    · rw [v43_at]
      exact congrArg (fun k => (x2 (ix2 0 C) : EReal) * dz x0 x1 x2 x3 x4 x5 C k) (Fin.ext (by dsimp only; omega))
    · exact absurd h (by omega)
    · exact absurd h (by omega)
    · rw [mul_zero]

/-- The weight's gradient, by blocks of columns. -/
theorem v86_at (a b : Fin 2) (k : Fin 1024) (c : Fin 1408) :
    val_main_v86 (F := Ideal) x0 x1 x2 x3 x4 x5 (ix4 a b k c)
      = ∑ T : Fin 4096, (val_main_v82 (F := Ideal) x0 x1 x2 x3 x4 x5 (ix2 T ⟨a * 2816 + b * 1408 + c, by omega⟩) : EReal) * x0 (ix2 T k) := by
  pointwise [val_main_v86, val_main_v85, val_main_v84, val_main_v83]

/-- The up projection's result, by sequence. -/
theorem v1_at (b : Fin 2) (s : Fin 2048) (C : Fin 5632) :
    val_main_v1 (F := Ideal) x0 x1 (ix3 b s C) = val_main_v0 (F := Ideal) x0 x1 (ix2 ⟨b * 2048 + s, by omega⟩ C) := by
  pointwise [val_main_v1]

/-- The up projection's result two tokens before. -/
theorem v4_at (b : Fin 2) (s : Fin 2048) (C : Fin 5632) :
    val_main_v4 (F := Ideal) x0 x1 (ix3 b s C) = before 2 (fun T => val_main_v0 (F := Ideal) x0 x1 (ix2 T C)) ⟨b * 2048 + s, by omega⟩ := by
  pointwise [val_main_v4, val_main_v2, val_main_v3, val_main_v1, val_main_cst]
  unfold before
  by_cases h : (s : ℕ) < 2
  · rw [dif_pos h, dif_neg (by dsimp only; omega)]
  · rw [dif_neg h, dif_pos (by dsimp only; omega)]
    exact congrArg (fun k => val_main_v0 (F := Ideal) x0 x1 (ix2 k C)) (Fin.ext (by dsimp only; omega))

/-- The up projection's result one token before. -/
theorem v8_at (b : Fin 2) (s : Fin 2048) (C : Fin 5632) :
    val_main_v8 (F := Ideal) x0 x1 (ix3 b s C) = before 1 (fun T => val_main_v0 (F := Ideal) x0 x1 (ix2 T C)) ⟨b * 2048 + s, by omega⟩ := by
  pointwise [val_main_v8, val_main_v6, val_main_v5, val_main_v7, val_main_v2, val_main_v1, val_main_cst, val_main_cst_0]
  unfold before
  by_cases h : (s : ℕ) < 1
  · rw [dif_pos h, dif_neg (by dsimp only; omega)]
  · rw [dif_neg h, dif_pos (by dsimp only; omega)]
    exact congrArg (fun k => val_main_v0 (F := Ideal) x0 x1 (ix2 k C)) (Fin.ext (by dsimp only; omega))

/-- The three rows of the taps' gradient are the three reductions' sums. -/
theorem v73_at (C : Fin 5632) :
    val_main_v73 (F := Ideal) x0 x1 x2 x3 x4 x5 (ix2 0 C) = val_main_v70 (F := Ideal) x0 x1 x2 x3 x4 x5 (ix1 C)
    ∧ val_main_v73 (F := Ideal) x0 x1 x2 x3 x4 x5 (ix2 1 C) = val_main_v61 (F := Ideal) x0 x1 x2 x3 x4 x5 (ix1 C)
    ∧ val_main_v73 (F := Ideal) x0 x1 x2 x3 x4 x5 (ix2 2 C) = val_main_v53 (F := Ideal) x0 x1 x2 x3 x4 x5 (ix1 C) := by
  refine ⟨?_, ?_, ?_⟩ <;> pointwise [val_main_v73, val_main_v72, val_main_v71, val_main_v64, val_main_v63, val_main_v62, val_main_v55, val_main_v54, val_main_cst_8, val_main_cst_11, val_main_cst_14]

theorem v53_at (C : Fin 5632) : val_main_v53 (F := Ideal) x0 x1 x2 x3 x4 x5 (ix1 C)
      = ∑ T, dz x0 x1 x2 x3 x4 x5 C T * val_main_v0 (F := Ideal) x0 x1 (ix2 T C) := by
  unfold val_main_v53 val_main_v52 val_main_v51
  refine sum_twice (val_main_v50 (F := Ideal) x0 x1 x2 x3 x4 x5) _ _ rfl rfl (fun T => dz x0 x1 x2 x3 x4 x5 C T * val_main_v0 (F := Ideal) x0 x1 (ix2 T C)) C fun b s => ?_
  rw [val_main_v50_apply]
  rw [← v43_at, ← v1_at]
  rfl

theorem v61_at (C : Fin 5632) : val_main_v61 (F := Ideal) x0 x1 x2 x3 x4 x5 (ix1 C)
      = ∑ T, dz x0 x1 x2 x3 x4 x5 C T * before 1 (fun T => val_main_v0 (F := Ideal) x0 x1 (ix2 T C)) T := by
  unfold val_main_v61 val_main_v60 val_main_v59
  refine sum_twice (val_main_v58 (F := Ideal) x0 x1 x2 x3 x4 x5) _ _ rfl rfl (fun T => dz x0 x1 x2 x3 x4 x5 C T * before 1 (fun T => val_main_v0 (F := Ideal) x0 x1 (ix2 T C)) T) C fun b s => ?_
  rw [val_main_v58_apply]
  rw [← v43_at, ← v8_at]
  rfl

theorem v70_at (C : Fin 5632) : val_main_v70 (F := Ideal) x0 x1 x2 x3 x4 x5 (ix1 C)
      = ∑ T, dz x0 x1 x2 x3 x4 x5 C T * before 2 (fun T => val_main_v0 (F := Ideal) x0 x1 (ix2 T C)) T := by
  unfold val_main_v70 val_main_v69 val_main_v68
  refine sum_twice (val_main_v67 (F := Ideal) x0 x1 x2 x3 x4 x5) _ _ rfl rfl (fun T => dz x0 x1 x2 x3 x4 x5 C T * before 2 (fun T => val_main_v0 (F := Ideal) x0 x1 (ix2 T C)) T) C fun b s => ?_
  rw [val_main_v67_apply]
  rw [← v43_at, ← v4_at]
  rfl

end Cert.RefRead

end
-- ==== Proof.Finite.lean ====
module
public import proofs.«01_k».proof.Proof.RefRead
public import Idealize.ShloMosaic.Lib.Pointwise
@[expose] public section
set_option maxRecDepth 16384
noncomputable section

/-! Over finite arguments the forward values are finite, and so the gate's gradient distributes. -/

namespace Cert.Finite
open Idealize.ShloMosaic Idealize.ShloMosaic.TcCoe Idealize.SL.Sem
open Cert.ReferenceIdeal Cert.ReferenceIdeal.Gen Cert.ReferenceIdeal.Read Cert.Shift Cert.RefRead

/-- A finite number. -/
def R (x : EReal) : Prop := ∃ r : ℝ, x = (r : EReal)

theorem R.add {x y : EReal} (hx : R x) (hy : R y) : R (x + y) := by
  obtain ⟨a, rfl⟩ := hx
  obtain ⟨b, rfl⟩ := hy
  exact ⟨a + b, (EReal.coe_add a b).symm⟩

theorem R.mul {x y : EReal} (hx : R x) (hy : R y) : R (x * y) := by
  obtain ⟨a, rfl⟩ := hx
  obtain ⟨b, rfl⟩ := hy
  exact ⟨a * b, (EReal.coe_mul a b).symm⟩

theorem R.sub {x y : EReal} (hx : R x) (hy : R y) : R (x - y) := by
  obtain ⟨a, rfl⟩ := hx
  obtain ⟨b, rfl⟩ := hy
  exact ⟨a - b, (EReal.coe_sub a b).symm⟩

theorem R.neg {x : EReal} (hx : R x) : R (-x) := by
  obtain ⟨a, rfl⟩ := hx
  exact ⟨-a, (EReal.coe_neg a).symm⟩

theorem R.zero : R 0 := ⟨0, EReal.coe_zero.symm⟩
theorem R.one : R 1 := ⟨1, EReal.coe_one.symm⟩

theorem R.sum {ι : Type*} (s : Finset ι) (f : ι → EReal) (h : ∀ i, R (f i)) : R (∑ i ∈ s, f i) := by
  classical
  induction s using Finset.induction_on with
  | empty => exact R.zero
  | insert a s ha ih => rw [Finset.sum_insert ha]; exact (h a).add ih

theorem R.of_ne {x : EReal} (h : x ≠ ⊤) (h' : x ≠ ⊥) : R x := ⟨x.toReal, (EReal.coe_toReal h h').symm⟩

/-- The product with a sum of finite numbers. -/
theorem R.distrib {d a b : EReal} (hd : R d) (ha : R a) (hb : R b) : d * (a + b) = d * a + d * b := by
  obtain ⟨d, rfl⟩ := hd
  obtain ⟨a, rfl⟩ := ha
  obtain ⟨b, rfl⟩ := hb
  rw [← EReal.coe_add, ← EReal.coe_mul, ← EReal.coe_mul, ← EReal.coe_mul, ← EReal.coe_add, mul_add]

theorem gate_alg {d v s g u : EReal} (hd : R d) (hv : R v) (hs : R s) (hg : R g) (hu : R u) :
    d * ((1 * v) * s + (g * (1 * v)) * u) = (d * v) * s + (g * (d * v)) * u := by
  rw [one_mul, hd.distrib (hv.mul hs) ((hg.mul hv).mul hu), mul_assoc g v u, mul_left_comm d g, ← mul_assoc d v s, ← mul_assoc d v u, mul_assoc g (d * v) u]

theorem r_logistic {g : EReal} (hg : R g) : R (Ideal.div 1 (1 + Ideal.exp (-g))) := by
  obtain ⟨r, rfl⟩ := hg
  have he : Ideal.exp (-(r : EReal)) = ((Real.exp (-r) : ℝ) : EReal) := by
    rw [← EReal.coe_neg]
    rfl
  have hy : (1 : EReal) + ((Real.exp (-r) : ℝ) : EReal) = ((1 + Real.exp (-r) : ℝ) : EReal) := by
    rw [EReal.coe_add, EReal.coe_one]
  rw [he, hy]
  unfold Ideal.div
  rw [if_neg (by
    intro h
    have : (1 + Real.exp (-r) : ℝ) = 0 := EReal.coe_eq_zero.mp h
    have := Real.exp_pos (-r)
    linarith), ← EReal.coe_inv]
  exact R.one.mul ⟨_, rfl⟩

/-- A number whose absolute value lies below infinity. -/
theorem R.of_abs {x : EReal} (h : FloatOps.cmpf (F := Ideal) (φ := .f32) .olt (max x (-x) : EReal) (⊤ : EReal) = 1#1) : R x := by
  have h' : max x (-x) < ⊤ := by
    by_contra hc
    have : Ideal.cmp .olt (max x (-x)) ⊤ = 1#1 := h
    change BitVec.ofBool (decide (max x (-x) < ⊤)) = 1#1 at this
    rw [decide_eq_false hc] at this
    exact absurd this (by decide)
  refine R.of_ne (fun e => ?_) fun e => ?_
  · exact absurd (lt_of_le_of_lt (le_max_left x (-x)) h') (by rw [e]; exact lt_irrefl _)
  · exact absurd (lt_of_le_of_lt (le_max_right x (-x)) h') (by rw [e, EReal.neg_bot]; exact lt_irrefl _)

variable (x0 : (⟨S4096x1024, .f32⟩ : BufTy).Contents (Elt Ideal)) (x1 : (⟨S1024x5632, .f32⟩ : BufTy).Contents (Elt Ideal))
  (x2 : (⟨S3x5632, .f32⟩ : BufTy).Contents (Elt Ideal)) (x3 : (⟨S1x5632, .f32⟩ : BufTy).Contents (Elt Ideal))
  (x4 : (⟨S2816x1024, .f32⟩ : BufTy).Contents (Elt Ideal)) (x5 : (⟨S4096x1024, .f32⟩ : BufTy).Contents (Elt Ideal))
  (h0 : ∀ i, R (x0 i)) (h1 : ∀ i, R (x1 i)) (h2 : ∀ i, R (x2 i)) (h3 : ∀ i, R (x3 i)) (h4 : ∀ i, R (x4 i)) (h5 : ∀ i, R (x5 i))
include h0 h1

theorem r0 (i) : R (val_main_v0 (F := Ideal) x0 x1 i) := by
  rw [val_main_v0_apply]
  exact R.sum _ _ fun k => (h0 _).mul (h1 _)

omit h0 h1 in
theorem rbefore (n : ℕ) (f : Fin 4096 → EReal) (hf : ∀ T, R (f T)) (T : Fin 4096) : R (before n f T) := by
  unfold before
  split_ifs
  · exact hf _
  · exact R.zero

include h2 h3

theorem r29 (b : Fin 2) (s : Fin 2048) (C : Fin 5632) : R (val_main_v29 (F := Ideal) x0 x1 x2 x3 (ix3 b s C)) := by
  have e4 := v4_at x0 x1 b s C
  have e8 := v8_at x0 x1 b s C
  have e1 := v1_at x0 x1 b s C
  have q4 : R (val_main_v4 (F := Ideal) x0 x1 (ix3 b s C)) := by rw [e4]; exact rbefore _ _ (fun T => r0 x0 x1 h0 h1 _) _
  have q8 : R (val_main_v8 (F := Ideal) x0 x1 (ix3 b s C)) := by rw [e8]; exact rbefore _ _ (fun T => r0 x0 x1 h0 h1 _) _
  have q1 : R (val_main_v1 (F := Ideal) x0 x1 (ix3 b s C)) := by rw [e1]; exact r0 x0 x1 h0 h1 _
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10]
  exact ((((h2 _).mul q4).add ((h2 _).mul q8)).add ((h2 _).mul q1)).add (h3 _)

theorem r30 (T : Fin 4096) (C : Fin 5632) : R (val_main_v30 (F := Ideal) x0 x1 x2 x3 (ix2 T C)) := by
  pointwise [val_main_v30]
  exact r29 x0 x1 x2 x3 h0 h1 h2 h3 _ _ _

theorem r31 (T : Fin 4096) (f : Fin 2816) : R (val_main_v31 (F := Ideal) x0 x1 x2 x3 (ix2 T f)) := by
  pointwise [val_main_v31]
  exact r30 x0 x1 x2 x3 h0 h1 h2 h3 _ _

theorem r32 (T : Fin 4096) (f : Fin 2816) : R (val_main_v32 (F := Ideal) x0 x1 x2 x3 (ix2 T f)) := by
  pointwise [val_main_v32]
  exact r30 x0 x1 x2 x3 h0 h1 h2 h3 _ _

theorem rsig (T : Fin 4096) (f : Fin 2816) : R (val_main_v33_2 (F := Ideal) x0 x1 x2 x3 (ix2 T f)) := by
  have hg := r31 x0 x1 x2 x3 h0 h1 h2 h3 T f
  pointwise [val_main_v33_2, val_main_call0_v4, val_main_call0_cst_0, val_main_call0_v3, val_main_call0_v2, val_main_call0_cst, val_main_call0_v1, val_main_call0_v0]
  exact r_logistic hg

theorem rsig1 (T : Fin 4096) (f : Fin 2816) : R (val_main_v33_1 (F := Ideal) x0 x1 x2 x3 (ix2 T f)) := by
  have hs := rsig x0 x1 x2 x3 h0 h1 h2 h3 T f
  pointwise [val_main_v33_1, val_main_call0_v7, val_main_call0_v6, val_main_call0_cst_1]
  exact hs.mul (R.one.sub hs)

omit h0 h1 h2 h3 in
include h4 h5 in
theorem r36 (i) : R (val_main_v36 (F := Ideal) x4 x5 i) := by
  rw [val_main_v36_apply]
  exact R.sum _ _ fun k => (h5 _).mul (h4 _)

omit h0 h1 h2 h3 in
/-- The value's gradient. -/
theorem value_eq (T : Fin 4096) (f : Fin 2816) (da : EReal) (hd : da = val_main_v36 (F := Ideal) x4 x5 (ix2 T f)) :
    da * (val_main_v33_0 (F := Ideal) x0 x1 x2 x3 (ix2 T f) * 1) = dz x0 x1 x2 x3 x4 x5 ⟨2816 + f, by omega⟩ T := by
  rw [dz_value, val_main_v37_apply, hd, mul_one]
  exact mul_comm _ _

include h4 h5 in
/-- The gate's gradient. -/
theorem gate_eq (T : Fin 4096) (f : Fin 2816) (da : EReal) (hd : da = val_main_v36 (F := Ideal) x4 x5 (ix2 T f)) :
    da * ((1 * val_main_v32 (F := Ideal) x0 x1 x2 x3 (ix2 T f)) * val_main_v33_2 (F := Ideal) x0 x1 x2 x3 (ix2 T f)
      + (val_main_v31 (F := Ideal) x0 x1 x2 x3 (ix2 T f) * (1 * val_main_v32 (F := Ideal) x0 x1 x2 x3 (ix2 T f)))
        * val_main_v33_1 (F := Ideal) x0 x1 x2 x3 (ix2 T f)) = dz x0 x1 x2 x3 x4 x5 ⟨f, by omega⟩ T := by
  have e : val_main_v39 (F := Ideal) x0 x1 x2 x3 x4 x5 (ix2 T f)
      = ((val_main_v36 (F := Ideal) x4 x5 (ix2 T f) : EReal) * val_main_v32 (F := Ideal) x0 x1 x2 x3 (ix2 T f)) * val_main_v33_2 (F := Ideal) x0 x1 x2 x3 (ix2 T f)
        + ((val_main_v31 (F := Ideal) x0 x1 x2 x3 (ix2 T f) : EReal) * (val_main_v36 (F := Ideal) x4 x5 (ix2 T f) * val_main_v32 (F := Ideal) x0 x1 x2 x3 (ix2 T f)))
          * val_main_v33_1 (F := Ideal) x0 x1 x2 x3 (ix2 T f) := rfl
  have hv := r32 x0 x1 x2 x3 h0 h1 h2 h3 T f
  have hg := r31 x0 x1 x2 x3 h0 h1 h2 h3 T f
  have hs := rsig x0 x1 x2 x3 h0 h1 h2 h3 T f
  have hs1 := rsig1 x0 x1 x2 x3 h0 h1 h2 h3 T f
  have ha := r36 x4 x5 h4 h5 (ix2 T f)
  rw [dz_gate, e, hd]
  exact gate_alg ha hv hs hg hs1

end Cert.Finite

end
-- ==== Proof.Result.lean ====
module
public import proofs.«01_k».proof.Proof.Final
public import proofs.«01_k».proof.Proof.Host
public import proofs.«01_k».proof.Proof.Finite
@[expose] public section
set_option maxRecDepth 16384
noncomputable section

/-! The kernel's seven result arrays are the reference's values over the same arguments. -/

namespace Cert.KernelIdeal.Result
open Cert.KernelIdeal Cert.KernelIdeal.Gen Idealize.ShloMosaic Idealize.ShloMosaic.TcCoe Idealize.SL.Sem
open Cert.KernelIdeal.Host Cert.KernelIdeal.Point Cert.KernelIdeal.Final
open Cert.ReferenceIdeal.Read Cert.RefRead Cert.Finite Cert.Shift
variable (m : (ℓ : Loc nD τ sig) → Buf (Elt Ideal) ℓ)

/-- Every argument of a device is finite. -/
structure Fin6 (c : Dev nD) : Prop where
  h0 : ∀ i, R (a0 m c i)
  h1 : ∀ i, R (a1 m c i)
  h2 : ∀ i, R (a2 m c i)
  h3 : ∀ i, R (a3 m c i)
  h4 : ∀ i, R (a4 m c i)
  h5 : ∀ i, R (a5 m c i)

theorem da_at (c : Dev nD) (T : Fin 4096) (f : Fin 2816) :
    ∑ q : Fin 1024, DX m c T q * WD m c f q = val_main_v36 (F := Ideal) (a4 m c) (a5 m c) (ix2 T f) := by
  rw [val_main_v36_apply]
  refine Finset.sum_congr rfl fun q _ => ?_
  unfold DX WD
  rw [e42, e43]
  refine congrArg₂ (fun a b : EReal => a * b) (congrArg (a5 m c) ?_) (congrArg (a4 m c) ?_) <;> idx_ext

theorem DV_at (c : Dev nD) (T : Fin 4096) (f : Fin 2816) :
    DV m c f T = dz (a0 m c) (a1 m c) (a2 m c) (a3 m c) (a4 m c) (a5 m c) ⟨2816 + f, by omega⟩ T := by
  rw [← value_eq (a0 m c) (a1 m c) (a2 m c) (a3 m c) (a4 m c) (a5 m c) T f _ (da_at m c T f)]
  unfold DV CG
  rw [s40]
  dsimp only
  rw [one_at]

theorem DG_at (c : Dev nD) (h : Fin6 m c) (T : Fin 4096) (f : Fin 2816) :
    DG m c f T = dz (a0 m c) (a1 m c) (a2 m c) (a3 m c) (a4 m c) (a5 m c) ⟨f, by omega⟩ T := by
  rw [← gate_eq (a0 m c) (a1 m c) (a2 m c) (a3 m c) (a4 m c) (a5 m c) h.h0 h.h1 h.h2 h.h3 h.h4 h.h5 T f _ (da_at m c T f)]
  unfold DG CV
  rw [s41]
  dsimp only
  rw [one_at]

theorem DVf (c : Dev nD) (f : Fin 2816) :
    DV m c f = dz (a0 m c) (a1 m c) (a2 m c) (a3 m c) (a4 m c) (a5 m c) ⟨2816 + f, by omega⟩ := funext fun T => DV_at m c T f
theorem DGf (c : Dev nD) (h : Fin6 m c) (f : Fin 2816) :
    DG m c f = dz (a0 m c) (a1 m c) (a2 m c) (a3 m c) (a4 m c) (a5 m c) ⟨f, by omega⟩ := funext fun T => DG_at m c h T f

theorem UUG_at (c : Dev nD) (h : Fin6 m c) (f : Fin 2816) (T : Fin 4096) :
    UU (DG m c) (WG m c) f T = val_main_v82 (F := Ideal) (a0 m c) (a1 m c) (a2 m c) (a3 m c) (a4 m c) (a5 m c) (ix2 T ⟨f, by omega⟩) := by
  rw [v82_at]
  unfold UU WG
  rw [DGf m c h, e2]

theorem UUV_at (c : Dev nD) (f : Fin 2816) (T : Fin 4096) :
    UU (DV m c) (WV m c) f T = val_main_v82 (F := Ideal) (a0 m c) (a1 m c) (a2 m c) (a3 m c) (a4 m c) (a5 m c) (ix2 T ⟨2816 + f, by omega⟩) := by
  rw [v82_at]
  unfold UU WV
  rw [DVf m c, e2]

theorem final9 (c : Dev nD) (h : Fin6 m c) :
    (dats m 0 c).arrAt 9 (cfgs 0).N = val_main_v88 (F := Ideal) (a0 m c) (a1 m c) (a2 m c) (a3 m c) (a4 m c) (a5 m c) := by
  rw [out9]
  funext i
  idx_vars i
  refine (UUG_at m c h i1 i0).trans ?_
  pointwise [val_main_v88, val_main_v87]

theorem final10 (c : Dev nD) :
    (dats m 0 c).arrAt 10 (cfgs 0).N = val_main_v90 (F := Ideal) (a0 m c) (a1 m c) (a2 m c) (a3 m c) (a4 m c) (a5 m c) := by
  rw [out10]
  funext i
  idx_vars i
  refine (UUV_at m c i1 i0).trans ?_
  pointwise [val_main_v90, val_main_v89]

theorem final14 (c : Dev nD) (h : Fin6 m c) :
    (dats m 0 c).arrAt 14 (cfgs 0).N = val_main_v93 (F := Ideal) (a0 m c) (a1 m c) (a2 m c) (a3 m c) (a4 m c) (a5 m c) := by
  rw [out14]
  funext i
  idx_vars i
  obtain rfl : i0 = 0 := Subsingleton.elim _ _
  have e : arr (fun f _ => ∑ T, DG m c f T) (ix2 (0 : Fin 1) i1) = ∑ T, dz (a0 m c) (a1 m c) (a2 m c) (a3 m c) (a4 m c) (a5 m c) ⟨i1, by omega⟩ T :=
    congrArg (fun g : Fin 4096 → EReal => ∑ T, g T) (DGf m c h i1)
  refine e.trans <| (v47_at (a0 m c) (a1 m c) (a2 m c) (a3 m c) (a4 m c) (a5 m c) _).symm.trans ?_
  pointwise [val_main_v93]

theorem final15 (c : Dev nD) :
    (dats m 0 c).arrAt 15 (cfgs 0).N = val_main_v94 (F := Ideal) (a0 m c) (a1 m c) (a2 m c) (a3 m c) (a4 m c) (a5 m c) := by
  rw [out15]
  funext i
  idx_vars i
  obtain rfl : i0 = 0 := Subsingleton.elim _ _
  have e : arr (fun f _ => ∑ T, DV m c f T) (ix2 (0 : Fin 1) i1) = ∑ T, dz (a0 m c) (a1 m c) (a2 m c) (a3 m c) (a4 m c) (a5 m c) ⟨2816 + i1, by omega⟩ T :=
    congrArg (fun g : Fin 4096 → EReal => ∑ T, g T) (DVf m c i1)
  refine e.trans <| (v47_at (a0 m c) (a1 m c) (a2 m c) (a3 m c) (a4 m c) (a5 m c) _).symm.trans ?_
  pointwise [val_main_v94]

theorem UGf (c : Dev nD) (f : Fin 2816) : UG m c f = fun T => val_main_v0 (F := Ideal) (a0 m c) (a1 m c) (ix2 T ⟨f, by omega⟩) :=
  funext fun T => e38 m c T f
theorem UVf (c : Dev nD) (f : Fin 2816) : UV m c f = fun T => val_main_v0 (F := Ideal) (a0 m c) (a1 m c) (ix2 T ⟨2816 + f, by omega⟩) :=
  funext fun T => e39 m c T f

/-- The taps' gradient at a column is the reference's three rows. -/
theorem taps_at (x0 : (⟨S4096x1024, .f32⟩ : BufTy).Contents (Elt Ideal)) (x1 : (⟨S1024x5632, .f32⟩ : BufTy).Contents (Elt Ideal))
    (x2 : (⟨S3x5632, .f32⟩ : BufTy).Contents (Elt Ideal)) (x3 : (⟨S1x5632, .f32⟩ : BufTy).Contents (Elt Ideal))
    (x4 : (⟨S2816x1024, .f32⟩ : BufTy).Contents (Elt Ideal)) (x5 : (⟨S4096x1024, .f32⟩ : BufTy).Contents (Elt Ideal))
    (D U : Fin 2816 → Fin 4096 → EReal) (f : Fin 2816) (C : Fin 5632) (k : Fin 3)
    (hD : D f = dz x0 x1 x2 x3 x4 x5 C) (hU : U f = fun T => val_main_v0 (F := Ideal) x0 x1 (ix2 T C)) :
    taps D U f k = val_main_v73 (F := Ideal) x0 x1 x2 x3 x4 x5 (ix2 k C) := by
  obtain ⟨q0, q1, q2⟩ := v73_at x0 x1 x2 x3 x4 x5 C
  unfold taps
  rw [hD, hU]
  obtain rfl | rfl | rfl : k = 0 ∨ k = 1 ∨ k = 2 := by omega
  · rw [if_pos rfl, q0, v70_at]
    exact sum_later_mul 2 _ _
  · rw [if_neg (by decide), if_pos rfl, q1, v61_at]
    exact sum_later_mul 1 _ _
  · rw [if_neg (by decide), if_neg (by decide), q2, v53_at]

theorem final12 (c : Dev nD) (h : Fin6 m c) :
    (dats m 0 c).arrAt 12 (cfgs 0).N = val_main_v91 (F := Ideal) (a0 m c) (a1 m c) (a2 m c) (a3 m c) (a4 m c) (a5 m c) := by
  rw [out12]
  funext i
  idx_vars i
  refine (taps_at (a0 m c) (a1 m c) (a2 m c) (a3 m c) (a4 m c) (a5 m c) (DG m c) (UG m c) i1 ⟨i1, by omega⟩ i0 (DGf m c h i1) (UGf m c i1)).trans ?_
  pointwise [val_main_v91]

theorem final13 (c : Dev nD) :
    (dats m 0 c).arrAt 13 (cfgs 0).N = val_main_v92 (F := Ideal) (a0 m c) (a1 m c) (a2 m c) (a3 m c) (a4 m c) (a5 m c) := by
  rw [out13]
  funext i
  idx_vars i
  refine (taps_at (a0 m c) (a1 m c) (a2 m c) (a3 m c) (a4 m c) (a5 m c) (DV m c) (UV m c) i1 ⟨2816 + i1, by omega⟩ i0 (DVf m c i1) (UVf m c i1)).trans ?_
  pointwise [val_main_v92]

theorem HN_at (c : Dev nD) (T : Fin 4096) (k : Fin 1024) : HN m c T k = a0 m c (ix2 T k) := by
  unfold HN
  rw [e37]

theorem final11 (c : Dev nD) (h : Fin6 m c) :
    (dats m 0 c).arrAt 11 (cfgs 0).N = val_main_v86 (F := Ideal) (a0 m c) (a1 m c) (a2 m c) (a3 m c) (a4 m c) (a5 m c) := by
  rw [out11]
  funext i
  idx_vars i
  rw [v86_at]
  show wgrad (HN m c) (UU (DG m c) (WG m c)) (UU (DV m c) (WV m c)) i0 i1 i2 i3 = _
  unfold wgrad
  obtain rfl | rfl : i0 = 0 ∨ i0 = 1 := by omega
  · rw [if_pos rfl]
    refine Finset.sum_congr rfl fun T _ => ?_
    rw [HN_at, UUG_at m c h, mul_comm]
    refine congrArg₂ (fun a b : EReal => a * b) (congrArg _ ?_) rfl
    idx_ext
  · rw [if_neg (by decide)]
    refine Finset.sum_congr rfl fun T _ => ?_
    rw [HN_at, UUV_at m c, mul_comm]
    refine congrArg₂ (fun a b : EReal => a * b) (congrArg _ ?_) rfl
    idx_ext

end Cert.KernelIdeal.Result

end
-- ==== Proof.Pre.lean ====
module
public import proofs.«01_k».proof.Proof.Result
public import proofs.«01_k».proof.Defs
@[expose] public section
set_option maxRecDepth 16384
noncomputable section

/-! The precondition of the claim says that every argument is finite. -/

namespace Cert.KernelIdeal.Result
open Cert.KernelIdeal Cert.KernelIdeal.Gen Idealize.ShloMosaic Idealize.ShloMosaic.TcCoe Idealize.SL.Sem
open Cert.KernelIdeal.Host Cert.Finite

theorem preFacts : Cert.Pre_finite.Facts where
  bcast_S_S4096x1024 := by decide
  bcast_S_S1024x5632 := by decide
  bcast_S_S3x5632 := by decide
  bcast_S_S1x5632 := by decide
  bcast_S_S2816x1024 := by decide

theorem fin6 [Cert.Pre_finite.Facts] (m : (ℓ : Loc nD τ sig) → Buf (Elt Ideal) ℓ) (h : Cert.Pre_KernelIdeal_finite m) (c : Dev nD) : Fin6 m c := by
  obtain ⟨p0, p1, p2, p3, p4, p5⟩ := h c
  refine ⟨fun i => R.of_abs ?_, fun i => R.of_abs ?_, fun i => R.of_abs ?_, fun i => R.of_abs ?_, fun i => R.of_abs ?_, fun i => R.of_abs ?_⟩
  · have q := congrFun p0 i
    pointwise [Cert.Pre_finite.fn] at q
    exact q
  · have q := congrFun p1 i
    pointwise [Cert.Pre_finite.fn] at q
    exact q
  · have q := congrFun p2 i
    pointwise [Cert.Pre_finite.fn] at q
    exact q
  · have q := congrFun p3 i
    pointwise [Cert.Pre_finite.fn] at q
    exact q
  · have q := congrFun p4 i
    pointwise [Cert.Pre_finite.fn] at q
    exact q
  · have q := congrFun p5 i
    pointwise [Cert.Pre_finite.fn] at q
    exact q

end Cert.KernelIdeal.Result

end
-- ==== Proof.Down.lean ====
/- The down projection's weight gradient: each half of the columns adds the four blocks of 1024 tokens, from zero. -/
module
public import proofs.«01_k».proof.Proof.Gen.Kernel2Ideal.Value
public import proofs.«01_k».proof.Proof.Gen.Reference2Ideal.Read
public import Idealize.ShloMosaic.Lib.Pointwise
public import Idealize.ShloMosaic.Lib.Claim
public import Idealize.ShloMosaic.Lib.Pipeline.ValueKit
public import Idealize.ShloMosaic.Lib.Pipeline.ReadBack
@[expose] public section
set_option maxRecDepth 16384
noncomputable section

namespace Cert.Kernel2Ideal.Down
open Cert.Kernel2Ideal Cert.Kernel2Ideal.Gen Cert.Kernel2Ideal.Value Idealize.ShloMosaic Idealize.ShloMosaic.TcCoe Idealize.SL.Sem
open Cert.Reference2Ideal.Read
variable (m : (ℓ : Loc nD τ sig) → Buf (Elt Ideal) ℓ)

/-- Four blocks of 1024 are 4096. -/
theorem sum_blocks (f : Fin 4096 → EReal) :
    ∑ s : Fin 4, ∑ r : Fin 1024, f ⟨1024 * s + r, by omega⟩ = ∑ T, f T := by
  rw [← Fintype.sum_prod_type' (f := fun (s : Fin 4) (r : Fin 1024) => f ⟨1024 * s + r, by omega⟩)]
  refine Fintype.sum_bijective (fun p : Fin 4 × Fin 1024 => (⟨1024 * p.1 + p.2, by omega⟩ : Fin 4096)) ⟨?_, ?_⟩ _ _ fun p => rfl
  · rintro ⟨s, r⟩ ⟨s', r'⟩ h
    have h := congrArg Fin.val h
    dsimp only at h
    exact Prod.ext (Fin.ext (by dsimp only; omega)) (Fin.ext (by dsimp only; omega))
  · intro T
    exact ⟨(⟨T / 1024, by omega⟩, ⟨T % 1024, by omega⟩), Fin.ext (by dsimp only; omega)⟩

abbrev a0 (c : Dev nD) : FVec Ideal S4096x2816 .f32 := m ((c : Thread nD τ).loc main_arg0)
abbrev a1 (c : Dev nD) : FVec Ideal S4096x1024 .f32 := m ((c : Thread nD τ).loc main_arg1)

theorem e0 (c : Dev nD) : V m c main_v0 = fun i => a0 m c i := by
  entry_read
  rfl
theorem e1 (c : Dev nD) : V m c main_v1 = fun i => a1 m c i := by
  entry_read
  rfl

theorem idx : ∀ t : Fin cfg0.N, win0_0.index t = ![t.val % 4, 0] ∧ win0_1.index t = ![t.val % 4, t.val / 4] :=
  (by decide +kernel : ∀ t : Fin grid0.N, _)

theorem lt8 (t : Fin cfg0.N) : t.val < 8 := lt_of_lt_of_eq t.isLt N_0

def A (c : Dev nD) (T : Fin 4096) (f : Fin 2816) : EReal := V m c main_v0 (ix2 T f)
def D (c : Dev nD) (T : Fin 4096) (q : Fin 1024) : EReal := V m c main_v1 (ix2 T q)
theorem A_at (c : Dev nD) (T : Fin 4096) (f : Fin 2816) : A m c T f = a0 m c (ix2 T f) := by
  unfold A; rw [e0]
theorem D_at (c : Dev nD) (T : Fin 4096) (q : Fin 1024) : D m c T q = a1 m c (ix2 T q) := by
  unfold D; rw [e1]

theorem b0_at (c : Dev nD) (t : Fin cfg0.N) (r : Fin 1024) (f : Fin 2816) :
    (iblk m c 0 t (ix2 r f) : EReal) = A m c ⟨1024 * (t.val % 4) + r, by omega⟩ f := by
  unfold A
  blk_ext [iblk, V, idx t]
theorem b1_at (c : Dev nD) (t : Fin cfg0.N) (r : Fin 1024) (q : Fin 512) :
    (iblk m c 1 t (ix2 r q) : EReal) = D m c ⟨1024 * (t.val % 4) + r, by omega⟩ ⟨512 * (t.val / 4) + q, by have := lt8 t; omega⟩ := by
  unfold D
  blk_ext [iblk, V, idx t]

/-- The body's product, added to what the block held. -/
theorem pay2_at (acc : Vec Ideal S2816x512 .f32) (x : Vec Ideal S1024x2816 .bf16) (y : Vec Ideal S1024x512 .bf16) (f : Fin 2816) (q : Fin 512) :
    k0_pay2 (F := Ideal) acc x y (ix2 f q) = (acc (ix2 f q) : EReal) + ∑ r : Fin 1024, (x (ix2 r f) : EReal) * y (ix2 r q) := by
  pointwise [k0_pay2]
theorem pay1_at (f : Fin 2816) (q : Fin 512) : (k0_pay1 (F := Ideal) (ix2 f q) : EReal) = 0 := by
  pointwise [k0_pay1]

/-- What point `4 h + s` adds. -/
def part (c : Dev nD) (h : Fin 2) (s : Fin 4) (f : Fin 2816) (q : Fin 512) : EReal :=
  ∑ r : Fin 1024, A m c ⟨1024 * s + r, by omega⟩ f * D m c ⟨1024 * s + r, by omega⟩ ⟨512 * h + q, by omega⟩

theorem point_at (c : Dev nD) (h : Fin 2) (s : Fin 4) (hn : 4 * h.val + s.val < cfg0.N) (f : Fin 2816) (q : Fin 512) (acc : Vec Ideal S2816x512 .f32) :
    k0_pay2 (F := Ideal) acc (iblk m c 0 ⟨4 * h.val + s.val, hn⟩) (iblk m c 1 ⟨4 * h.val + s.val, hn⟩) (ix2 f q)
      = (acc (ix2 f q) : EReal) + part m c h s f q := by
  refine (pay2_at acc _ _ f q).trans (congrArg (fun z : EReal => (acc (ix2 f q) : EReal) + z) ?_)
  refine Finset.sum_congr rfl fun r _ => ?_
  refine congrArg₂ (fun a b : EReal => a * b) ((b0_at m c _ r f).trans ?_) ((b1_at m c _ r q).trans ?_)
  · exact congrArg (fun T => A m c T f) (Fin.ext (by dsimp only; omega))
  · exact congrArg₂ (D m c) (Fin.ext (by dsimp only; omega)) (Fin.ext (by dsimp only; omega))

theorem fold_at (c : Dev nD) (h : Fin 2) (f : Fin 2816) (q : Fin 512) (hn : 4 * h.val + 3 < cfg0.N) :
    (Pipeline.accAt (reset2 m c) (step2 m c) (4 * h.val) 3 hn (ix2 f q) : EReal)
      = ∑ T, A m c T f * D m c T ⟨512 * h + q, by omega⟩ := by
  have key : ∀ (j : ℕ) (hj : j < 4) (hb : 4 * h.val + j < cfg0.N),
      (Pipeline.accAt (reset2 m c) (step2 m c) (4 * h.val) j hb (ix2 f q) : EReal)
        = ∑ s ∈ Finset.univ.filter (fun s : Fin 4 => s.val ≤ j), part m c h s f q := by
    intro j
    induction j with
    | zero =>
      intro hj hb
      rw [show Finset.univ.filter (fun s : Fin 4 => s.val ≤ 0) = {0} by decide, Finset.sum_singleton]
      refine (point_at m c h 0 hb f q _).trans ?_
      rw [pay1_at, zero_add]
    | succ j ih =>
      intro hj hb
      have e : Finset.univ.filter (fun s : Fin 4 => s.val ≤ j + 1) = insert ⟨j + 1, hj⟩ (Finset.univ.filter (fun s : Fin 4 => s.val ≤ j)) := by
        ext s
        simp only [Finset.mem_filter, Finset.mem_insert, Finset.mem_univ, true_and, Fin.ext_iff]
        omega
      refine Eq.trans ?_ (congrArg (fun S => ∑ s ∈ S, part m c h s f q) e).symm
      rw [Finset.sum_insert (by simp), add_comm (part m c h ⟨j + 1, hj⟩ f q)]
      exact (point_at m c h ⟨j + 1, hj⟩ hb f q _).trans
        (congrArg (fun z : EReal => z + part m c h ⟨j + 1, hj⟩ f q) (ih (by omega) (by omega)))
  refine (key 3 (by omega) hn).trans ?_
  rw [show Finset.univ.filter (fun s : Fin 4 => s.val ≤ 3) = Finset.univ by decide]
  exact sum_blocks fun T => A m c T f * D m c T ⟨512 * h + q, by omega⟩

/-- The result as a function of row and column. -/
def out (c : Dev nD) : S2816x1024.Idx → EReal := fun i => ∑ T, A m c T (i 0) * D m c T (i 1)

theorem out_at (c : Dev nD) (i : S2816x1024.Idx) (f : Fin 2816) (q : Fin 1024) (h0 : (i 0 : ℕ) = f) (h1 : (i 1 : ℕ) = q) :
    ∑ T, A m c T f * D m c T q = out m c i := by
  unfold out
  rw [show i 0 = f from Fin.ext h0, show i 1 = q from Fin.ext h1]

theorem odx : ∀ t : Fin cfg0.N, win0_2.index t = ![0, t.val / 4] :=
  (by decide +kernel : ∀ t : Fin grid0.N, _)

/-- What the block holds at a half's last point. -/
theorem last_at (c : Dev nD) (t : Fin cfg0.N) (ht : t.val % 4 = 3) (f : Fin 2816) (q : Fin 512) :
    (outsAt0 m c t.val t.isLt (ix2 f q) : EReal)
      = ∑ T, A m c T f * D m c T ⟨512 * (t.val / 4) + q, by have := lt8 t; omega⟩ := by
  have h8 := lt8 t
  have h3 : ∀ (j : ℕ) (hj : 4 * (t.val / 4) + j < cfg0.N), j = 3 →
      (Pipeline.accAt (reset2 m c) (step2 m c) (4 * (t.val / 4)) j hj (ix2 f q) : EReal)
        = ∑ T, A m c T f * D m c T ⟨512 * (t.val / 4) + q, by omega⟩ := by
    rintro j hj rfl
    exact fold_at m c ⟨t.val / 4, by omega⟩ f q hj
  rw [outsAt_2_eq]
  exact h3 _ _ ht

theorem out2 (c : Dev nD) : (dats m 0 c).arrAt 2 (cfgs 0).N = out m c := by
  refine (dats m 0 c).arrAt_eq_of_covers 2 _ (by decide +kernel) fun t hf y => ?_
  blk_simp
  idx_vars y
  rw [after0_2]
  refine (last_at m c t ((flush0_2 t).mp hf) _ _).trans <| out_at m c _ _ _ ?_ ?_
  · blk_simp [odx t] <;> first | omega | (dsimp only; omega)
  · blk_simp [odx t] <;> first | omega | (dsimp only; omega)

/-- The call's result is the reference's. -/
theorem final (c : Dev nD) : (dats m 0 c).arrAt 2 (cfgs 0).N = val_main_v3 (F := Ideal) (a0 m c) (a1 m c) := by
  rw [out2]
  funext i
  idx_vars i
  show (∑ T, A m c T i0 * D m c T i1 : EReal) = _
  pointwise [val_main_v3, val_main_v2]
  refine Finset.sum_congr rfl fun T _ => ?_
  rw [A_at, D_at, mul_comm]

end Cert.Kernel2Ideal.Down

end
-- ==== Proof.UpPay.lean ====
/- What the forward call's body computes from its blocks, read at an index: the projection, its rows moved down over the
   rows carried from the tile before, the convolution, and the gate with its derivatives. -/
module

public import proofs.«01_k».proof.Proof.Gen.Kernel3Ideal.Frame
public import Idealize.ShloMosaic.Lib.Pointwise
public import Idealize.ShloMosaic.Lib.Pipeline.ValueKit
public import Idealize.ShloMosaic.Lib.Pipeline.ReadBack

@[expose] public section

set_option maxRecDepth 16384
set_option maxHeartbeats 2000000

noncomputable section

namespace Cert.Kernel3Ideal.Up

open Cert.Kernel3Ideal Cert.Kernel3Ideal.Gen Idealize.ShloMosaic Idealize.ShloMosaic.TcCoe Idealize.SL.Sem

/-- A tile's rows moved down by `n`, the first ones taken from the eight rows before the tile. -/
def dn (n : ℕ) (hn : n < 8) (d : Fin 512 → Fin 1408 → EReal) (pv : Fin 8 → Fin 1408 → EReal) (r : Fin 512) (c : Fin 1408) : EReal :=
  if h : n ≤ (r : ℕ) then d ⟨r - n, by omega⟩ c else pv ⟨8 + r - n, by omega⟩ c

/-- The same, as two rotations whose first eight rows are joined with the rows before. -/
theorem dn_if (n : ℕ) (hn : n < 8) (d : Fin 512 → Fin 1408 → EReal) (pv : Fin 8 → Fin 1408 → EReal) (r : Fin 512) (c : Fin 1408) :
    (if h : (r : ℕ) < 8 then
      if h1 : (8 + (r : ℕ) + 16 - n) % 16 < 8 then pv ⟨(8 + (r : ℕ) + 16 - n) % 16, h1⟩ c
      else d ⟨(8 + (r : ℕ) + 16 - n) % 16 - 8, by omega⟩ c
    else d ⟨(8 + ((r : ℕ) - 8) + 512 - n) % 512, by omega⟩ c) = dn n hn d pv r c := by
  unfold dn
  split_ifs with h1 h2 h3 h3 h3 <;> first
    | exact absurd h3 (by omega)
    | exact congrArg (fun k => d k c) (Fin.ext (by dsimp only; omega))
    | exact congrArg (fun k => pv k c) (Fin.ext (by dsimp only; omega))
    | omega

/-- The projection. -/
def pj (x : Vec Ideal S512x1024 .bf16) (w : Vec Ideal S1x1024x1408 .bf16) (r : Fin 512) (c : Fin 1408) : EReal :=
  ∑ k : Fin 1024, (x (ix2 r k) : EReal) * w (ix3 0 k c)

theorem pay5_at (x : Vec Ideal S512x1024 .bf16) (w : Vec Ideal S1x1024x1408 .bf16) (r : Fin 512) (c : Fin 1408) :
    k0_pay5 (F := Ideal) x w (ix2 r c) = pj x w r c := by
  unfold pj
  pointwise [k0_pay5, k0_pay4]

theorem pay9_at (x : Vec Ideal S512x1024 .bf16) (w : Vec Ideal S1x1024x1408 .bf16) (r : Fin 512) (c : Fin 1408) :
    k0_pay9 (F := Ideal) (k0_pay4 (F := Ideal) x) w (ix2 r c) = pj x w r c := by
  unfold pj
  pointwise [k0_pay9, k0_pay4]

theorem pay8_at (d : FVec Ideal S512x1408 .f32) (r : Fin 8) (c : Fin 1408) :
    k0_pay8 (F := Ideal) d (ix2 r c) = d (ix2 ⟨504 + r, by omega⟩ c) := by
  pointwise [k0_pay8]
theorem pay13_at (d : FVec Ideal S512x1408 .f32) (r : Fin 8) (c : Fin 1408) :
    k0_pay13 (F := Ideal) d (ix2 r c) = d (ix2 ⟨504 + r, by omega⟩ c) := by
  pointwise [k0_pay13]
theorem pay2_at (r : Fin 8) (c : Fin 1408) : (k0_pay2 (F := Ideal) (ix2 r c) : EReal) = 0 := by
  pointwise [k0_pay2]
theorem pay3_at (r : Fin 8) (c : Fin 1408) : (k0_pay3 (F := Ideal) (ix2 r c) : EReal) = 0 := by
  pointwise [k0_pay3]

theorem pay6_at (x : Vec Ideal S512x1024 .bf16) (w : Vec Ideal S1x1024x1408 .bf16) (pv : Vec Ideal S8x1408 .f32) (r : Fin 512) (c : Fin 1408) :
    k0_pay6 (F := Ideal) x w pv (ix2 r c) = dn 2 (by decide) (pj x w) (fun r c => pv (ix2 r c)) r c := by
  rw [← dn_if]
  pointwise [k0_pay6]
  simp only [pay5_at]

/-- The convolution of a column: three taps and the bias. -/
def cv (d : Fin 512 → Fin 1408 → EReal) (pv : Fin 8 → Fin 1408 → EReal) (w : Fin 3 → Fin 1408 → EReal) (b : Fin 1408 → EReal)
    (r : Fin 512) (c : Fin 1408) : EReal :=
  w 0 c * dn 2 (by decide) d pv r c + w 1 c * dn 1 (by decide) d pv r c + w 2 c * d r c + b c

theorem pay7_at (d e : FVec Ideal S512x1408 .f32) (pv : Vec Ideal S8x1408 .f32) (w : Vec Ideal S3x1408 .f32) (b : Vec Ideal S1x1408 .f32)
    (he : ∀ r c, (e (ix2 r c) : EReal) = dn 2 (by decide) (fun r c => d (ix2 r c)) (fun r c => pv (ix2 r c)) r c) (r : Fin 512) (c : Fin 1408) :
    k0_pay7 (F := Ideal) d pv (View.ld w (Rect.unit ![0, 0] ![1, 1408] inb_S3x1408_S1x1408_0_0)) (View.ld w (Rect.unit ![1, 0] ![1, 1408] inb_S3x1408_S1x1408_1_0)) (View.ld w (Rect.unit ![2, 0] ![1, 1408] inb_S3x1408_S1x1408_2_0)) e b (ix2 r c)
      = cv (fun r c => d (ix2 r c)) (fun r c => pv (ix2 r c)) (fun k c => w (ix2 k c)) (fun c => b (ix2 0 c)) r c := by
  unfold cv
  rw [← he, ← dn_if 1]
  pointwise [k0_pay7]

theorem pay12_at (x : Vec Ideal S512x1024 .bf16) (y : Vec Ideal S1x1024x1408 .bf16) (pv : Vec Ideal S8x1408 .f32) (w : Vec Ideal S3x1408 .f32) (b : Vec Ideal S1x1408 .f32)
    (r : Fin 512) (c : Fin 1408) :
    k0_pay12 (F := Ideal) (k0_pay9 (F := Ideal) (k0_pay4 (F := Ideal) x) y) pv (View.ld w (Rect.unit ![0, 0] ![1, 1408] inb_S3x1408_S1x1408_0_0)) (View.ld w (Rect.unit ![1, 0] ![1, 1408] inb_S3x1408_S1x1408_1_0)) (View.ld w (Rect.unit ![2, 0] ![1, 1408] inb_S3x1408_S1x1408_2_0)) (k0_pay10 (F := Ideal) (k0_pay4 (F := Ideal) x) y pv) (k0_pay11 (F := Ideal) (k0_pay4 (F := Ideal) x) y) b (ix2 r c)
      = cv (pj x y) (fun r c => pv (ix2 r c)) (fun k c => w (ix2 k c)) (fun c => b (ix2 0 c)) r c := by
  unfold cv
  rw [← dn_if 2, ← dn_if 1]
  pointwise [k0_pay12, k0_pay10, k0_pay11]
  simp only [pay9_at]

theorem gate_at (x : Vec Ideal S512x1024 .bf16) (y : Vec Ideal S1x1024x1408 .bf16) (pv : Vec Ideal S8x1408 .f32) (w : Vec Ideal S3x1408 .f32) (b : Vec Ideal S1x1408 .f32)
    (r : Fin 512) (c : Fin 1408) :
    k0_pay7 (F := Ideal) (k0_pay5 (F := Ideal) x y) pv (View.ld w (Rect.unit ![0, 0] ![1, 1408] inb_S3x1408_S1x1408_0_0)) (View.ld w (Rect.unit ![1, 0] ![1, 1408] inb_S3x1408_S1x1408_1_0)) (View.ld w (Rect.unit ![2, 0] ![1, 1408] inb_S3x1408_S1x1408_2_0)) (k0_pay6 (F := Ideal) x y pv) b (ix2 r c)
      = cv (pj x y) (fun r c => pv (ix2 r c)) (fun k c => w (ix2 k c)) (fun c => b (ix2 0 c)) r c := by
  have e : (fun r c => (k0_pay5 (F := Ideal) x y (ix2 r c) : EReal)) = pj x y := funext fun r => funext fun c => pay5_at x y r c
  refine (pay7_at _ _ pv w b (fun r c => (pay6_at x y pv r c).trans ?_) r c).trans ?_
  · exact congrArg (fun d => dn 2 (by decide) d (fun r c => pv (ix2 r c)) r c) e.symm
  · exact congrArg (fun d => cv d (fun r c => pv (ix2 r c)) (fun k c => w (ix2 k c)) (fun c => b (ix2 0 c)) r c) e

/-- The logistic function as the body writes it. -/
def sg (g : EReal) : EReal := Ideal.div 1 (1 + Ideal.exp (0 - g))

theorem pay14_at (z : FVec Ideal S512x1408 .f32) (r : Fin 512) (c : Fin 1408) :
    k0_pay14 (F := Ideal) z (ix2 r c) = sg (z (ix2 r c)) := by
  unfold sg
  pointwise [k0_pay14]

theorem pay15_at (z : FVec Ideal S512x1408 .f32) (r : Fin 512) (c : Fin 1408) :
    k0_pay15 (F := Ideal) z (ix2 r c) = (z (ix2 r c) : EReal) * sg (z (ix2 r c)) := by
  pointwise [k0_pay15]
  rw [pay14_at]

theorem pay16_at (z v54 : FVec Ideal S512x1408 .f32) (v56 : Vec Ideal S8x1408 .f32) (v57 v58 v59 : Vec Ideal S1x1408 .f32) (v63 : FVec Ideal S8x1408 .f32)
    (v65 : FVec Ideal S504x1408 .f32) (v82 : Vec Ideal S1x1408 .f32) (r : Fin 512) (c : Fin 1408) :
    k0_pay16 (F := Ideal) z v54 v56 v57 v58 v59 v63 v65 v82 (ix2 r c)
      = ((z (ix2 r c) : EReal) * sg (z (ix2 r c))) * k0_pay12 (F := Ideal) v54 v56 v57 v58 v59 v63 v65 v82 (ix2 r c) := by
  pointwise [k0_pay16]
  rw [pay15_at]

theorem pay17_at (z : FVec Ideal S512x1408 .f32) (r : Fin 512) (c : Fin 1408) :
    k0_pay17 (F := Ideal) z (ix2 r c) = (z (ix2 r c) : EReal) * sg (z (ix2 r c)) := by
  pointwise [k0_pay17]
  rw [pay15_at]

theorem pay18_at (z : FVec Ideal S512x1408 .f32) (r : Fin 512) (c : Fin 1408) :
    k0_pay18 (F := Ideal) z (ix2 r c) = sg (z (ix2 r c)) * (1 + (z (ix2 r c) : EReal) * (1 - sg (z (ix2 r c)))) := by
  pointwise [k0_pay18]
  rw [pay14_at]

theorem pay1_at (z y : FVec Ideal S512x1408 .f32) (r : Fin 512) (c : Fin 1408) :
    k0_pay1 (F := Ideal) z y (ix2 r c) = (z (ix2 r c) : EReal) * y (ix2 r c) := by
  pointwise [k0_pay1]

end Cert.Kernel3Ideal.Up

end
-- ==== Proof.UpCase.lean ====
module
public import proofs.«01_k».proof.Proof.UpPay
@[expose] public section
set_option maxRecDepth 16384
set_option maxHeartbeats 2000000
noncomputable section

/-! What the forward call leaves in each block it stages at a grid point, the two cases of its conditional taken together. -/

namespace Cert.Kernel3Ideal.Up
open Cert.Kernel3Ideal Cert.Kernel3Ideal.Gen Idealize.ShloMosaic Idealize.ShloMosaic.TcCoe Idealize.SL.Sem
variable (m : (ℓ : Loc nD τ sig) → Buf (Elt Ideal) ℓ)

/-- The point before. -/
theorem pred_lt (t : Fin cfg0.N) : t.val - 1 < cfg0.N := lt_of_le_of_lt (Nat.sub_le _ _) t.isLt

/-- The projection's block for the gate and for the value. -/
def dG (c : Dev nD) (t : Fin cfg0.N) (r : Fin 512) (x : Fin 1408) : EReal := pj (iblk m c 0 t) (iblk m c 1 t) r x
def dV (c : Dev nD) (t : Fin cfg0.N) (r : Fin 512) (x : Fin 1408) : EReal := pj (iblk m c 0 t) (iblk m c 2 t) r x
/-- The eight rows before the tile, zero at a sequence's first tile. -/
def pG (c : Dev nD) (t : Fin cfg0.N) (r : Fin 8) (x : Fin 1408) : EReal :=
  if t.val % 4 = 0 then 0 else (outsAt0 m c (t.val - 1) (pred_lt t)).2.2.2.2.2.1 (ix2 r x)
def pV (c : Dev nD) (t : Fin cfg0.N) (r : Fin 8) (x : Fin 1408) : EReal :=
  if t.val % 4 = 0 then 0 else (outsAt0 m c (t.val - 1) (pred_lt t)).2.2.2.2.2.2 (ix2 r x)

theorem outUG (c : Dev nD) (t : Fin cfg0.N) (r : Fin 512) (x : Fin 1408) :
    (outsAt0 m c t.val t.isLt).1 (ix2 r x) = dG m c t r x := by
  by_cases h0 : t.val % 4 = 0
  · rw [outsAt0_A m c t h0]; frame_out
    exact pay5_at _ _ r x
  · rw [outsAt0_B m c t h0]; frame_out
    exact pay5_at _ _ r x

theorem outUV (c : Dev nD) (t : Fin cfg0.N) (r : Fin 512) (x : Fin 1408) :
    (outsAt0 m c t.val t.isLt).2.1 (ix2 r x) = dV m c t r x := by
  by_cases h0 : t.val % 4 = 0
  · rw [outsAt0_A m c t h0]; frame_out
    exact pay9_at _ _ r x
  · rw [outsAt0_B m c t h0]; frame_out
    exact pay9_at _ _ r x

theorem scrG (c : Dev nD) (t : Fin cfg0.N) (r : Fin 8) (x : Fin 1408) :
    (outsAt0 m c t.val t.isLt).2.2.2.2.2.1 (ix2 r x) = dG m c t ⟨504 + r, by omega⟩ x := by
  by_cases h0 : t.val % 4 = 0
  · rw [outsAt0_A m c t h0]; frame_out
    exact (pay8_at _ r x).trans (pay5_at _ _ _ x)
  · rw [outsAt0_B m c t h0]; frame_out
    exact (pay8_at _ r x).trans (pay5_at _ _ _ x)

theorem scrV (c : Dev nD) (t : Fin cfg0.N) (r : Fin 8) (x : Fin 1408) :
    (outsAt0 m c t.val t.isLt).2.2.2.2.2.2 (ix2 r x) = dV m c t ⟨504 + r, by omega⟩ x := by
  by_cases h0 : t.val % 4 = 0
  · rw [outsAt0_A m c t h0]; frame_out
    exact (pay13_at _ r x).trans (pay9_at _ _ _ x)
  · rw [outsAt0_B m c t h0]; frame_out
    exact (pay13_at _ r x).trans (pay9_at _ _ _ x)

/-- The convolution's result for the gate and for the value. -/
def zG (c : Dev nD) (t : Fin cfg0.N) (r : Fin 512) (x : Fin 1408) : EReal :=
  cv (dG m c t) (pG m c t) (fun k x => iblk m c 3 t (ix2 k x)) (fun x => iblk m c 5 t (ix2 0 x)) r x
def zV (c : Dev nD) (t : Fin cfg0.N) (r : Fin 512) (x : Fin 1408) : EReal :=
  cv (dV m c t) (pV m c t) (fun k x => iblk m c 4 t (ix2 k x)) (fun x => iblk m c 6 t (ix2 0 x)) r x

theorem cv_prev (pv qv : Fin 8 → Fin 1408 → EReal) (h : ∀ r x, pv r x = qv r x) (d : Fin 512 → Fin 1408 → EReal) (w : Fin 3 → Fin 1408 → EReal) (b : Fin 1408 → EReal)
    (r : Fin 512) (x : Fin 1408) : cv d pv w b r x = cv d qv w b r x := by
  rw [show pv = qv from funext fun r => funext fun x => h r x]

theorem fstG (c : Dev nD) (t : Fin cfg0.N) (h0 : t.val % 4 = 0) (r : Fin 8) (x : Fin 1408) : (k0_pay2 (F := Ideal) (ix2 r x) : EReal) = pG m c t r x := by
  unfold pG; rw [if_pos h0]; exact pay2_at r x
theorem fstV (c : Dev nD) (t : Fin cfg0.N) (h0 : t.val % 4 = 0) (r : Fin 8) (x : Fin 1408) : (k0_pay3 (F := Ideal) (ix2 r x) : EReal) = pV m c t r x := by
  unfold pV; rw [if_pos h0]; exact pay3_at r x
theorem nxtG (c : Dev nD) (t : Fin cfg0.N) (h0 : ¬ t.val % 4 = 0) (r : Fin 8) (x : Fin 1408) :
    ((outsAt0 m c (t.val - 1) (pred_lt t)).2.2.2.2.2.1 (ix2 r x) : EReal) = pG m c t r x := by
  unfold pG; rw [if_neg h0]
theorem nxtV (c : Dev nD) (t : Fin cfg0.N) (h0 : ¬ t.val % 4 = 0) (r : Fin 8) (x : Fin 1408) :
    ((outsAt0 m c (t.val - 1) (pred_lt t)).2.2.2.2.2.2 (ix2 r x) : EReal) = pV m c t r x := by
  unfold pV; rw [if_neg h0]

theorem silu_of (z z' : EReal) (h : z = z') : z * sg z = z' * sg z' := by rw [h]
theorem slope_of (y y' z z' : EReal) (h : z = z') (h' : y = y') : y * (sg z * (1 + z * (1 - sg z))) = y' * (sg z' * (1 + z' * (1 - sg z'))) := by rw [h, h']
theorem act_of (y y' z z' : EReal) (h : z = z') (h' : y = y') : (z * sg z) * y = (z' * sg z') * y' := by rw [h, h']

theorem outA (c : Dev nD) (t : Fin cfg0.N) (r : Fin 512) (x : Fin 1408) :
    (outsAt0 m c t.val t.isLt).2.2.1 (ix2 r x) = (zG m c t r x * sg (zG m c t r x)) * zV m c t r x := by
  by_cases h0 : t.val % 4 = 0
  · rw [outsAt0_A m c t h0]; frame_out
    refine (pay16_at _ _ _ _ _ _ _ _ _ r x).trans (act_of _ _ _ _ ((gate_at _ _ _ _ _ r x).trans ?_) ((pay12_at _ _ _ _ _ r x).trans ?_))
    · exact cv_prev _ _ (fstG m c t h0) _ _ _ r x
    · exact cv_prev _ _ (fstV m c t h0) _ _ _ r x
  · rw [outsAt0_B m c t h0]; frame_out
    simp only [read_unread_whole]
    refine (pay16_at _ _ _ _ _ _ _ _ _ r x).trans (act_of _ _ _ _ ((gate_at _ _ _ _ _ r x).trans ?_) ((pay12_at _ _ _ _ _ r x).trans ?_))
    · exact cv_prev _ _ (nxtG m c t h0) _ _ _ r x
    · exact cv_prev _ _ (nxtV m c t h0) _ _ _ r x

theorem outS (c : Dev nD) (t : Fin cfg0.N) (r : Fin 512) (x : Fin 1408) :
    (outsAt0 m c t.val t.isLt).2.2.2.1 (ix2 r x) = zG m c t r x * sg (zG m c t r x) := by
  by_cases h0 : t.val % 4 = 0
  · rw [outsAt0_A m c t h0]; frame_out
    refine (pay17_at _ r x).trans (silu_of _ _ ((gate_at _ _ _ _ _ r x).trans ?_))
    exact cv_prev _ _ (fstG m c t h0) _ _ _ r x
  · rw [outsAt0_B m c t h0]; frame_out
    simp only [read_unread_whole]
    refine (pay17_at _ r x).trans (silu_of _ _ ((gate_at _ _ _ _ _ r x).trans ?_))
    exact cv_prev _ _ (nxtG m c t h0) _ _ _ r x

theorem outO (c : Dev nD) (t : Fin cfg0.N) (r : Fin 512) (x : Fin 1408) :
    (outsAt0 m c t.val t.isLt).2.2.2.2.1 (ix2 r x)
      = zV m c t r x * (sg (zG m c t r x) * (1 + zG m c t r x * (1 - sg (zG m c t r x)))) := by
  by_cases h0 : t.val % 4 = 0
  · rw [outsAt0_A m c t h0]; frame_out
    refine (pay1_at _ _ r x).trans ((congrArg (fun q : EReal => (_ : EReal) * q) (pay18_at _ r x)).trans (slope_of _ _ _ _ ((gate_at _ _ _ _ _ r x).trans ?_) ((pay12_at _ _ _ _ _ r x).trans ?_)))
    · exact cv_prev _ _ (fstG m c t h0) _ _ _ r x
    · exact cv_prev _ _ (fstV m c t h0) _ _ _ r x
  · rw [outsAt0_B m c t h0]; frame_out
    simp only [read_unread_whole]
    refine (pay1_at _ _ r x).trans ((congrArg (fun q : EReal => (_ : EReal) * q) (pay18_at _ r x)).trans (slope_of _ _ _ _ ((gate_at _ _ _ _ _ r x).trans ?_) ((pay12_at _ _ _ _ _ r x).trans ?_)))
    · exact cv_prev _ _ (nxtG m c t h0) _ _ _ r x
    · exact cv_prev _ _ (nxtV m c t h0) _ _ _ r x

end Cert.Kernel3Ideal.Up

end
-- ==== Proof.UpFinal.lean ====
/- The forward call's five results as arrays over tokens and columns, and their equality with the reference's over finite
   arguments. -/
module
public import proofs.«01_k».proof.Proof.UpCase
public import proofs.«01_k».proof.Proof.Finite
public import proofs.«01_k».proof.Proof.Gen.Kernel3Ideal.Value
public import proofs.«01_k».proof.Proof.Gen.Reference3Ideal.Read
public import Idealize.ShloMosaic.Lib.Claim
@[expose] public section
set_option maxRecDepth 16384
noncomputable section

namespace Cert.Kernel3Ideal.Up
open Cert.Kernel3Ideal Cert.Kernel3Ideal.Gen Idealize.ShloMosaic Idealize.ShloMosaic.TcCoe Idealize.SL.Sem
open Cert.Reference3Ideal.Read Cert.Shift Cert.Finite
variable (m : (ℓ : Loc nD τ sig) → Buf (Elt Ideal) ℓ)

abbrev a0 (c : Dev nD) : FVec Ideal S4096x1024 .f32 := m ((c : Thread nD τ).loc main_arg0)
abbrev a1 (c : Dev nD) : FVec Ideal S1024x5632 .f32 := m ((c : Thread nD τ).loc main_arg1)
abbrev a2 (c : Dev nD) : FVec Ideal S3x5632 .f32 := m ((c : Thread nD τ).loc main_arg2)
abbrev a3 (c : Dev nD) : FVec Ideal S1x5632 .f32 := m ((c : Thread nD τ).loc main_arg3)

theorem e2 (c : Dev nD) : V m c main_v2 = fun i => a0 m c i := by
  entry_read
  rfl
theorem s3 (c : Dev nD) : V m c main_v3 = fun i => (transpose S4x1024x1408 [1, 0, 2] (shapeCast S1024x4x1408 (a1 m c) shapeCasts_S1024x5632_S1024x4x1408) transposes_S1024x4x1408_S4x1024x1408_1_0_2 i : EReal) := by
  entry_read
  rfl

/-- The arrays the windows stage, at an index. -/
def X (c : Dev nD) (T : Fin 4096) (k : Fin 1024) : EReal := V m c main_v2 (ix2 T k)
def W (c : Dev nD) (j : Fin 4) (k : Fin 1024) (x : Fin 1408) : EReal := V m c main_v3 (ix3 j k x)
def K (c : Dev nD) (k : Fin 3) (C : Fin 5632) : EReal := V m c main_arg2 (ix2 k C)
def B (c : Dev nD) (C : Fin 5632) : EReal := V m c main_arg3 (ix2 0 C)
theorem X_at (c : Dev nD) (T : Fin 4096) (k : Fin 1024) : X m c T k = a0 m c (ix2 T k) := by
  unfold X; rw [e2]
theorem W_at (c : Dev nD) (j : Fin 4) (k : Fin 1024) (x : Fin 1408) : W m c j k x = a1 m c (ix2 k ⟨1408 * j + x, by omega⟩) := by
  unfold W; rw [s3]
  pointwise
  exact congrArg (fun C => a1 m c (ix2 k C)) (Fin.ext (by dsimp only; omega))
theorem K_at (c : Dev nD) (k : Fin 3) (C : Fin 5632) : K m c k C = a2 m c (ix2 k C) := by
  unfold K; rw [V_main_arg2]
theorem B_at (c : Dev nD) (C : Fin 5632) : B m c C = a3 m c (ix2 0 C) := by
  unfold B; rw [V_main_arg3]

theorem idx : ∀ t : Fin cfg0.N, win0_0.index t = ![t.val % 8, 0] ∧ win0_1.index t = ![t.val / 8, 0, 0] ∧ win0_2.index t = ![2 + t.val / 8, 0, 0]
    ∧ win0_3.index t = ![0, t.val / 8] ∧ win0_4.index t = ![0, 2 + t.val / 8] ∧ win0_5.index t = ![0, t.val / 8] ∧ win0_6.index t = ![0, 2 + t.val / 8] :=
  (by decide +kernel : ∀ t : Fin grid0.N, _)

theorem lt16 (t : Fin cfg0.N) : t.val < 16 := lt_of_lt_of_eq t.isLt N_0

/-- The token of a tile's row, and the columns of the gate and of the value. -/
def tk (t : Fin cfg0.N) (r : Fin 512) : Fin 4096 := ⟨512 * (t.val % 8) + r, by omega⟩
def cf (t : Fin cfg0.N) (x : Fin 1408) : Fin 2816 := ⟨1408 * (t.val / 8) + x, by have := lt16 t; omega⟩
def gt (f : Fin 2816) : Fin 5632 := ⟨f, by omega⟩
def vl (f : Fin 2816) : Fin 5632 := ⟨2816 + f, by omega⟩

theorem b0_at (c : Dev nD) (t : Fin cfg0.N) (r : Fin 512) (k : Fin 1024) : (iblk m c 0 t (ix2 r k) : EReal) = X m c (tk t r) k := by
  unfold X tk
  blk_ext [iblk, V, idx t]
theorem b1_at (c : Dev nD) (t : Fin cfg0.N) (k : Fin 1024) (x : Fin 1408) : (iblk m c 1 t (ix3 0 k x) : EReal) = W m c ⟨t.val / 8, by have := lt16 t; omega⟩ k x := by
  unfold W
  blk_ext [iblk, V, idx t]
theorem b2_at (c : Dev nD) (t : Fin cfg0.N) (k : Fin 1024) (x : Fin 1408) : (iblk m c 2 t (ix3 0 k x) : EReal) = W m c ⟨2 + t.val / 8, by have := lt16 t; omega⟩ k x := by
  unfold W
  blk_ext [iblk, V, idx t]
theorem b3_at (c : Dev nD) (t : Fin cfg0.N) (k : Fin 3) (x : Fin 1408) : (iblk m c 3 t (ix2 k x) : EReal) = K m c k (gt (cf t x)) := by
  unfold K gt cf
  blk_ext [iblk, V, idx t]
theorem b4_at (c : Dev nD) (t : Fin cfg0.N) (k : Fin 3) (x : Fin 1408) : (iblk m c 4 t (ix2 k x) : EReal) = K m c k (vl (cf t x)) := by
  unfold K vl cf
  blk_ext [iblk, V, idx t]
theorem b5_at (c : Dev nD) (t : Fin cfg0.N) (x : Fin 1408) : (iblk m c 5 t (ix2 0 x) : EReal) = B m c (gt (cf t x)) := by
  unfold B gt cf
  blk_ext [iblk, V, idx t]
theorem b6_at (c : Dev nD) (t : Fin cfg0.N) (x : Fin 1408) : (iblk m c 6 t (ix2 0 x) : EReal) = B m c (vl (cf t x)) := by
  unfold B vl cf
  blk_ext [iblk, V, idx t]

/-- The projection over all tokens and columns. -/
def U (c : Dev nD) (C : Fin 5632) (T : Fin 4096) : EReal := val_main_v0 (F := Ideal) (a0 m c) (a1 m c) (ix2 T C)
theorem U_at (c : Dev nD) (C : Fin 5632) (T : Fin 4096) : U m c C T = ∑ k, X m c T k * (a1 m c (ix2 k C) : EReal) := by
  unfold U
  pointwise [val_main_v0]
  exact Finset.sum_congr rfl fun k _ => by rw [X_at]

theorem dG_at (c : Dev nD) (t : Fin cfg0.N) (r : Fin 512) (x : Fin 1408) : dG m c t r x = U m c (gt (cf t x)) (tk t r) := by
  rw [U_at]
  unfold dG pj
  refine Finset.sum_congr rfl fun k _ => congrArg₂ (fun a b : EReal => a * b) (b0_at m c t r k) ((b1_at m c t k x).trans ((W_at m c _ k x).trans ?_))
  exact congrArg (fun C => a1 m c (ix2 k C)) (Fin.ext (by dsimp only [gt, cf]))
theorem dV_at (c : Dev nD) (t : Fin cfg0.N) (r : Fin 512) (x : Fin 1408) : dV m c t r x = U m c (vl (cf t x)) (tk t r) := by
  rw [U_at]
  unfold dV pj
  refine Finset.sum_congr rfl fun k _ => congrArg₂ (fun a b : EReal => a * b) (b0_at m c t r k) ((b2_at m c t k x).trans ((W_at m c _ k x).trans ?_))
  exact congrArg (fun C => a1 m c (ix2 k C)) (Fin.ext (by dsimp only [vl, cf]; omega))

/-- The rows carried over are the last eight tokens of the tile before. -/
theorem pG_at (c : Dev nD) (t : Fin cfg0.N) (h0 : ¬ t.val % 4 = 0) (r : Fin 8) (x : Fin 1408) :
    pG m c t r x = U m c (gt (cf t x)) ⟨512 * (t.val % 8 - 1) + 504 + r, by omega⟩ := by
  unfold pG
  rw [if_neg h0]
  refine (scrG m c ⟨t.val - 1, pred_lt t⟩ r x).trans ((dG_at m c _ _ x).trans ?_)
  exact congrArg₂ (U m c) (Fin.ext (by dsimp only [gt, cf]; omega)) (Fin.ext (by dsimp only [tk]; omega))
theorem pV_at (c : Dev nD) (t : Fin cfg0.N) (h0 : ¬ t.val % 4 = 0) (r : Fin 8) (x : Fin 1408) :
    pV m c t r x = U m c (vl (cf t x)) ⟨512 * (t.val % 8 - 1) + 504 + r, by omega⟩ := by
  unfold pV
  rw [if_neg h0]
  refine (scrV m c ⟨t.val - 1, pred_lt t⟩ r x).trans ((dV_at m c _ _ x).trans ?_)
  exact congrArg₂ (U m c) (Fin.ext (by dsimp only [vl, cf]; omega)) (Fin.ext (by dsimp only [tk]; omega))

/-- A tile's rows moved down are the tokens before. -/
theorem dn_before (n : ℕ) (hn : n < 8) (t : Fin cfg0.N) (u : Fin 4096 → EReal) (d : Fin 512 → Fin 1408 → EReal) (pv : Fin 8 → Fin 1408 → EReal) (x : Fin 1408)
    (hd : ∀ r, d r x = u (tk t r)) (hz : t.val % 4 = 0 → ∀ r, pv r x = 0) (hp : ¬ t.val % 4 = 0 → ∀ r : Fin 8, pv r x = u ⟨512 * (t.val % 8 - 1) + 504 + r, by omega⟩)
    (r : Fin 512) : dn n hn d pv r x = before n u (tk t r) := by
  unfold dn before
  by_cases h : n ≤ (r : ℕ)
  · rw [dif_pos h, dif_pos (by dsimp only [tk]; omega), hd]
    exact congrArg u (Fin.ext (by dsimp only [tk]; omega))
  · rw [dif_neg h]
    by_cases h0 : t.val % 4 = 0
    · rw [hz h0, dif_neg (by dsimp only [tk]; omega)]
    · rw [hp h0, dif_pos (by dsimp only [tk]; omega)]
      exact congrArg u (Fin.ext (by dsimp only [tk]; omega))

/-- The convolution over all tokens. -/
def Z (c : Dev nD) (C : Fin 5632) (T : Fin 4096) : EReal :=
  K m c 0 C * before 2 (U m c C) T + K m c 1 C * before 1 (U m c C) T + K m c 2 C * U m c C T + B m c C

theorem zG_at (c : Dev nD) (t : Fin cfg0.N) (r : Fin 512) (x : Fin 1408) : zG m c t r x = Z m c (gt (cf t x)) (tk t r) := by
  have hs : ∀ n (hn : n < 8), dn n hn (dG m c t) (pG m c t) r x = before n (U m c (gt (cf t x))) (tk t r) := fun n hn =>
    dn_before n hn t _ _ _ x (fun r => dG_at m c t r x) (fun h r => by unfold pG; rw [if_pos h]) (fun h r => pG_at m c t h r x) r
  unfold zG cv Z
  dsimp only
  rw [hs 2, hs 1, dG_at, b3_at, b3_at, b3_at, b5_at]
theorem zV_at (c : Dev nD) (t : Fin cfg0.N) (r : Fin 512) (x : Fin 1408) : zV m c t r x = Z m c (vl (cf t x)) (tk t r) := by
  have hs : ∀ n (hn : n < 8), dn n hn (dV m c t) (pV m c t) r x = before n (U m c (vl (cf t x))) (tk t r) := fun n hn =>
    dn_before n hn t _ _ _ x (fun r => dV_at m c t r x) (fun h r => by unfold pV; rw [if_pos h]) (fun h r => pV_at m c t h r x) r
  unfold zV cv Z
  dsimp only
  rw [hs 2, hs 1, dV_at, b4_at, b4_at, b4_at, b6_at]

/-- A function of token and column as an array. -/
def arr (f : Fin 2816 → Fin 4096 → EReal) : S4096x2816.Idx → EReal := fun i => f (i 1) (i 0)
theorem arr_at (f : Fin 2816 → Fin 4096 → EReal) (i : S4096x2816.Idx) (T : Fin 4096) (x : Fin 2816) (h0 : (i 0 : ℕ) = T) (h1 : (i 1 : ℕ) = x) : f x T = arr f i := by
  unfold arr
  rw [show i 0 = T from Fin.ext h0, show i 1 = x from Fin.ext h1]

/-- The five results. -/
def rUG (c : Dev nD) (f : Fin 2816) (T : Fin 4096) : EReal := U m c (gt f) T
def rUV (c : Dev nD) (f : Fin 2816) (T : Fin 4096) : EReal := U m c (vl f) T
def rA (c : Dev nD) (f : Fin 2816) (T : Fin 4096) : EReal := (Z m c (gt f) T * sg (Z m c (gt f) T)) * Z m c (vl f) T
def rS (c : Dev nD) (f : Fin 2816) (T : Fin 4096) : EReal := Z m c (gt f) T * sg (Z m c (gt f) T)
def rO (c : Dev nD) (f : Fin 2816) (T : Fin 4096) : EReal :=
  Z m c (vl f) T * (sg (Z m c (gt f) T) * (1 + Z m c (gt f) T * (1 - sg (Z m c (gt f) T))))

theorem odx : ∀ t : Fin cfg0.N, win0_7.index t = ![t.val % 8, t.val / 8] ∧ win0_8.index t = ![t.val % 8, t.val / 8] ∧ win0_9.index t = ![t.val % 8, t.val / 8]
    ∧ win0_10.index t = ![t.val % 8, t.val / 8] ∧ win0_11.index t = ![t.val % 8, t.val / 8] :=
  (by decide +kernel : ∀ t : Fin grid0.N, _)

theorem out7 (c : Dev nD) : (dats m 0 c).arrAt 7 (cfgs 0).N = arr (rUG m c) := by
  refine (dats m 0 c).arrAt_eq_of_covers 7 _ (by decide +kernel) fun t hf y => ?_
  blk_simp
  idx_vars y
  rw [after0_7]
  refine (outUG m c t _ _).trans <| (dG_at m c t _ _).trans <| arr_at (rUG m c) _ _ _ ?_ ?_ <;>
    (blk_simp [odx t] <;> (simp only [tk, cf]; omega))
theorem out8 (c : Dev nD) : (dats m 0 c).arrAt 8 (cfgs 0).N = arr (rUV m c) := by
  refine (dats m 0 c).arrAt_eq_of_covers 8 _ (by decide +kernel) fun t hf y => ?_
  blk_simp
  idx_vars y
  rw [after0_8]
  refine (outUV m c t _ _).trans <| (dV_at m c t _ _).trans <| arr_at (rUV m c) _ _ _ ?_ ?_ <;>
    (blk_simp [odx t] <;> (simp only [tk, cf]; omega))
theorem out9 (c : Dev nD) : (dats m 0 c).arrAt 9 (cfgs 0).N = arr (rA m c) := by
  refine (dats m 0 c).arrAt_eq_of_covers 9 _ (by decide +kernel) fun t hf y => ?_
  blk_simp
  idx_vars y
  rw [after0_9]
  refine (outA m c t _ _).trans <| (act_of _ _ _ _ (zG_at m c t _ _) (zV_at m c t _ _)).trans <| arr_at (rA m c) _ _ _ ?_ ?_ <;>
    (blk_simp [odx t] <;> (simp only [tk, cf]; omega))
theorem out10 (c : Dev nD) : (dats m 0 c).arrAt 10 (cfgs 0).N = arr (rS m c) := by
  refine (dats m 0 c).arrAt_eq_of_covers 10 _ (by decide +kernel) fun t hf y => ?_
  blk_simp
  idx_vars y
  rw [after0_10]
  refine (outS m c t _ _).trans <| (silu_of _ _ (zG_at m c t _ _)).trans <| arr_at (rS m c) _ _ _ ?_ ?_ <;>
    (blk_simp [odx t] <;> (simp only [tk, cf]; omega))
theorem out11 (c : Dev nD) : (dats m 0 c).arrAt 11 (cfgs 0).N = arr (rO m c) := by
  refine (dats m 0 c).arrAt_eq_of_covers 11 _ (by decide +kernel) fun t hf y => ?_
  blk_simp
  idx_vars y
  rw [after0_11]
  refine (outO m c t _ _).trans <| (slope_of _ _ _ _ (zG_at m c t _ _) (zV_at m c t _ _)).trans <| arr_at (rO m c) _ _ _ ?_ ?_ <;>
    (blk_simp [odx t] <;> (simp only [tk, cf]; omega))

/-! The reference, read at a token and a column. -/

theorem v1_at (c : Dev nD) (b : Fin 2) (s : Fin 2048) (C : Fin 5632) (T : Fin 4096) (hT : (T : ℕ) = b * 2048 + s) :
    (val_main_v1 (F := Ideal) (a0 m c) (a1 m c) (ix3 b s C) : EReal) = U m c C T := by
  unfold U
  pointwise [val_main_v1]
  exact congrArg (fun k => val_main_v0 (F := Ideal) (a0 m c) (a1 m c) (ix2 k C)) (Fin.ext hT.symm)

theorem v4_at (c : Dev nD) (b : Fin 2) (s : Fin 2048) (C : Fin 5632) (T : Fin 4096) (hT : (T : ℕ) = b * 2048 + s) :
    (val_main_v4 (F := Ideal) (a0 m c) (a1 m c) (ix3 b s C) : EReal) = before 2 (U m c C) T := by
  unfold before
  pointwise [val_main_v4, val_main_v2, val_main_v3, val_main_v1, val_main_cst]
  by_cases h : (s : ℕ) < 2
  · rw [dif_pos h, dif_neg (by omega)]
  · rw [dif_neg h, dif_pos (by omega)]
    exact congrArg (fun k => val_main_v0 (F := Ideal) (a0 m c) (a1 m c) (ix2 k C)) (Fin.ext (by dsimp only; omega))

theorem v7_at (c : Dev nD) (b : Fin 2) (s : Fin 2048) (C : Fin 5632) (T : Fin 4096) (hT : (T : ℕ) = b * 2048 + s) :
    (val_main_v7 (F := Ideal) (a0 m c) (a1 m c) (ix3 b s C) : EReal) = before 1 (U m c C) T := by
  unfold before
  pointwise [val_main_v7, val_main_v5, val_main_v6, val_main_v2, val_main_v1, val_main_cst]
  by_cases h : (s : ℕ) < 1
  · rw [dif_pos h, dif_neg (by omega)]
  · rw [dif_neg h, dif_pos (by omega)]
    exact congrArg (fun k => val_main_v0 (F := Ideal) (a0 m c) (a1 m c) (ix2 k C)) (Fin.ext (by dsimp only; omega))

theorem v28_at (c : Dev nD) (T : Fin 4096) (C : Fin 5632) :
    (val_main_v28 (F := Ideal) (a0 m c) (a1 m c) (a2 m c) (a3 m c) (ix2 T C) : EReal) = Z m c C T := by
  unfold Z
  rw [K_at, K_at, K_at, B_at]
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8]
  rw [v4_at m c _ _ C T (by dsimp only; omega), v7_at m c _ _ C T (by dsimp only; omega), v1_at m c _ _ C T (by dsimp only; omega)]

theorem v29_at (c : Dev nD) (T : Fin 4096) (f : Fin 2816) :
    (val_main_v29 (F := Ideal) (a0 m c) (a1 m c) (a2 m c) (a3 m c) (ix2 T f) : EReal) = Z m c (gt f) T := by
  rw [← v28_at]
  unfold gt
  pointwise [val_main_v29]
theorem v30_at (c : Dev nD) (T : Fin 4096) (f : Fin 2816) :
    (val_main_v30 (F := Ideal) (a0 m c) (a1 m c) (a2 m c) (a3 m c) (ix2 T f) : EReal) = Z m c (vl f) T := by
  rw [← v28_at]
  unfold vl
  pointwise [val_main_v30]

theorem sig_at (c : Dev nD) (T : Fin 4096) (f : Fin 2816) :
    (val_main_v31_2 (F := Ideal) (a0 m c) (a1 m c) (a2 m c) (a3 m c) (ix2 T f) : EReal) = sg (Z m c (gt f) T) := by
  rw [← v29_at]
  unfold sg
  rw [zero_sub]
  pointwise [val_main_v31_2, val_main_call0_v4, val_main_call0_cst_0, val_main_call0_v3, val_main_call0_v2, val_main_call0_cst, val_main_call0_v1, val_main_call0_v0]

theorem silu_at (c : Dev nD) (T : Fin 4096) (f : Fin 2816) :
    (val_main_v31_0 (F := Ideal) (a0 m c) (a1 m c) (a2 m c) (a3 m c) (ix2 T f) : EReal) = rS m c f T := by
  unfold rS
  rw [← sig_at, ← v29_at]
  pointwise [val_main_v31_0]

/-- Every argument is finite. -/
structure Fin4 (c : Dev nD) : Prop where
  h0 : ∀ i, R (a0 m c i)
  h1 : ∀ i, R (a1 m c i)
  h2 : ∀ i, R (a2 m c i)
  h3 : ∀ i, R (a3 m c i)

theorem rU (c : Dev nD) (h : Fin4 m c) (C : Fin 5632) (T : Fin 4096) : R (U m c C T) := by
  rw [U_at]
  exact R.sum _ _ fun k => (by rw [X_at]; exact h.h0 _ : R (X m c T k)).mul (h.h1 _)
theorem rZ (c : Dev nD) (h : Fin4 m c) (C : Fin 5632) (T : Fin 4096) : R (Z m c C T) := by
  have hk : ∀ k, R (K m c k C) := fun k => by rw [K_at]; exact h.h2 _
  have hb : R (B m c C) := by rw [B_at]; exact h.h3 _
  unfold Z
  exact ((((hk 0).mul (rbefore _ _ (rU m c h C) T)).add ((hk 1).mul (rbefore _ _ (rU m c h C) T))).add ((hk 2).mul (rU m c h C T))).add hb

theorem r_sg {g : EReal} (h : R g) : R (sg g) := by
  unfold sg
  rw [zero_sub]
  exact r_logistic h

theorem slope_alg {v g s : EReal} (hv : R v) (hg : R g) (hs : R s) :
    v * (s * (1 + g * (1 - s))) = (1 * v) * s + (g * (1 * v)) * (s * (1 - s)) := by
  obtain ⟨v, rfl⟩ := hv
  obtain ⟨g, rfl⟩ := hg
  obtain ⟨s, rfl⟩ := hs
  rw [one_mul, ← EReal.coe_one]
  simp only [← EReal.coe_mul, ← EReal.coe_sub, ← EReal.coe_add]
  congr 1
  ring

theorem slope_at (c : Dev nD) (h : Fin4 m c) (T : Fin 4096) (f : Fin 2816) :
    (val_main_v36 (F := Ideal) (a0 m c) (a1 m c) (a2 m c) (a3 m c) (ix2 T f) : EReal) = rO m c f T := by
  unfold rO
  rw [slope_alg (rZ m c h _ _) (rZ m c h _ _) (r_sg (rZ m c h _ _)), ← sig_at, ← v29_at, ← v30_at]
  pointwise [val_main_v36, val_main_call1_v1, val_main_call1_v2, val_main_call1_v0, val_main_v35, val_main_v33, val_main_cst_0, val_main_v31_1, val_main_call0_v7, val_main_call0_v6, val_main_call0_cst_1]

theorem final7 (c : Dev nD) : (dats m 0 c).arrAt 7 (cfgs 0).N = val_main_v37 (F := Ideal) (a0 m c) (a1 m c) := by
  rw [out7]
  funext i
  idx_vars i
  show U m c (gt i1) i0 = _
  unfold U gt
  pointwise [val_main_v37]
theorem final8 (c : Dev nD) : (dats m 0 c).arrAt 8 (cfgs 0).N = val_main_v38 (F := Ideal) (a0 m c) (a1 m c) := by
  rw [out8]
  funext i
  idx_vars i
  show U m c (vl i1) i0 = _
  unfold U vl
  pointwise [val_main_v38]
theorem final9 (c : Dev nD) : (dats m 0 c).arrAt 9 (cfgs 0).N = val_main_v39 (F := Ideal) (a0 m c) (a1 m c) (a2 m c) (a3 m c) := by
  rw [out9]
  funext i
  idx_vars i
  show rS m c i1 i0 * Z m c (vl i1) i0 = _
  rw [← silu_at, ← v30_at]
  pointwise [val_main_v39, val_main_v32]
theorem final10 (c : Dev nD) : (dats m 0 c).arrAt 10 (cfgs 0).N = val_main_v40 (F := Ideal) (a0 m c) (a1 m c) (a2 m c) (a3 m c) := by
  rw [out10]
  funext i
  idx_vars i
  show rS m c i1 i0 = _
  rw [← silu_at]
  pointwise [val_main_v40, val_main_v34, val_main_v33, val_main_cst_0]
theorem final11 (c : Dev nD) (h : Fin4 m c) : (dats m 0 c).arrAt 11 (cfgs 0).N = val_main_v41 (F := Ideal) (a0 m c) (a1 m c) (a2 m c) (a3 m c) := by
  rw [out11]
  funext i
  idx_vars i
  show rO m c i1 i0 = _
  rw [← slope_at m c h]
  pointwise [val_main_v41]

end Cert.Kernel3Ideal.Up

end
-- ==== Proof.In.lean ====
/- The weight gradient of the projections in front of the attention: row block by row block, each tile of 512 tokens adds its
   product to what the result holds, from zero. -/
module
public import proofs.«01_k».proof.Proof.Gen.Kernel4Ideal.Value
public import proofs.«01_k».proof.Proof.Gen.Reference4Ideal.Read
public import Idealize.ShloMosaic.Lib.Pointwise
public import Idealize.ShloMosaic.Lib.Claim
public import Idealize.ShloMosaic.Lib.Pipeline.ValueKit
public import Idealize.ShloMosaic.Lib.Pipeline.ReadBack
@[expose] public section
set_option maxRecDepth 16384
set_option maxHeartbeats 1000000
noncomputable section

namespace Cert.Kernel4Ideal.In
open Cert.Kernel4Ideal Cert.Kernel4Ideal.Gen Idealize.ShloMosaic Idealize.ShloMosaic.TcCoe Idealize.SL.Sem
open Cert.Reference4Ideal.Read
variable (m : (ℓ : Loc nD τ sig) → Buf (Elt Ideal) ℓ)

/-! Reading an array of 2304 rows that was written a block of rows at a time. -/

theorem emb_at (a n : ℕ) (inb : ∀ d, (![a, 0] : Fin 2 → ℕ) d + (![n, 1024] : Fin 2 → ℕ) d ≤ S2304x1024.size d) (T : Fin 2304) (r : Fin n) (hT : (T : ℕ) = a + r)
    (x : Fin 1024) : (Rect.unit (s := S2304x1024) ![a, 0] ![n, 1024] inb).emb (ix2 r x) = ix2 T x := by
  funext d
  apply Fin.ext
  match d with
  | ⟨0, _⟩ => exact (show a + 1 * (r : ℕ) = T by omega)
  | ⟨1, _⟩ => exact (show 0 + 1 * (x : ℕ) = x by omega)

theorem hit (a n : ℕ) (inb : ∀ d, (![a, 0] : Fin 2 → ℕ) d + (![n, 1024] : Fin 2 → ℕ) d ≤ S2304x1024.size d) (w : Vec Ideal ⟨2, ![n, 1024]⟩ .f32)
    (L : List (View.Piece (Elt Ideal) S2304x1024 .f32)) (T : Fin 2304) (r : Fin n) (hT : (T : ℕ) = a + r) (x : Fin 1024) :
    View.canon (⟨Rect.unit ![a, 0] ![n, 1024] inb, w⟩ :: L) (ix2 T x) = w (ix2 r x) := by
  have h := View.canon_cons_emb (Rect.unit (s := S2304x1024) ![a, 0] ![n, 1024] inb) w L (ix2 r x)
  rw [emb_at a n inb T r hT] at h
  exact h

theorem miss (a n : ℕ) (inb : ∀ d, (![a, 0] : Fin 2 → ℕ) d + (![n, 1024] : Fin 2 → ℕ) d ≤ S2304x1024.size d) (w : Vec Ideal ⟨2, ![n, 1024]⟩ .f32)
    (L : List (View.Piece (Elt Ideal) S2304x1024 .f32)) (T : Fin 2304) (hT : (T : ℕ) < a ∨ a + n ≤ (T : ℕ)) (x : Fin 1024) :
    View.canon (⟨Rect.unit ![a, 0] ![n, 1024] inb, w⟩ :: L) (ix2 T x) = View.canon L (ix2 T x) := by
  refine View.canon_cons_of_not_mem _ L fun hm => ?_
  have h := (Rect.mem_set_unit (inb := inb).mp hm) 0
  have h1 : a ≤ T.val := h.1
  have h2 : T.val < a + n := h.2
  omega

theorem load {sig : RefSig} {κ : Kind} {sp : Space} (v : View sig κ sp S2304x1024 .f32) (a n : ℕ)
    (inb : ∀ d, (![a, 0] : Fin 2 → ℕ) d + (![n, 1024] : Fin 2 → ℕ) d ≤ S2304x1024.size d)
    (L : List (View.Piece (Elt Ideal) S2304x1024 .f32)) (T : Fin 2304) (r : Fin n) (hT : (T : ℕ) = a + r) (x : Fin 1024) :
    v.readCov L (Rect.unit (s := S2304x1024) ![a, 0] ![n, 1024] inb).toLoadRect (ix2 r x) = View.canon L (ix2 T x) := by
  rw [View.readCov_eq_canon']
  exact congrArg (View.canon L) (emb_at a n inb T r hT x)

theorem kept (w : Vec Ideal S2304x1024 .f32) (a n : ℕ) (inb : ∀ d, (![a, 0] : Fin 2 → ℕ) d + (![n, 1024] : Fin 2 → ℕ) d ≤ S2304x1024.size d)
    (T : Fin 2304) (r : Fin n) (hT : (T : ℕ) = a + r) (x : Fin 1024) :
    View.ld w (Rect.unit (s := S2304x1024) ![a, 0] ![n, 1024] inb) (ix2 r x) = w (ix2 T x) :=
  congrArg w (emb_at a n inb T r hT x)

theorem fill (inb : ∀ d, (![0, 0] : Fin 2 → ℕ) d + (![2304, 1024] : Fin 2 → ℕ) d ≤ S2304x1024.size d) (T : Fin 2304) (x : Fin 1024) :
    View.canon ([⟨Rect.unit ![0, 0] ![2304, 1024] inb, k0_pay3 (F := Ideal)⟩] : List (View.Piece (Elt Ideal) S2304x1024 .f32)) (ix2 T x) = (0 : EReal) := by
  refine (hit 0 2304 inb _ _ T T (by omega) x).trans ?_
  pointwise [k0_pay3]

/-! The products. -/

theorem pay5_at (h : Vec Ideal S512x1024 .bf16) (acc : Vec Ideal S512x1024 .f32) (p : Vec Ideal S512x512 .f32) (r : Fin 512) (x : Fin 1024) :
    k0_pay5 (F := Ideal) h acc p (ix2 r x) = (acc (ix2 r x) : EReal) + ∑ k : Fin 512, (p (ix2 k r) : EReal) * h (ix2 k x) := by
  pointwise [k0_pay5, k0_pay4]
theorem pay6_at (h : Vec Ideal S512x1024 .bf16) (acc : Vec Ideal S512x1024 .f32) (p : Vec Ideal S512x512 .f32) (r : Fin 512) (x : Fin 1024) :
    k0_pay6 (F := Ideal) h acc p (ix2 r x) = (acc (ix2 r x) : EReal) + ∑ k : Fin 512, (p (ix2 k r) : EReal) * h (ix2 k x) := by
  pointwise [k0_pay6, k0_pay4]
theorem pay7_at (h : Vec Ideal S512x1024 .bf16) (acc : Vec Ideal S512x1024 .f32) (p : Vec Ideal S512x512 .f32) (r : Fin 512) (x : Fin 1024) :
    k0_pay7 (F := Ideal) h acc p (ix2 r x) = (acc (ix2 r x) : EReal) + ∑ k : Fin 512, (p (ix2 k r) : EReal) * h (ix2 k x) := by
  pointwise [k0_pay7, k0_pay4]
theorem pay1_at (h : Vec Ideal S512x1024 .bf16) (acc : Vec Ideal S384x1024 .f32) (p : Vec Ideal S512x384 .f32) (r : Fin 384) (x : Fin 1024) :
    k0_pay1 (F := Ideal) (k0_pay4 (F := Ideal) h) (k0_pay8 (F := Ideal) acc) p (ix2 r x) = (acc (ix2 r x) : EReal) + ∑ k : Fin 512, (p (ix2 k r) : EReal) * h (ix2 k x) := by
  pointwise [k0_pay1, k0_pay4, k0_pay8]
theorem pay2_at (h : Vec Ideal S512x1024 .bf16) (acc : Vec Ideal S384x1024 .f32) (p : Vec Ideal S512x384 .f32) (r : Fin 384) (x : Fin 1024) :
    k0_pay2 (F := Ideal) (k0_pay4 (F := Ideal) h) acc p (ix2 r x) = (acc (ix2 r x) : EReal) + ∑ k : Fin 512, (p (ix2 k r) : EReal) * h (ix2 k x) := by
  pointwise [k0_pay2, k0_pay4]

/-- The point before. -/
theorem pred_lt (t : Fin cfg0.N) : t.val - 1 < cfg0.N := lt_of_le_of_lt (Nat.sub_le _ _) t.isLt

/-- What the result held before the point. -/
def old (c : Dev nD) (t : Fin cfg0.N) (T : Fin 2304) (x : Fin 1024) : EReal :=
  if t.val % 8 = 0 then 0 else outsAt0 m c (t.val - 1) (pred_lt t) (ix2 T x)
theorem old_A (c : Dev nD) (t : Fin cfg0.N) (h0 : t.val % 8 = 0) (T : Fin 2304) (x : Fin 1024) : old m c t T x = 0 := by unfold old; rw [if_pos h0]
theorem old_B (c : Dev nD) (t : Fin cfg0.N) (h0 : ¬ t.val % 8 = 0) (T : Fin 2304) (x : Fin 1024) : old m c t T x = outsAt0 m c (t.val - 1) (pred_lt t) (ix2 T x) := by
  unfold old; rw [if_neg h0]

/-- The blocks of the tokens and of the five gradients. -/
def hB (c : Dev nD) (t : Fin cfg0.N) (k : Fin 512) (x : Fin 1024) : EReal := iblk m c 0 t (ix2 k x)
def p1 (c : Dev nD) (t : Fin cfg0.N) (k : Fin 512) (r : Fin 512) : EReal := iblk m c 1 t (ix2 k r)
def p2 (c : Dev nD) (t : Fin cfg0.N) (k : Fin 512) (r : Fin 512) : EReal := iblk m c 2 t (ix2 k r)
def p3 (c : Dev nD) (t : Fin cfg0.N) (k : Fin 512) (r : Fin 512) : EReal := iblk m c 3 t (ix2 k r)
def p4 (c : Dev nD) (t : Fin cfg0.N) (k : Fin 512) (r : Fin 384) : EReal := iblk m c 4 t (ix2 k r)
def p5 (c : Dev nD) (t : Fin cfg0.N) (k : Fin 512) (r : Fin 384) : EReal := iblk m c 5 t (ix2 k r)

theorem step1 (c : Dev nD) (t : Fin cfg0.N) (T : Fin 2304) (r : Fin 512) (hT : (T : ℕ) = 0 + r) (x : Fin 1024) :
    (outsAt0 m c t.val t.isLt (ix2 T x) : EReal) = old m c t T x + ∑ k : Fin 512, p1 m c t k r * hB m c t k x := by
  by_cases h0 : t.val % 8 = 0
  · rw [outsAt0_A m c t h0, old_A m c t h0]; frame_out
    refine (miss _ _ _ _ _ T (by omega) x).trans <| (miss _ _ _ _ _ T (by omega) x).trans <| (miss _ _ _ _ _ T (by omega) x).trans <| (miss _ _ _ _ _ T (by omega) x).trans <|
      (hit _ _ _ _ _ T r hT x).trans <| (pay5_at _ _ _ r x).trans (congrArg (fun z : EReal => z + _) ?_)
    exact (load _ _ _ _ _ T r hT x).trans (fill _ T x)
  · rw [outsAt0_B m c t h0, old_B m c t h0]; frame_out
    refine (miss _ _ _ _ _ T (by omega) x).trans <| (miss _ _ _ _ _ T (by omega) x).trans <| (miss _ _ _ _ _ T (by omega) x).trans <| (miss _ _ _ _ _ T (by omega) x).trans <|
      (hit _ _ _ _ _ T r hT x).trans <| (pay5_at _ _ _ r x).trans (congrArg (fun z : EReal => z + _) ?_)
    exact kept _ _ _ _ T r hT x

theorem step2 (c : Dev nD) (t : Fin cfg0.N) (T : Fin 2304) (r : Fin 512) (hT : (T : ℕ) = 512 + r) (x : Fin 1024) :
    (outsAt0 m c t.val t.isLt (ix2 T x) : EReal) = old m c t T x + ∑ k : Fin 512, p2 m c t k r * hB m c t k x := by
  by_cases h0 : t.val % 8 = 0
  · rw [outsAt0_A m c t h0, old_A m c t h0]; frame_out
    refine (miss _ _ _ _ _ T (by omega) x).trans <| (miss _ _ _ _ _ T (by omega) x).trans <| (miss _ _ _ _ _ T (by omega) x).trans <|
      (hit _ _ _ _ _ T r hT x).trans <| (pay6_at _ _ _ r x).trans (congrArg (fun z : EReal => z + _) ?_)
    exact (load _ _ _ _ _ T r hT x).trans <| (miss _ _ _ _ _ T (by omega) x).trans (fill _ T x)
  · rw [outsAt0_B m c t h0, old_B m c t h0]; frame_out
    refine (miss _ _ _ _ _ T (by omega) x).trans <| (miss _ _ _ _ _ T (by omega) x).trans <| (miss _ _ _ _ _ T (by omega) x).trans <|
      (hit _ _ _ _ _ T r hT x).trans <| (pay6_at _ _ _ r x).trans (congrArg (fun z : EReal => z + _) ?_)
    exact kept _ _ _ _ T r hT x

theorem step3 (c : Dev nD) (t : Fin cfg0.N) (T : Fin 2304) (r : Fin 512) (hT : (T : ℕ) = 1024 + r) (x : Fin 1024) :
    (outsAt0 m c t.val t.isLt (ix2 T x) : EReal) = old m c t T x + ∑ k : Fin 512, p3 m c t k r * hB m c t k x := by
  by_cases h0 : t.val % 8 = 0
  · rw [outsAt0_A m c t h0, old_A m c t h0]; frame_out
    refine (miss _ _ _ _ _ T (by omega) x).trans <| (miss _ _ _ _ _ T (by omega) x).trans <|
      (hit _ _ _ _ _ T r hT x).trans <| (pay7_at _ _ _ r x).trans (congrArg (fun z : EReal => z + _) ?_)
    exact (load _ _ _ _ _ T r hT x).trans <| (miss _ _ _ _ _ T (by omega) x).trans <| (miss _ _ _ _ _ T (by omega) x).trans (fill _ T x)
  · rw [outsAt0_B m c t h0, old_B m c t h0]; frame_out
    refine (miss _ _ _ _ _ T (by omega) x).trans <| (miss _ _ _ _ _ T (by omega) x).trans <|
      (hit _ _ _ _ _ T r hT x).trans <| (pay7_at _ _ _ r x).trans (congrArg (fun z : EReal => z + _) ?_)
    exact kept _ _ _ _ T r hT x

theorem step4 (c : Dev nD) (t : Fin cfg0.N) (T : Fin 2304) (r : Fin 384) (hT : (T : ℕ) = 1536 + r) (x : Fin 1024) :
    (outsAt0 m c t.val t.isLt (ix2 T x) : EReal) = old m c t T x + ∑ k : Fin 512, p4 m c t k r * hB m c t k x := by
  by_cases h0 : t.val % 8 = 0
  · rw [outsAt0_A m c t h0, old_A m c t h0]; frame_out
    refine (miss _ _ _ _ _ T (by omega) x).trans <| (hit _ _ _ _ _ T r hT x).trans <| (pay1_at _ _ _ r x).trans (congrArg (fun z : EReal => z + _) ?_)
    exact (load _ _ _ _ _ T r hT x).trans <| (miss _ _ _ _ _ T (by omega) x).trans <| (miss _ _ _ _ _ T (by omega) x).trans <| (miss _ _ _ _ _ T (by omega) x).trans (fill _ T x)
  · rw [outsAt0_B m c t h0, old_B m c t h0]; frame_out
    refine (miss _ _ _ _ _ T (by omega) x).trans <| (hit _ _ _ _ _ T r hT x).trans <| (pay1_at _ _ _ r x).trans (congrArg (fun z : EReal => z + _) ?_)
    exact kept _ _ _ _ T r hT x

theorem step5 (c : Dev nD) (t : Fin cfg0.N) (T : Fin 2304) (r : Fin 384) (hT : (T : ℕ) = 1920 + r) (x : Fin 1024) :
    (outsAt0 m c t.val t.isLt (ix2 T x) : EReal) = old m c t T x + ∑ k : Fin 512, p5 m c t k r * hB m c t k x := by
  by_cases h0 : t.val % 8 = 0
  · rw [outsAt0_A m c t h0, old_A m c t h0]; frame_out
    refine (hit _ _ _ _ _ T r hT x).trans <| (pay2_at _ _ _ r x).trans (congrArg (fun z : EReal => z + _) ?_)
    exact (load _ _ _ _ _ T r hT x).trans <| (miss _ _ _ _ _ T (by omega) x).trans <| (miss _ _ _ _ _ T (by omega) x).trans <| (miss _ _ _ _ _ T (by omega) x).trans <| (miss _ _ _ _ _ T (by omega) x).trans (fill _ T x)
  · rw [outsAt0_B m c t h0, old_B m c t h0]; frame_out
    refine (hit _ _ _ _ _ T r hT x).trans <| (pay2_at _ _ _ r x).trans (congrArg (fun z : EReal => z + _) ?_)
    exact kept _ _ _ _ T r hT x

abbrev a0 (c : Dev nD) : FVec Ideal S4096x1024 .f32 := m ((c : Thread nD τ).loc main_arg0)
abbrev a1 (c : Dev nD) : FVec Ideal S4096x512 .f32 := m ((c : Thread nD τ).loc main_arg1)
abbrev a2 (c : Dev nD) : FVec Ideal S4096x512 .f32 := m ((c : Thread nD τ).loc main_arg2)
abbrev a3 (c : Dev nD) : FVec Ideal S4096x512 .f32 := m ((c : Thread nD τ).loc main_arg3)
abbrev a4 (c : Dev nD) : FVec Ideal S4096x384 .f32 := m ((c : Thread nD τ).loc main_arg4)
abbrev a5 (c : Dev nD) : FVec Ideal S4096x384 .f32 := m ((c : Thread nD τ).loc main_arg5)

theorem e0 (c : Dev nD) : V m c main_v0 = fun i => a0 m c i := by
  entry_read
  rfl
def H (c : Dev nD) (k : Fin 4096) (x : Fin 1024) : EReal := V m c main_v0 (ix2 k x)
def G1 (c : Dev nD) (k : Fin 4096) (r : Fin 512) : EReal := V m c main_arg1 (ix2 k r)
def G2 (c : Dev nD) (k : Fin 4096) (r : Fin 512) : EReal := V m c main_arg2 (ix2 k r)
def G3 (c : Dev nD) (k : Fin 4096) (r : Fin 512) : EReal := V m c main_arg3 (ix2 k r)
def G4 (c : Dev nD) (k : Fin 4096) (r : Fin 384) : EReal := V m c main_arg4 (ix2 k r)
def G5 (c : Dev nD) (k : Fin 4096) (r : Fin 384) : EReal := V m c main_arg5 (ix2 k r)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, _)

theorem lt8 (t : Fin cfg0.N) : t.val < 8 := lt_of_lt_of_eq t.isLt N_0
/-- The token of a tile's row. -/
def tk (t : Fin cfg0.N) (k : Fin 512) : Fin 4096 := ⟨512 * t.val + k, by have := lt8 t; omega⟩

theorem h_at (c : Dev nD) (t : Fin cfg0.N) (k : Fin 512) (x : Fin 1024) : hB m c t k x = H m c (tk t k) x := by
  unfold hB H tk
  blk_ext [iblk, V, idx t]
theorem p1_at (c : Dev nD) (t : Fin cfg0.N) (k : Fin 512) (r : Fin 512) : p1 m c t k r = G1 m c (tk t k) r := by
  unfold p1 G1 tk
  blk_ext [iblk, V, idx t]
theorem p2_at (c : Dev nD) (t : Fin cfg0.N) (k : Fin 512) (r : Fin 512) : p2 m c t k r = G2 m c (tk t k) r := by
  unfold p2 G2 tk
  blk_ext [iblk, V, idx t]
theorem p3_at (c : Dev nD) (t : Fin cfg0.N) (k : Fin 512) (r : Fin 512) : p3 m c t k r = G3 m c (tk t k) r := by
  unfold p3 G3 tk
  blk_ext [iblk, V, idx t]
theorem p4_at (c : Dev nD) (t : Fin cfg0.N) (k : Fin 512) (r : Fin 384) : p4 m c t k r = G4 m c (tk t k) r := by
  unfold p4 G4 tk
  blk_ext [iblk, V, idx t]
theorem p5_at (c : Dev nD) (t : Fin cfg0.N) (k : Fin 512) (r : Fin 384) : p5 m c t k r = G5 m c (tk t k) r := by
  unfold p5 G5 tk
  blk_ext [iblk, V, idx t]

/-- The five gradients side by side. -/
def Q (c : Dev nD) (k : Fin 4096) (T : Fin 2304) : EReal := val_main_v0 (F := Ideal) (a1 m c) (a2 m c) (a3 m c) (a4 m c) (a5 m c) (ix2 k T)
theorem Q_at (c : Dev nD) (k : Fin 4096) (T : Fin 2304) : Q m c k T =
    if h : (T : ℕ) < 512 then G1 m c k ⟨T, h⟩
    else if h : (T : ℕ) - 512 < 512 then G2 m c k ⟨T - 512, h⟩
    else if h : (T : ℕ) - 512 - 512 < 512 then G3 m c k ⟨T - 512 - 512, h⟩
    else if h : (T : ℕ) - 512 - 512 - 512 < 384 then G4 m c k ⟨T - 512 - 512 - 512, h⟩
    else G5 m c k ⟨T - 512 - 512 - 512 - 384, by omega⟩ := by
  unfold Q G1 G2 G3 G4 G5
  rw [V_main_arg1, V_main_arg2, V_main_arg3, V_main_arg4, V_main_arg5]
  pointwise [val_main_v0]

/-- What a tile adds. -/
def part (c : Dev nD) (s : Fin 8) (T : Fin 2304) (x : Fin 1024) : EReal :=
  ∑ k : Fin 512, Q m c ⟨512 * s + k, by omega⟩ T * H m c ⟨512 * s + k, by omega⟩ x

theorem part_of (c : Dev nD) (t : Fin cfg0.N) (T : Fin 2304) (x : Fin 1024) (f : Fin 512 → EReal) (hf : ∀ k, f k = Q m c (tk t k) T) :
    ∑ k : Fin 512, f k * hB m c t k x = part m c ⟨t.val, lt8 t⟩ T x := by
  unfold part
  exact Finset.sum_congr rfl fun k _ => congrArg₂ (fun a b : EReal => a * b) (hf k) (h_at m c t k x)

theorem step (c : Dev nD) (t : Fin cfg0.N) (T : Fin 2304) (x : Fin 1024) :
    (outsAt0 m c t.val t.isLt (ix2 T x) : EReal) = old m c t T x + part m c ⟨t.val, lt8 t⟩ T x := by
  by_cases h1 : (T : ℕ) < 512
  · rw [step1 m c t T ⟨T, h1⟩ (by dsimp only; omega) x]
    refine congrArg (fun z : EReal => old m c t T x + z) (part_of m c t T x _ fun k => ?_)
    rw [Q_at, dif_pos h1, p1_at]
  by_cases h2 : (T : ℕ) - 512 < 512
  · rw [step2 m c t T ⟨T - 512, h2⟩ (by dsimp only; omega) x]
    refine congrArg (fun z : EReal => old m c t T x + z) (part_of m c t T x _ fun k => ?_)
    rw [Q_at, dif_neg h1, dif_pos h2, p2_at]
  by_cases h3 : (T : ℕ) - 512 - 512 < 512
  · rw [step3 m c t T ⟨T - 512 - 512, h3⟩ (by dsimp only; omega) x]
    refine congrArg (fun z : EReal => old m c t T x + z) (part_of m c t T x _ fun k => ?_)
    rw [Q_at, dif_neg h1, dif_neg h2, dif_pos h3, p3_at]
  by_cases h4 : (T : ℕ) - 512 - 512 - 512 < 384
  · rw [step4 m c t T ⟨T - 512 - 512 - 512, h4⟩ (by dsimp only; omega) x]
    refine congrArg (fun z : EReal => old m c t T x + z) (part_of m c t T x _ fun k => ?_)
    rw [Q_at, dif_neg h1, dif_neg h2, dif_neg h3, dif_pos h4, p4_at]
  · rw [step5 m c t T ⟨T - 512 - 512 - 512 - 384, by omega⟩ (by dsimp only; omega) x]
    refine congrArg (fun z : EReal => old m c t T x + z) (part_of m c t T x _ fun k => ?_)
    rw [Q_at, dif_neg h1, dif_neg h2, dif_neg h3, dif_neg h4, p5_at]

/-- Eight tiles of 512 are 4096. -/
theorem sum_tiles (f : Fin 4096 → EReal) : ∑ s : Fin 8, ∑ k : Fin 512, f ⟨512 * s + k, by omega⟩ = ∑ k, f k := by
  rw [← Fintype.sum_prod_type' (f := fun (s : Fin 8) (k : Fin 512) => f ⟨512 * s + k, by omega⟩)]
  refine Fintype.sum_bijective (fun p : Fin 8 × Fin 512 => (⟨512 * p.1 + p.2, by omega⟩ : Fin 4096)) ⟨?_, ?_⟩ _ _ fun p => rfl
  · rintro ⟨s, r⟩ ⟨s', r'⟩ h
    have h := congrArg Fin.val h
    dsimp only at h
    exact Prod.ext (Fin.ext (by dsimp only; omega)) (Fin.ext (by dsimp only; omega))
  · intro T
    exact ⟨(⟨T / 512, by omega⟩, ⟨T % 512, by omega⟩), Fin.ext (by dsimp only; omega)⟩

theorem held_at (c : Dev nD) (T : Fin 2304) (x : Fin 1024) : ∀ (n : ℕ) (hn : n < cfg0.N) (h8 : n < 8),
    (outsAt0 m c n hn (ix2 T x) : EReal) = ∑ s ∈ Finset.univ.filter (fun s : Fin 8 => s.val ≤ n), part m c s T x := by
  intro n
  induction n with
  | zero =>
    intro hn h8
    rw [show Finset.univ.filter (fun s : Fin 8 => s.val ≤ 0) = {0} by decide, Finset.sum_singleton]
    refine (step m c ⟨0, hn⟩ T x).trans ?_
    rw [old_A m c _ rfl, zero_add]
    rfl
  | succ n ih =>
    intro hn h8
    have e : Finset.univ.filter (fun s : Fin 8 => s.val ≤ n + 1) = insert ⟨n + 1, h8⟩ (Finset.univ.filter (fun s : Fin 8 => s.val ≤ n)) := by
      ext s
      simp only [Finset.mem_filter, Finset.mem_insert, Finset.mem_univ, true_and, Fin.ext_iff]
      omega
    refine Eq.trans ?_ (congrArg (fun S => ∑ s ∈ S, part m c s T x) e).symm
    rw [Finset.sum_insert (by simp), add_comm (part m c ⟨n + 1, h8⟩ T x)]
    refine (step m c ⟨n + 1, hn⟩ T x).trans ?_
    rw [old_B m c ⟨n + 1, hn⟩ (by dsimp only; omega)]
    exact congrArg (fun z : EReal => z + part m c ⟨n + 1, h8⟩ T x) (ih (by omega) (by omega))

/-- What the result holds after the last tile. -/
theorem last_at (c : Dev nD) (t : Fin cfg0.N) (ht : t.val % 8 = 7) (T : Fin 2304) (x : Fin 1024) :
    (outsAt0 m c t.val t.isLt (ix2 T x) : EReal) = ∑ k, Q m c k T * H m c k x := by
  rw [held_at m c T x t.val t.isLt (lt8 t), show t.val = 7 by have := lt8 t; omega, show Finset.univ.filter (fun s : Fin 8 => s.val ≤ 7) = Finset.univ by decide]
  exact sum_tiles fun k => Q m c k T * H m c k x

/-- The result as a function of row and column. -/
def out (c : Dev nD) : S2304x1024.Idx → EReal := fun i => ∑ k, Q m c k (i 0) * H m c k (i 1)
theorem out_at (c : Dev nD) (i : S2304x1024.Idx) (T : Fin 2304) (x : Fin 1024) (h0 : (i 0 : ℕ) = T) (h1 : (i 1 : ℕ) = x) :
    ∑ k, Q m c k T * H m c k x = out m c i := by
  unfold out
  rw [show i 0 = T from Fin.ext h0, show i 1 = x from Fin.ext h1]

theorem odx : ∀ t : Fin cfg0.N, win0_6.index t = ![0, 0] :=
  (by decide +kernel : ∀ t : Fin grid0.N, _)

theorem out6 (c : Dev nD) : (dats m 0 c).arrAt 6 (cfgs 0).N = out m c := by
  refine (dats m 0 c).arrAt_eq_of_covers 6 _ (by decide +kernel) fun t hf y => ?_
  blk_simp
  idx_vars y
  rw [after0_6]
  refine (last_at m c t ((flush0_6 t).mp hf) _ _).trans <| out_at m c _ _ _ ?_ ?_
  · blk_simp [odx t] <;> first | omega | (dsimp only; omega)
  · blk_simp [odx t] <;> first | omega | (dsimp only; omega)

/-- The call's result is the reference's. -/
theorem final (c : Dev nD) : (dats m 0 c).arrAt 6 (cfgs 0).N = val_main_v6 (F := Ideal) (a0 m c) (a1 m c) (a2 m c) (a3 m c) (a4 m c) (a5 m c) := by
  rw [out6]
  funext i
  idx_vars i
  show (∑ k, Q m c k i0 * H m c k i1 : EReal) = _
  unfold Q H
  rw [e0]
  pointwise [val_main_v6, val_main_v5, val_main_v4]

end Cert.Kernel4Ideal.In

end
-- ==== Proof.LossPay.lean ====
/- The last call of the forward pass: the down projection added to the residual, its norm, the loss, and the gradients of
   both. A row's arithmetic, and what the body leaves at a grid point. -/
module
public import proofs.«01_k».proof.Proof.Gen.Kernel5Ideal.Frame
public import Idealize.ShloMosaic.Lib.Pointwise
public import Idealize.ShloMosaic.Lib.Pipeline.ValueKit
public import Idealize.ShloMosaic.Lib.Pipeline.ReadBack
@[expose] public section
set_option maxRecDepth 16384
set_option maxHeartbeats 1000000
noncomputable section

namespace Cert.Kernel5Ideal.Loss
open Cert.Kernel5Ideal Cert.Kernel5Ideal.Gen Idealize.ShloMosaic Idealize.ShloMosaic.TcCoe Idealize.SL.Sem
variable (m : (ℓ : Loc nD τ sig) → Buf (Elt Ideal) ℓ)

/-- The constants as the body writes them: one by 1024, one by 2048, and the norm's epsilon. -/
def c10 : EReal := Ideal.ofBits .f32 0x3A800000#32
def c11 : EReal := Ideal.ofBits .f32 0x3A000000#32
def ep : EReal := Ideal.ofBits .f32 0x358637BD#32

/-- A row's scale. -/
def rr (x : Fin 1024 → EReal) : EReal := Ideal.rsqrt ((∑ j, x j * x j) * c10 + ep)
/-- A row's difference from its target. -/
def ee (x g t : Fin 1024 → EReal) (q : Fin 1024) : EReal := (x q * rr x) * g q - t q
/-- A row's gradient, from that difference. -/
def gx (x g d : Fin 1024 → EReal) (q : Fin 1024) : EReal :=
  rr x * ((d q * c10) * g q - (x q * rr x) * ((∑ j, (x j * rr x) * ((d j * c10) * g j)) * c10))

/-- A tile's rows in front of the norm. -/
def xk (a : Vec Ideal S512x1024 .f32) (b : Vec Ideal S512x2816 .bf16) (w : Vec Ideal S2816x1024 .bf16) (r : Fin 512) (q : Fin 1024) : EReal :=
  (a (ix2 r q) : EReal) + ∑ k : Fin 2816, (b (ix2 r k) : EReal) * w (ix2 k q)

theorem pay9_at (a : Vec Ideal S512x1024 .f32) (b : Vec Ideal S512x2816 .bf16) (w : Vec Ideal S2816x1024 .bf16) (r : Fin 512) (q : Fin 1024) :
    k0_pay9 (F := Ideal) a b w (ix2 r q) = xk a b w r q := by
  unfold xk
  pointwise [k0_pay9]

theorem pay10_at (a : Vec Ideal S512x1024 .f32) (b : Vec Ideal S512x2816 .bf16) (w : Vec Ideal S2816x1024 .bf16) (g : Vec Ideal S1x1024 .f32)
    (t : Vec Ideal S512x1024 .f32) (r : Fin 512) (q : Fin 1024) :
    k0_pay10 (F := Ideal) a b w g t (ix2 r q) = ee (xk a b w r) (fun q => g (ix2 0 q)) (fun q => t (ix2 r q)) q := by
  unfold ee rr xk c10 ep
  pointwise [k0_pay10, k0_pay9]

theorem pay4_at (x : FVec Ideal S512x1024 .f32) (g : Vec Ideal S1x1024 .f32) (d : FVec Ideal S512x1024 .f32) (r : Fin 512) (q : Fin 1024) :
    k0_pay4 (F := Ideal) x g d (ix2 r q) = gx (fun q => x (ix2 r q)) (fun q => g (ix2 0 q)) (fun q => d (ix2 r q)) q := by
  unfold gx rr c10 ep
  pointwise [k0_pay4, k0_pay3, k0_pay2, k0_pay1]

theorem pay5_at (x : FVec Ideal S512x1024 .f32) (g : Vec Ideal S1x1024 .f32) (d : FVec Ideal S512x1024 .f32) (r : Fin 512) (q : Fin 1024) :
    k0_pay5 (F := Ideal) x g d (ix2 r q) = gx (fun q => x (ix2 r q)) (fun q => g (ix2 0 q)) (fun q => d (ix2 r q)) q := by
  rw [← pay4_at]
  pointwise [k0_pay5]

theorem pay6_at (x d : FVec Ideal S512x1024 .f32) (acc : Vec Ideal S1x1024 .f32) (q : Fin 1024) :
    k0_pay6 (F := Ideal) x d acc (ix2 0 q) = (acc (ix2 0 q) : EReal) + ∑ r : Fin 512, ((d (ix2 r q) : EReal) * c10) * ((x (ix2 r q) : EReal) * rr (fun q => x (ix2 r q))) := by
  unfold rr c10 ep
  pointwise [k0_pay6, k0_pay3, k0_pay2, k0_pay1]

theorem pay11_at (a : Vec Ideal S512x1024 .f32) (b : Vec Ideal S512x2816 .bf16) (w : Vec Ideal S2816x1024 .bf16) (g : Vec Ideal S1x1024 .f32)
    (t : Vec Ideal S512x1024 .f32) (acc : Vec Ideal S1x128 .f32) (l : Fin 128) :
    k0_pay11 (F := Ideal) a b w g t acc (ix2 0 l) = (acc (ix2 0 l) : EReal)
      + (∑ r : Fin 512, ∑ q : Fin 1024, (k0_pay10 (F := Ideal) a b w g t (ix2 r q) : EReal) * k0_pay10 (F := Ideal) a b w g t (ix2 r q)) * c11 := by
  unfold c11
  pointwise [k0_pay11]

theorem pay7_at (l : Fin 128) : (k0_pay7 (F := Ideal) (ix2 0 l) : EReal) = 0 := by
  pointwise [k0_pay7]
theorem pay8_at (q : Fin 1024) : (k0_pay8 (F := Ideal) (ix2 0 q) : EReal) = 0 := by
  pointwise [k0_pay8]

/-- The point before. -/
theorem pred_lt (t : Fin cfg0.N) : t.val - 1 < cfg0.N := lt_of_le_of_lt (Nat.sub_le _ _) t.isLt

/-- The blocks of a point, as rows. -/
def bx (c : Dev nD) (t : Fin cfg0.N) (r : Fin 512) (q : Fin 1024) : EReal := xk (iblk m c 2 t) (iblk m c 0 t) (iblk m c 1 t) r q
def bg (c : Dev nD) (t : Fin cfg0.N) (q : Fin 1024) : EReal := iblk m c 3 t (ix2 0 q)
def bt (c : Dev nD) (t : Fin cfg0.N) (r : Fin 512) (q : Fin 1024) : EReal := iblk m c 4 t (ix2 r q)
def be (c : Dev nD) (t : Fin cfg0.N) (r : Fin 512) (q : Fin 1024) : EReal := ee (bx m c t r) (bg m c t) (bt m c t r) q
/-- What the loss and the scale's gradient held before the point. -/
def oldL (c : Dev nD) (t : Fin cfg0.N) (l : Fin 128) : EReal :=
  if t.val % 8 = 0 then 0 else (outsAt0 m c (t.val - 1) (pred_lt t)).2.2.1 (ix2 0 l)
def oldG (c : Dev nD) (t : Fin cfg0.N) (q : Fin 1024) : EReal :=
  if t.val % 8 = 0 then 0 else (outsAt0 m c (t.val - 1) (pred_lt t)).2.2.2 (ix2 0 q)

theorem pe_at (c : Dev nD) (t : Fin cfg0.N) (r : Fin 512) (q : Fin 1024) :
    (k0_pay10 (F := Ideal) (iblk m c 2 t) (iblk m c 0 t) (iblk m c 1 t) (iblk m c 3 t) (iblk m c 4 t) (ix2 r q) : EReal) = be m c t r q :=
  pay10_at _ _ _ _ _ r q
theorem px_at (c : Dev nD) (t : Fin cfg0.N) (r : Fin 512) (q : Fin 1024) :
    (k0_pay9 (F := Ideal) (iblk m c 2 t) (iblk m c 0 t) (iblk m c 1 t) (ix2 r q) : EReal) = bx m c t r q :=
  pay9_at _ _ _ r q

theorem gx_of (x x' d d' g : Fin 1024 → EReal) (hx : ∀ q, x q = x' q) (hd : ∀ q, d q = d' q) (q : Fin 1024) : gx x g d q = gx x' g d' q := by
  rw [show x = x' from funext hx, show d = d' from funext hd]

theorem outX (c : Dev nD) (t : Fin cfg0.N) (r : Fin 512) (q : Fin 1024) :
    (outsAt0 m c t.val t.isLt).1 (ix2 r q) = gx (bx m c t r) (bg m c t) (be m c t r) q := by
  by_cases h0 : t.val % 8 = 0
  · rw [outsAt0_A m c t h0]; frame_out
    exact (pay4_at _ _ _ r q).trans (gx_of _ _ _ _ _ (px_at m c t r) (pe_at m c t r) q)
  · rw [outsAt0_B m c t h0]; frame_out
    exact (pay4_at _ _ _ r q).trans (gx_of _ _ _ _ _ (px_at m c t r) (pe_at m c t r) q)

theorem outB (c : Dev nD) (t : Fin cfg0.N) (r : Fin 512) (q : Fin 1024) :
    (outsAt0 m c t.val t.isLt).2.1 (ix2 r q) = gx (bx m c t r) (bg m c t) (be m c t r) q := by
  by_cases h0 : t.val % 8 = 0
  · rw [outsAt0_A m c t h0]; frame_out
    exact (pay5_at _ _ _ r q).trans (gx_of _ _ _ _ _ (px_at m c t r) (pe_at m c t r) q)
  · rw [outsAt0_B m c t h0]; frame_out
    exact (pay5_at _ _ _ r q).trans (gx_of _ _ _ _ _ (px_at m c t r) (pe_at m c t r) q)

theorem sq_of (c : Dev nD) (t : Fin cfg0.N) :
    (∑ r : Fin 512, ∑ q : Fin 1024, (k0_pay10 (F := Ideal) (iblk m c 2 t) (iblk m c 0 t) (iblk m c 1 t) (iblk m c 3 t) (iblk m c 4 t) (ix2 r q) : EReal)
        * k0_pay10 (F := Ideal) (iblk m c 2 t) (iblk m c 0 t) (iblk m c 1 t) (iblk m c 3 t) (iblk m c 4 t) (ix2 r q))
      = ∑ r : Fin 512, ∑ q : Fin 1024, be m c t r q * be m c t r q :=
  Finset.sum_congr rfl fun r _ => Finset.sum_congr rfl fun q _ => congrArg₂ (fun a b : EReal => a * b) (pe_at m c t r q) (pe_at m c t r q)

theorem outL (c : Dev nD) (t : Fin cfg0.N) (l : Fin 128) :
    (outsAt0 m c t.val t.isLt).2.2.1 (ix2 0 l) = oldL m c t l + (∑ r : Fin 512, ∑ q : Fin 1024, be m c t r q * be m c t r q) * c11 := by
  by_cases h0 : t.val % 8 = 0
  · rw [outsAt0_A m c t h0]; frame_out
    refine (pay11_at _ _ _ _ _ _ l).trans (congrArg₂ (fun a b : EReal => a + b * c11) ?_ (sq_of m c t))
    unfold oldL
    rw [if_pos h0]
    exact pay7_at l
  · rw [outsAt0_B m c t h0]; frame_out
    refine (pay11_at _ _ _ _ _ _ l).trans (congrArg₂ (fun a b : EReal => a + b * c11) ?_ (sq_of m c t))
    unfold oldL
    rw [if_neg h0]

theorem gr_of (c : Dev nD) (t : Fin cfg0.N) (q : Fin 1024) (x d : FVec Ideal S512x1024 .f32) (hx : ∀ r q, (x (ix2 r q) : EReal) = bx m c t r q) (hd : ∀ r q, (d (ix2 r q) : EReal) = be m c t r q) :
    (∑ r : Fin 512, ((d (ix2 r q) : EReal) * c10) * ((x (ix2 r q) : EReal) * rr (fun q => x (ix2 r q))))
      = ∑ r : Fin 512, (be m c t r q * c10) * (bx m c t r q * rr (bx m c t r)) := by
  refine Finset.sum_congr rfl fun r _ => ?_
  rw [hx, hd, show (fun q => (x (ix2 r q) : EReal)) = bx m c t r from funext (hx r)]

theorem outG (c : Dev nD) (t : Fin cfg0.N) (q : Fin 1024) :
    (outsAt0 m c t.val t.isLt).2.2.2 (ix2 0 q) = oldG m c t q + ∑ r : Fin 512, (be m c t r q * c10) * (bx m c t r q * rr (bx m c t r)) := by
  by_cases h0 : t.val % 8 = 0
  · rw [outsAt0_A m c t h0]; frame_out
    refine (pay6_at _ _ _ q).trans (congrArg₂ (fun a b : EReal => a + b) ?_ (gr_of m c t q _ _ (px_at m c t) (pe_at m c t)))
    unfold oldG
    rw [if_pos h0]
    exact pay8_at q
  · rw [outsAt0_B m c t h0]; frame_out
    refine (pay6_at _ _ _ q).trans (congrArg₂ (fun a b : EReal => a + b) ?_ (gr_of m c t q _ _ (px_at m c t) (pe_at m c t)))
    unfold oldG
    rw [if_neg h0]

end Cert.Kernel5Ideal.Loss

end
-- ==== Proof.LossFinal.lean ====
/- The loss call's four results over all tokens, and their equality with the reference's over finite arguments. -/
module
public import proofs.«01_k».proof.Proof.LossPay
public import proofs.«01_k».proof.Proof.In
public import proofs.«01_k».proof.Proof.Finite
public import proofs.«01_k».proof.Proof.Gen.Kernel5Ideal.Value
public import proofs.«01_k».proof.Proof.Gen.Reference5Ideal.Read
public import Idealize.ShloMosaic.Lib.Claim
@[expose] public section
set_option maxRecDepth 16384
noncomputable section

namespace Cert.Kernel5Ideal.Loss
open Cert.Kernel5Ideal Cert.Kernel5Ideal.Gen Idealize.ShloMosaic Idealize.ShloMosaic.TcCoe Idealize.SL.Sem
open Cert.Reference5Ideal.Read Cert.Finite
variable (m : (ℓ : Loc nD τ sig) → Buf (Elt Ideal) ℓ)

/-! The constants. -/

theorem c10_eq : c10 = (((1024 : ℝ)⁻¹ : ℝ) : EReal) := by
  unfold c10
  simp [Ideal.ofBits, Ideal.ieee, -EReal.coe_mul]; norm_num
theorem c11_eq : c11 = (((2048 : ℝ)⁻¹ : ℝ) : EReal) := by
  unfold c11
  simp [Ideal.ofBits, Ideal.ieee, -EReal.coe_mul]; norm_num
theorem n1024_eq : Ideal.ofBits .f32 0x44800000#32 = ((1024 : ℝ) : EReal) := by
  simp [Ideal.ofBits, Ideal.ieee, -EReal.coe_mul]; norm_num
theorem half_eq : Ideal.ofBits .f32 0x3F000000#32 = (((2 : ℝ)⁻¹ : ℝ) : EReal) := by
  simp [Ideal.ofBits, Ideal.ieee, -EReal.coe_mul]; norm_num
theorem mhalf_eq : Ideal.ofBits .f32 0xBF000000#32 = ((-(2 : ℝ)⁻¹ : ℝ) : EReal) := by
  simp [Ideal.ofBits, Ideal.ieee, -EReal.coe_mul, -EReal.coe_neg]; norm_num
theorem two_eq : Ideal.ofBits .f32 0x40000000#32 = ((2 : ℝ) : EReal) := by
  simp [Ideal.ofBits, Ideal.ieee, -EReal.coe_mul]; norm_num
theorem ep_eq : ∃ e : ℝ, 0 < e ∧ ep = (e : EReal) := by
  unfold ep
  refine ⟨_, ?_, by simp [Ideal.ofBits, Ideal.ieee, -EReal.coe_mul]; rfl⟩
  norm_num

theorem div_real (x : EReal) (d : ℝ) (hd : d ≠ 0) : Ideal.div x (d : EReal) = x * ((d⁻¹ : ℝ) : EReal) := by
  unfold Ideal.div
  rw [if_neg (fun h => hd (EReal.coe_eq_zero.mp h)), ← EReal.coe_inv]
theorem div1024 (x : EReal) : Ideal.div x (Ideal.ofBits .f32 0x44800000#32) = x * c10 := by
  rw [n1024_eq, div_real x 1024 (by norm_num), c10_eq]

/-! Sums of finite numbers. -/

theorem mul_sum_fin {ι : Type*} (s : Finset ι) (f : ι → EReal) (h : ∀ i, R (f i)) (k : EReal) (hk : R k) : k * ∑ i ∈ s, f i = ∑ i ∈ s, k * f i := by
  classical
  induction s using Finset.induction_on with
  | empty => rw [Finset.sum_empty, Finset.sum_empty, mul_zero]
  | insert a s ha ih => rw [Finset.sum_insert ha, Finset.sum_insert ha, hk.distrib (h a) (R.sum s f h), ih]

theorem sum_sq {ι : Type*} (s : Finset ι) (f : ι → EReal) (h : ∀ i, R (f i)) : ∃ r : ℝ, 0 ≤ r ∧ ∑ i ∈ s, f i * f i = (r : EReal) := by
  classical
  induction s using Finset.induction_on with
  | empty => exact ⟨0, le_refl _, by rw [Finset.sum_empty, EReal.coe_zero]⟩
  | insert a s ha ih =>
    obtain ⟨r, hr, e⟩ := ih
    obtain ⟨x, hx⟩ := h a
    refine ⟨x * x + r, add_nonneg (mul_self_nonneg x) hr, ?_⟩
    rw [Finset.sum_insert ha, e, hx, ← EReal.coe_mul, ← EReal.coe_add]

/-- A finite row's scale is one by a root. -/
theorem rr_real (x : Fin 1024 → EReal) (h : ∀ j, R (x j)) : ∃ d ρ : ℝ, d ≠ 0 ∧ ρ * ρ * d = 1 ∧ (∑ j, x j * x j) * c10 + ep = (d : EReal) ∧ rr x = (ρ : EReal) := by
  obtain ⟨s, hs, e⟩ := sum_sq Finset.univ x h
  obtain ⟨p, hp, e'⟩ := ep_eq
  have hd : (0 : ℝ) < s * (1024 : ℝ)⁻¹ + p := by positivity
  have ed : (∑ j, x j * x j) * c10 + ep = ((s * (1024 : ℝ)⁻¹ + p : ℝ) : EReal) := by
    rw [e, e', c10_eq, EReal.coe_add, EReal.coe_mul]
  refine ⟨s * (1024 : ℝ)⁻¹ + p, (Real.sqrt (s * (1024 : ℝ)⁻¹ + p))⁻¹, ne_of_gt hd, ?_, ed, ?_⟩
  · rw [← mul_inv, Real.mul_self_sqrt hd.le, inv_mul_cancel₀ (ne_of_gt hd)]
  · unfold rr
    rw [ed, Ideal.rsqrt_coe, if_neg (not_lt.mpr hd.le), if_neg (ne_of_gt hd)]

/-- The norm's gradient, as one difference and as the sum of what comes through the row and through its scale. -/
theorem norm_alg (ρ d : ℝ) (hd : d ≠ 0) (h : ρ * ρ * d = 1) {x y S : EReal} (hx : R x) (hy : R y) (hS : R S) :
    (ρ : EReal) * (y - (x * ρ) * (((ρ : EReal) * S) * c10))
      = y * ρ + x * ((S * (Ideal.ofBits .f32 0xBF000000#32 * Ideal.div (ρ : EReal) (d : EReal))) * c10)
        + ((S * (Ideal.ofBits .f32 0xBF000000#32 * Ideal.div (ρ : EReal) (d : EReal))) * c10) * x := by
  obtain ⟨x, rfl⟩ := hx
  obtain ⟨y, rfl⟩ := hy
  obtain ⟨S, rfl⟩ := hS
  rw [div_real _ d hd, c10_eq, mhalf_eq]
  simp only [← EReal.coe_mul, ← EReal.coe_sub, ← EReal.coe_add]
  congr 1
  have e : d⁻¹ = ρ * ρ := inv_eq_of_mul_eq_one_left h
  rw [e]
  ring

/-- A row's gradient is the reference's. -/
theorem gx_alg (x g d : Fin 1024 → EReal) (hx : ∀ j, R (x j)) (hg : ∀ j, R (g j)) (hd : ∀ j, R (d j)) (q : Fin 1024) :
    gx x g d q = ((d q * c10) * g q) * rr x
      + x q * (((∑ j, x j * ((d j * c10) * g j)) * (Ideal.ofBits .f32 0xBF000000#32 * Ideal.div (rr x) ((∑ j, x j * x j) * c10 + ep))) * c10)
      + (((∑ j, x j * ((d j * c10) * g j)) * (Ideal.ofBits .f32 0xBF000000#32 * Ideal.div (rr x) ((∑ j, x j * x j) * c10 + ep))) * c10) * x q := by
  obtain ⟨δ, ρ, hδ, h, e, e'⟩ := rr_real x hx
  have rc : R c10 := ⟨_, c10_eq⟩
  have ry : ∀ j, R ((d j * c10) * g j) := fun j => ((hd j).mul rc).mul (hg j)
  unfold gx
  rw [e, e']
  have es : (∑ j, (x j * (ρ : EReal)) * ((d j * c10) * g j)) = (ρ : EReal) * ∑ j, x j * ((d j * c10) * g j) := by
    rw [mul_sum_fin Finset.univ (fun j => x j * ((d j * c10) * g j)) (fun j => (hx j).mul (ry j)) _ ⟨ρ, rfl⟩]
    exact Finset.sum_congr rfl fun j _ => by rw [mul_comm (x j), mul_assoc]
  rw [es]
  exact norm_alg ρ δ hδ h (hx q) (ry q) (R.sum _ _ fun j => (hx j).mul (ry j))

abbrev a0 (c : Dev nD) : FVec Ideal S4096x2816 .f32 := m ((c : Thread nD τ).loc main_arg0)
abbrev a1 (c : Dev nD) : FVec Ideal S2816x1024 .f32 := m ((c : Thread nD τ).loc main_arg1)
abbrev a2 (c : Dev nD) : FVec Ideal S4096x1024 .f32 := m ((c : Thread nD τ).loc main_arg2)
abbrev a3 (c : Dev nD) : FVec Ideal S1x1024 .f32 := m ((c : Thread nD τ).loc main_arg3)
abbrev a4 (c : Dev nD) : FVec Ideal S4096x1024 .f32 := m ((c : Thread nD τ).loc main_arg4)

theorem e0 (c : Dev nD) : V m c main_v0 = fun i => a0 m c i := by
  entry_read
  rfl
theorem e1 (c : Dev nD) : V m c main_v1 = fun i => a1 m c i := by
  entry_read
  rfl

theorem idx : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)
theorem lt8 (t : Fin cfg0.N) : t.val < 8 := lt_of_lt_of_eq t.isLt N_0
/-- The token of a tile's row. -/
def tk (t : Fin cfg0.N) (r : Fin 512) : Fin 4096 := ⟨512 * t.val + r, by have := lt8 t; omega⟩

def A (c : Dev nD) (T : Fin 4096) (k : Fin 2816) : EReal := V m c main_v0 (ix2 T k)
def W (c : Dev nD) (k : Fin 2816) (q : Fin 1024) : EReal := V m c main_v1 (ix2 k q)
def Y (c : Dev nD) (T : Fin 4096) (q : Fin 1024) : EReal := V m c main_arg2 (ix2 T q)
/-- The norm's scale and the target, over all tokens. -/
def G (c : Dev nD) (q : Fin 1024) : EReal := V m c main_arg3 (ix2 0 q)
def D (c : Dev nD) (T : Fin 4096) (q : Fin 1024) : EReal := V m c main_arg4 (ix2 T q)
theorem G_at (c : Dev nD) (q : Fin 1024) : G m c q = a3 m c (ix2 0 q) := by
  unfold G; rw [V_main_arg3]
theorem D_at (c : Dev nD) (T : Fin 4096) (q : Fin 1024) : D m c T q = a4 m c (ix2 T q) := by
  unfold D; rw [V_main_arg4]

theorem b0_at (c : Dev nD) (t : Fin cfg0.N) (r : Fin 512) (k : Fin 2816) : (iblk m c 0 t (ix2 r k) : EReal) = A m c (tk t r) k := by
  unfold A tk
  blk_ext [iblk, V, idx t]
theorem b1_at (c : Dev nD) (t : Fin cfg0.N) (k : Fin 2816) (q : Fin 1024) : (iblk m c 1 t (ix2 k q) : EReal) = W m c k q := by
  unfold W
  blk_ext [iblk, V, idx t]
theorem b2_at (c : Dev nD) (t : Fin cfg0.N) (r : Fin 512) (q : Fin 1024) : (iblk m c 2 t (ix2 r q) : EReal) = Y m c (tk t r) q := by
  unfold Y tk
  blk_ext [iblk, V, idx t]
theorem bg_at (c : Dev nD) (t : Fin cfg0.N) : bg m c t = G m c := by
  funext q
  unfold bg G
  blk_ext [iblk, V, idx t]
theorem bt_at (c : Dev nD) (t : Fin cfg0.N) (r : Fin 512) : bt m c t r = D m c (tk t r) := by
  funext q
  unfold bt D tk
  blk_ext [iblk, V, idx t]

/-- The rows in front of the norm, over all tokens. -/
def X (c : Dev nD) (T : Fin 4096) (q : Fin 1024) : EReal := val_main_v1 (F := Ideal) (a0 m c) (a1 m c) (a2 m c) (ix2 T q)
theorem X_at (c : Dev nD) (T : Fin 4096) (q : Fin 1024) : X m c T q = Y m c T q + ∑ k, A m c T k * W m c k q := by
  unfold X Y A W
  rw [V_main_arg2, e0, e1]
  pointwise [val_main_v1, val_main_v0]
theorem bx_at (c : Dev nD) (t : Fin cfg0.N) (r : Fin 512) : bx m c t r = X m c (tk t r) := by
  funext q
  rw [X_at]
  unfold bx xk
  exact congrArg₂ (fun a b : EReal => a + b) (b2_at m c t r q) (Finset.sum_congr rfl fun k _ => congrArg₂ (fun a b : EReal => a * b) (b0_at m c t r k) (b1_at m c t k q))

/-- The differences from the target, over all tokens. -/
def E (c : Dev nD) (T : Fin 4096) (q : Fin 1024) : EReal := ee (X m c T) (G m c) (D m c T) q
theorem be_at (c : Dev nD) (t : Fin cfg0.N) (r : Fin 512) : be m c t r = E m c (tk t r) := by
  funext q
  unfold be E
  rw [bx_at, bg_at, bt_at]

/-- What starts at the first tile's part and grows by each tile's is the parts' sum. -/
theorem held (a : (n : ℕ) → n < cfg0.N → EReal) (p : Fin 8 → EReal) (h0 : ∀ h, a 0 h = p 0)
    (hs : ∀ n (h : n + 1 < cfg0.N) (h8 : n + 1 < 8), a (n + 1) h = a n (by omega) + p ⟨n + 1, h8⟩) :
    ∀ n (h : n < cfg0.N) (h8 : n < 8), a n h = ∑ s ∈ Finset.univ.filter (fun s : Fin 8 => s.val ≤ n), p s := by
  intro n
  induction n with
  | zero =>
    intro h h8
    rw [show Finset.univ.filter (fun s : Fin 8 => s.val ≤ 0) = {0} by decide, Finset.sum_singleton]
    exact h0 h
  | succ n ih =>
    intro h h8
    have e : Finset.univ.filter (fun s : Fin 8 => s.val ≤ n + 1) = insert ⟨n + 1, h8⟩ (Finset.univ.filter (fun s : Fin 8 => s.val ≤ n)) := by
      ext s
      simp only [Finset.mem_filter, Finset.mem_insert, Finset.mem_univ, true_and, Fin.ext_iff]
      omega
    refine Eq.trans ?_ (congrArg (fun S => ∑ s ∈ S, p s) e).symm
    rw [Finset.sum_insert (by simp), add_comm (p ⟨n + 1, h8⟩), hs n h h8, ih (by omega) (by omega)]

theorem held_last (a : (n : ℕ) → n < cfg0.N → EReal) (p : Fin 8 → EReal) (h0 : ∀ h, a 0 h = p 0)
    (hs : ∀ n (h : n + 1 < cfg0.N) (h8 : n + 1 < 8), a (n + 1) h = a n (by omega) + p ⟨n + 1, h8⟩) (t : Fin cfg0.N) (ht : t.val % 8 = 7) :
    a t.val t.isLt = ∑ s, p s := by
  have h7 : ∀ n (h : n < cfg0.N), n = 7 → a n h = ∑ s, p s := by
    rintro n h rfl
    rw [held a p h0 hs 7 h (by omega), show Finset.univ.filter (fun s : Fin 8 => s.val ≤ 7) = Finset.univ by decide]
  exact h7 t.val t.isLt (by have := lt8 t; omega)

/-- A token's loss, and what a token adds to the scale's gradient. -/
def L1 (c : Dev nD) (T : Fin 4096) : EReal := ∑ q, E m c T q * E m c T q
def G1 (c : Dev nD) (q : Fin 1024) (T : Fin 4096) : EReal := (E m c T q * c10) * (X m c T q * rr (X m c T))

theorem stepL (c : Dev nD) (t : Fin cfg0.N) (l : Fin 128) :
    ((outsAt0 m c t.val t.isLt).2.2.1 (ix2 0 l) : EReal) = oldL m c t l + (∑ r : Fin 512, L1 m c (tk t r)) * c11 := by
  rw [outL]
  simp only [be_at]
  rfl
theorem stepG (c : Dev nD) (t : Fin cfg0.N) (q : Fin 1024) :
    ((outsAt0 m c t.val t.isLt).2.2.2 (ix2 0 q) : EReal) = oldG m c t q + ∑ r : Fin 512, G1 m c q (tk t r) := by
  rw [outG]
  simp only [be_at, bx_at]
  rfl

theorem lastL (c : Dev nD) (t : Fin cfg0.N) (ht : t.val % 8 = 7) (l : Fin 128) :
    ((outsAt0 m c t.val t.isLt).2.2.1 (ix2 0 l) : EReal) = ∑ s : Fin 8, (∑ r : Fin 512, L1 m c ⟨512 * s + r, by omega⟩) * c11 := by
  refine held_last (fun n h => (outsAt0 m c n h).2.2.1 (ix2 0 l)) _ (fun h => ?_) (fun n h h8 => ?_) t ht
  · refine (stepL m c ⟨0, h⟩ l).trans ?_
    unfold oldL
    rw [if_pos (show ((⟨0, h⟩ : Fin cfg0.N) : ℕ) % 8 = 0 from rfl), zero_add]
    rfl
  · refine (stepL m c ⟨n + 1, h⟩ l).trans ?_
    unfold oldL
    rw [if_neg (by dsimp only; omega)]
    rfl
theorem lastG (c : Dev nD) (t : Fin cfg0.N) (ht : t.val % 8 = 7) (q : Fin 1024) :
    ((outsAt0 m c t.val t.isLt).2.2.2 (ix2 0 q) : EReal) = ∑ T, G1 m c q T := by
  rw [← Cert.Kernel4Ideal.In.sum_tiles (G1 m c q)]
  refine held_last (fun n h => (outsAt0 m c n h).2.2.2 (ix2 0 q)) _ (fun h => ?_) (fun n h h8 => ?_) t ht
  · refine (stepG m c ⟨0, h⟩ q).trans ?_
    unfold oldG
    rw [if_pos (show ((⟨0, h⟩ : Fin cfg0.N) : ℕ) % 8 = 0 from rfl), zero_add]
    rfl
  · refine (stepG m c ⟨n + 1, h⟩ q).trans ?_
    unfold oldG
    rw [if_neg (by dsimp only; omega)]
    rfl

/-! The results as arrays. -/

def rX (c : Dev nD) : S4096x1024.Idx → EReal := fun i => gx (X m c (i 0)) (G m c) (E m c (i 0)) (i 1)
theorem rX_at (c : Dev nD) (i : S4096x1024.Idx) (T : Fin 4096) (q : Fin 1024) (h0 : (i 0 : ℕ) = T) (h1 : (i 1 : ℕ) = q) :
    gx (X m c T) (G m c) (E m c T) q = rX m c i := by
  unfold rX
  rw [show i 0 = T from Fin.ext h0, show i 1 = q from Fin.ext h1]
def rL (c : Dev nD) : S1x128.Idx → EReal := fun _ => ∑ s : Fin 8, (∑ r : Fin 512, L1 m c ⟨512 * s + r, by omega⟩) * c11
def rG (c : Dev nD) : S1x1024.Idx → EReal := fun i => ∑ T, G1 m c (i 1) T
theorem rG_at (c : Dev nD) (i : S1x1024.Idx) (q : Fin 1024) (h1 : (i 1 : ℕ) = q) : ∑ T, G1 m c q T = rG m c i := by
  unfold rG
  rw [show i 1 = q from Fin.ext h1]

theorem rowX (c : Dev nD) (t : Fin cfg0.N) (r : Fin 512) (q : Fin 1024) :
    gx (bx m c t r) (bg m c t) (be m c t r) q = gx (X m c (tk t r)) (G m c) (E m c (tk t r)) q := by
  rw [bx_at, bg_at, be_at]

theorem odx : ∀ t : Fin cfg0.N, win0_5.index t = ![t.val, 0] ∧ win0_6.index t = ![t.val, 0] ∧ win0_7.index t = ![0, 0] ∧ win0_8.index t = ![0, 0] :=
  (by decide +kernel : ∀ t : Fin grid0.N, _)

theorem out5 (c : Dev nD) : (dats m 0 c).arrAt 5 (cfgs 0).N = rX m c := by
  refine (dats m 0 c).arrAt_eq_of_covers 5 _ (by decide +kernel) fun t hf y => ?_
  blk_simp
  idx_vars y
  rw [after0_5]
  refine (outX m c t _ _).trans <| (rowX m c t _ _).trans <| rX_at m c _ _ _ ?_ ?_
  · blk_simp [odx t] <;> first | omega | (simp only [tk]; omega)
  · blk_simp [odx t] <;> first | omega | (simp only [tk]; omega)
theorem out6 (c : Dev nD) : (dats m 0 c).arrAt 6 (cfgs 0).N = rX m c := by
  refine (dats m 0 c).arrAt_eq_of_covers 6 _ (by decide +kernel) fun t hf y => ?_
  blk_simp
  idx_vars y
  rw [after0_6]
  refine (outB m c t _ _).trans <| (rowX m c t _ _).trans <| rX_at m c _ _ _ ?_ ?_
  · blk_simp [odx t] <;> first | omega | (simp only [tk]; omega)
  · blk_simp [odx t] <;> first | omega | (simp only [tk]; omega)
theorem out7 (c : Dev nD) : (dats m 0 c).arrAt 7 (cfgs 0).N = rL m c := by
  refine (dats m 0 c).arrAt_eq_of_covers 7 _ (by decide +kernel) fun t hf y => ?_
  blk_simp
  idx_vars y
  obtain rfl : y0 = 0 := Subsingleton.elim _ _
  rw [after0_7]
  exact lastL m c t ((flush0_7 t).mp hf) _
theorem out8 (c : Dev nD) : (dats m 0 c).arrAt 8 (cfgs 0).N = rG m c := by
  refine (dats m 0 c).arrAt_eq_of_covers 8 _ (by decide +kernel) fun t hf y => ?_
  blk_simp
  idx_vars y
  obtain rfl : y0 = 0 := Subsingleton.elim _ _
  rw [after0_8]
  refine (lastG m c t ((flush0_8 t).mp hf) _).trans <| rG_at m c _ _ ?_
  blk_simp [odx t] <;> first | omega | (dsimp only; omega)

/-! The reference, read at a token and a column. -/

theorem v9_at (c : Dev nD) (T : Fin 4096) : (val_main_v9 (F := Ideal) (a0 m c) (a1 m c) (a2 m c) (ix2 T 0) : EReal) = rr (X m c T) := by
  unfold rr X ep
  rw [← div1024]
  pointwise [val_main_v9, val_main_v8, val_main_v7, val_main_cst_1, val_main_v6, val_main_v5, val_main_cst_0, val_main_v4, val_main_v3, val_main_v2, val_main_cst]

theorem v12_at (c : Dev nD) (T : Fin 4096) : (val_main_v12 (F := Ideal) (a0 m c) (a1 m c) (a2 m c) (ix2 T 0) : EReal)
    = Ideal.ofBits .f32 0xBF000000#32 * Ideal.div (rr (X m c T)) ((∑ j, X m c T j * X m c T j) * c10 + ep) := by
  rw [← v9_at, ← div1024]
  unfold X ep
  pointwise [val_main_v12, val_main_v11, val_main_cst_2, val_main_v10, val_main_v8, val_main_v7, val_main_cst_1, val_main_v6, val_main_v5, val_main_cst_0, val_main_v4, val_main_v3, val_main_v2, val_main_cst]

theorem v14_at (c : Dev nD) (T : Fin 4096) (q : Fin 1024) : (val_main_v14 (F := Ideal) (a0 m c) (a1 m c) (a2 m c) (ix2 T q) : EReal) = X m c T q * rr (X m c T) := by
  rw [← v9_at]
  unfold X
  pointwise [val_main_v14, val_main_v13]

theorem v17_at (c : Dev nD) (T : Fin 4096) (q : Fin 1024) : (val_main_v17 (F := Ideal) (a0 m c) (a1 m c) (a2 m c) (a3 m c) (a4 m c) (ix2 T q) : EReal) = E m c T q := by
  unfold E ee
  rw [← v14_at, G_at, D_at]
  pointwise [val_main_v17, val_main_v16, val_main_v15]

theorem half_alg (e : EReal) : Ideal.div (Ideal.ofBits .f32 0x3F000000#32) (Ideal.ofBits .f32 0x44800000#32) * (Ideal.ofBits .f32 0x40000000#32 * e) = e * c10 := by
  rw [div1024, ← mul_assoc, half_eq, two_eq, c10_eq, ← EReal.coe_mul, ← EReal.coe_mul, mul_comm e]
  congr 2
  norm_num

theorem v31_at (c : Dev nD) (T : Fin 4096) (q : Fin 1024) : (val_main_v31 (F := Ideal) (a0 m c) (a1 m c) (a2 m c) (a3 m c) (a4 m c) (ix2 T q) : EReal) = E m c T q * c10 := by
  rw [← half_alg, ← v17_at]
  pointwise [val_main_v31, val_main_v30, val_main_v29, val_main_v28, val_main_v27, val_main_v26, val_main_v20, val_main_v19, val_main_cst_10, val_main_cst_9, val_main_cst_8, val_main_cst_3]

theorem v36_at (c : Dev nD) (T : Fin 4096) (q : Fin 1024) : (val_main_v36 (F := Ideal) (a0 m c) (a1 m c) (a2 m c) (a3 m c) (a4 m c) (ix2 T q) : EReal) = (E m c T q * c10) * G m c q := by
  rw [← v31_at, G_at]
  pointwise [val_main_v36, val_main_v35]

/-- Every argument is finite. -/
structure Fin5 (c : Dev nD) : Prop where
  h0 : ∀ i, R (a0 m c i)
  h1 : ∀ i, R (a1 m c i)
  h2 : ∀ i, R (a2 m c i)
  h3 : ∀ i, R (a3 m c i)
  h4 : ∀ i, R (a4 m c i)

theorem fX (c : Dev nD) (h : Fin5 m c) (T : Fin 4096) (q : Fin 1024) : R (X m c T q) := by
  unfold X
  pointwise [val_main_v1, val_main_v0]
  exact (h.h2 _).add (R.sum _ _ fun k => (h.h0 _).mul (h.h1 _))
theorem fG (c : Dev nD) (h : Fin5 m c) (q : Fin 1024) : R (G m c q) := by rw [G_at]; exact h.h3 _
theorem fE (c : Dev nD) (h : Fin5 m c) (T : Fin 4096) (q : Fin 1024) : R (E m c T q) := by
  obtain ⟨d, ρ, _, _, _, e⟩ := rr_real (X m c T) (fX m c h T)
  have ht : R (D m c T q) := by rw [D_at]; exact h.h4 _
  unfold E ee
  exact (((fX m c h T q).mul ⟨ρ, e⟩).mul (fG m c h q)).sub ht

theorem final5 (c : Dev nD) (h : Fin5 m c) : (dats m 0 c).arrAt 5 (cfgs 0).N = val_main_v50 (F := Ideal) (a0 m c) (a1 m c) (a2 m c) (a3 m c) (a4 m c) := by
  rw [out5]
  funext i
  idx_vars i
  show gx (X m c i0) (G m c) (E m c i0) i1 = _
  rw [gx_alg _ _ _ (fX m c h i0) (fG m c h) (fE m c h i0), ← v12_at, ← v9_at]
  simp only [← v36_at]
  unfold X
  pointwise [val_main_v50, val_main_v49, val_main_v48, val_main_v47, val_main_v46, val_main_v45, val_main_v44, val_main_v43, val_main_v42, val_main_v41, val_main_v40, val_main_v39, val_main_v38, val_main_v37, val_main_cst_13, val_main_cst_14, val_main_cst_12]
  rw [Fin.sum_univ_one]
  simp only [div1024]
theorem final6 (c : Dev nD) (h : Fin5 m c) : (dats m 0 c).arrAt 6 (cfgs 0).N = val_main_v51 (F := Ideal) (a0 m c) (a1 m c) (a2 m c) (a3 m c) (a4 m c) := by
  refine (out6 m c).trans ((out5 m c).symm.trans ((final5 m c h).trans ?_))
  rfl

theorem loss_alg (f : Fin 4096 → EReal) (hf : ∀ T, R (f T)) :
    (∑ s : Fin 8, (∑ r : Fin 512, f ⟨512 * s + r, by omega⟩) * c11) = Ideal.ofBits .f32 0x3F000000#32 * ∑ T, f T * c10 := by
  have r11 : R c11 := ⟨_, c11_eq⟩
  have r10 : R c10 := ⟨_, c10_eq⟩
  have hh : R (Ideal.ofBits .f32 0x3F000000#32) := ⟨_, half_eq⟩
  have ek : Ideal.ofBits .f32 0x3F000000#32 * c10 = c11 := by
    rw [half_eq, c10_eq, c11_eq, ← EReal.coe_mul]
    congr 1
    norm_num
  rw [mul_sum_fin Finset.univ _ (fun T => (hf T).mul r10) _ hh, ← Cert.Kernel4Ideal.In.sum_tiles (fun T => Ideal.ofBits .f32 0x3F000000#32 * (f T * c10))]
  refine Finset.sum_congr rfl fun s _ => ?_
  rw [mul_comm, mul_sum_fin Finset.univ _ (fun r => hf _) _ r11]
  refine Finset.sum_congr rfl fun r _ => ?_
  rw [← ek, mul_comm (f _) c10, mul_assoc]

theorem final7 (c : Dev nD) (h : Fin5 m c) : (dats m 0 c).arrAt 7 (cfgs 0).N = val_main_v52 (F := Ideal) (a0 m c) (a1 m c) (a2 m c) (a3 m c) (a4 m c) := by
  rw [out7]
  funext i
  idx_vars i
  show (∑ s : Fin 8, (∑ r : Fin 512, L1 m c ⟨512 * s + r, by omega⟩) * c11 : EReal) = _
  rw [loss_alg (L1 m c) fun T => R.sum _ _ fun q => (fE m c h T q).mul (fE m c h T q)]
  unfold L1
  simp only [← v17_at, ← div1024]
  pointwise [val_main_v52, val_main_v25, val_main_v24, val_main_v23, val_main_v22, val_main_v21, val_main_v18, val_main_cst_7, val_main_cst_6, val_main_cst_5, val_main_cst_4]

theorem final8 (c : Dev nD) : (dats m 0 c).arrAt 8 (cfgs 0).N = val_main_v34 (F := Ideal) (a0 m c) (a1 m c) (a2 m c) (a3 m c) (a4 m c) := by
  rw [out8]
  funext i
  idx_vars i
  show (∑ T, G1 m c i1 T : EReal) = _
  unfold G1
  simp only [← v31_at, ← v14_at]
  pointwise [val_main_v34, val_main_v33, val_main_v32, val_main_cst_11]
  exact Finset.sum_congr rfl fun T _ => mul_comm _ _

end Cert.Kernel5Ideal.Loss

end
-- ==== Proof.Others.lean ====
/- The value claims and the references' frames of the other four calls. -/
module
public import proofs.«01_k».proof.Defs
public import proofs.«01_k».proof.Proof.Down
public import proofs.«01_k».proof.Proof.UpFinal
public import proofs.«01_k».proof.Proof.In
public import proofs.«01_k».proof.Proof.LossFinal
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import Idealize.ShloMosaic.Adequacy
public import Idealize.ShloMosaic.Init
@[expose] public section
set_option maxRecDepth 16384
noncomputable section

namespace Cert.Others
open Idealize.ShloMosaic Idealize.ShloMosaic.TcCoe Idealize.SL.Sem Cert.Finite

/-! The preconditions say that every argument is finite. -/

theorem preFacts3 : Cert.Pre_finite3.Facts where
  bcast_S_S4096x1024 := by decide
  bcast_S_S1024x5632 := by decide
  bcast_S_S3x5632 := by decide
  bcast_S_S1x5632 := by decide

theorem preFacts5 : Cert.Pre_finite5.Facts where
  bcast_S_S4096x2816 := by decide
  bcast_S_S2816x1024 := by decide
  bcast_S_S4096x1024 := by decide
  bcast_S_S1x1024 := by decide

open Cert.Kernel3Ideal in
theorem fin4 [Cert.Pre_finite3.Facts] (m : (ℓ : Loc nD τ sig) → Buf (Elt Ideal) ℓ) (h : Cert.Pre_Kernel3Ideal_finite3 m) (c : Dev nD) : Cert.Kernel3Ideal.Up.Fin4 m c := by
  obtain ⟨p0, p1, p2, p3⟩ := h c
  refine ⟨fun i => R.of_abs ?_, fun i => R.of_abs ?_, fun i => R.of_abs ?_, fun i => R.of_abs ?_⟩
  · have q := congrFun p0 i
    pointwise [Cert.Pre_finite3.fn] at q
    exact q
  · have q := congrFun p1 i
    pointwise [Cert.Pre_finite3.fn] at q
    exact q
  · have q := congrFun p2 i
    pointwise [Cert.Pre_finite3.fn] at q
    exact q
  · have q := congrFun p3 i
    pointwise [Cert.Pre_finite3.fn] at q
    exact q

open Cert.Kernel5Ideal in
theorem fin5 [Cert.Pre_finite5.Facts] (m : (ℓ : Loc nD τ sig) → Buf (Elt Ideal) ℓ) (h : Cert.Pre_Kernel5Ideal_finite5 m) (c : Dev nD) : Cert.Kernel5Ideal.Loss.Fin5 m c := by
  obtain ⟨p0, p1, p2, p3, p4⟩ := h c
  refine ⟨fun i => R.of_abs ?_, fun i => R.of_abs ?_, fun i => R.of_abs ?_, fun i => R.of_abs ?_, fun i => R.of_abs ?_⟩
  · have q := congrFun p0 i
    pointwise [Cert.Pre_finite5.fn] at q
    exact q
  · have q := congrFun p1 i
    pointwise [Cert.Pre_finite5.fn] at q
    exact q
  · have q := congrFun p2 i
    pointwise [Cert.Pre_finite5.fn] at q
    exact q
  · have q := congrFun p3 i
    pointwise [Cert.Pre_finite5.fn] at q
    exact q
  · have q := congrFun p4 i
    pointwise [Cert.Pre_finite5.fn] at q
    exact q

/-! The gradient of the down projection's weight. -/

set_option maxHeartbeats 2000000 in
open Cert.Reference2Ideal.Read in
theorem algebraic2 : Cert.algebraic_Kernel2Ideal_Reference2Ideal (hKernel2Ideal := Cert.Kernel2Ideal.Gen.facts)
    (hReference2Ideal := Cert.Reference2Ideal.Gen.facts) := by
  intro m g m' g' _ hagree
  have e : ∀ c : Dev Cert.Kernel2Ideal.nD, val_main_v3 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))
      = (Cert.Kernel2Ideal.Gen.dats m 0 c).arrAt 2 (Cert.Kernel2Ideal.cfgs 0).N := fun c => by
    obtain ⟨q0, q1⟩ := hagree c
    rw [q0, q1]
    exact (Cert.Kernel2Ideal.Down.final m c).symm
  refine ⟨_, Cert.Kernel2Ideal.Value.run_blocks m g, ?_⟩
  exact (θ_run (Cert.Reference2Ideal.defs (F := Ideal)) _ _).mono (fun r h c =>
    ⟨((h c).1).trans ((val_main_v3_eq _ _).trans (e c)), (h c).2⟩)
    (Cert.Reference2Ideal.Value.run (F := Ideal) m' g')

theorem frame_reference2 : Cert.quiescent_Reference2Ideal (hReference2Ideal := Cert.Reference2Ideal.Gen.facts) := fun m g _ =>
  (θ_run (Cert.Reference2Ideal.defs (F := Ideal)) _ _).mono
    (fun r h => And.intro (fun c => (h c).2) (sem_eq_zero_of_no_sems (by decide) r.2))
    (Cert.Reference2Ideal.Value.run (F := Ideal) m g)

/-! The up projection, the convolution and the gate. -/

set_option maxHeartbeats 2000000 in
open Cert.Reference3Ideal.Read in
theorem algebraic3 : Cert.algebraic_Kernel3Ideal_Reference3Ideal_pre_finite3 (hKernel3Ideal := Cert.Kernel3Ideal.Gen.facts)
    (hReference3Ideal := Cert.Reference3Ideal.Gen.facts) (hPre_finite3 := preFacts3) := by
  intro m g m' g' hpre hagree
  have hf := @fin4 preFacts3 m hpre
  have e7 : ∀ c : Dev Cert.Kernel3Ideal.nD, val_main_v37 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))
      = (Cert.Kernel3Ideal.Gen.dats m 0 c).arrAt 7 (Cert.Kernel3Ideal.cfgs 0).N := fun c => by
    obtain ⟨q0, q1, q2, q3⟩ := hagree c
    rw [q0, q1]
    exact (Cert.Kernel3Ideal.Up.final7 m c).symm
  have e8 : ∀ c : Dev Cert.Kernel3Ideal.nD, val_main_v38 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))
      = (Cert.Kernel3Ideal.Gen.dats m 0 c).arrAt 8 (Cert.Kernel3Ideal.cfgs 0).N := fun c => by
    obtain ⟨q0, q1, q2, q3⟩ := hagree c
    rw [q0, q1]
    exact (Cert.Kernel3Ideal.Up.final8 m c).symm
  have e9 : ∀ c, Cert.Reference3Ideal.Value.res_main_v39 m' c = (Cert.Kernel3Ideal.Gen.dats m 0 c).arrAt 9 (Cert.Kernel3Ideal.cfgs 0).N := fun c => by
    obtain ⟨q0, q1, q2, q3⟩ := hagree c
    rw [val_main_v39_eq, q0, q1, q2, q3]
    exact (Cert.Kernel3Ideal.Up.final9 m c).symm
  have e10 : ∀ c, Cert.Reference3Ideal.Value.res_main_v40 m' c = (Cert.Kernel3Ideal.Gen.dats m 0 c).arrAt 10 (Cert.Kernel3Ideal.cfgs 0).N := fun c => by
    obtain ⟨q0, q1, q2, q3⟩ := hagree c
    rw [val_main_v40_eq, q0, q1, q2, q3]
    exact (Cert.Kernel3Ideal.Up.final10 m c).symm
  have e11 : ∀ c, Cert.Reference3Ideal.Value.res_main_v41 m' c = (Cert.Kernel3Ideal.Gen.dats m 0 c).arrAt 11 (Cert.Kernel3Ideal.cfgs 0).N := fun c => by
    obtain ⟨q0, q1, q2, q3⟩ := hagree c
    rw [val_main_v41_eq, q0, q1, q2, q3]
    exact (Cert.Kernel3Ideal.Up.final11 m c (hf c)).symm
  refine ⟨_, _, _, _, _, Cert.Kernel3Ideal.Value.run_blocks m g, ?_⟩
  exact (θ_run (Cert.Reference3Ideal.defs (F := Ideal)) _ _).mono (fun r h c =>
    ⟨((h c).1).trans ((val_main_v37_eq _ _).trans (e7 c)), ((h c).2.1).trans ((val_main_v38_eq _ _).trans (e8 c)),
      ((h c).2.2.1).trans (e9 c), ((h c).2.2.2.1).trans (e10 c), ((h c).2.2.2.2.1).trans (e11 c), (h c).2.2.2.2.2⟩)
    (Cert.Reference3Ideal.Value.run (F := Ideal) m' g')

theorem frame_reference3 : Cert.quiescent_Reference3Ideal (hReference3Ideal := Cert.Reference3Ideal.Gen.facts) := fun m g _ =>
  (θ_run (Cert.Reference3Ideal.defs (F := Ideal)) _ _).mono
    (fun r h => And.intro (fun c => (h c).2.2.2.2.2) (sem_eq_zero_of_no_sems (by decide) r.2))
    (Cert.Reference3Ideal.Value.run (F := Ideal) m g)

/-! The gradient of the weight of the projection in. -/

set_option maxHeartbeats 2000000 in
open Cert.Reference4Ideal.Read in
theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨_, Cert.Kernel4Ideal.Value.run_blocks m g, ?_⟩
  refine (θ_run (Cert.Reference4Ideal.defs (F := Ideal)) _ _).mono (fun r h c =>
    ⟨((h c).1).trans ((val_main_v6_eq _ _ _ _ _ _).trans ?_), (h c).2⟩)
    (Cert.Reference4Ideal.Value.run (F := Ideal) m' g')
  obtain ⟨q0, q1, q2, q3, q4, q5⟩ := hagree c
  rw [q0, q1, q2, q3, q4, q5]
  exact (Cert.Kernel4Ideal.In.final m c).symm

theorem frame_reference4 : Cert.quiescent_Reference4Ideal (hReference4Ideal := Cert.Reference4Ideal.Gen.facts) := fun m g _ =>
  (θ_run (Cert.Reference4Ideal.defs (F := Ideal)) _ _).mono
    (fun r h => And.intro (fun c => (h c).2) (sem_eq_zero_of_no_sems (by decide) r.2))
    (Cert.Reference4Ideal.Value.run (F := Ideal) m g)

/-! The down projection, the last norm, the loss and its gradient. -/

set_option maxHeartbeats 2000000 in
open Cert.Reference5Ideal.Read in
theorem algebraic5 : Cert.algebraic_Kernel5Ideal_Reference5Ideal_pre_finite5 (hKernel5Ideal := Cert.Kernel5Ideal.Gen.facts)
    (hReference5Ideal := Cert.Reference5Ideal.Gen.facts) (hPre_finite5 := preFacts5) := by
  intro m g m' g' hpre hagree
  have hf := @fin5 preFacts5 m hpre
  have e5 : ∀ c, Cert.Reference5Ideal.Value.res_main_v50 m' c = (Cert.Kernel5Ideal.Gen.dats m 0 c).arrAt 5 (Cert.Kernel5Ideal.cfgs 0).N := fun c => by
    obtain ⟨q0, q1, q2, q3, q4⟩ := hagree c
    rw [val_main_v50_eq, q0, q1, q2, q3, q4]
    exact (Cert.Kernel5Ideal.Loss.final5 m c (hf c)).symm
  have e6 : ∀ c, Cert.Reference5Ideal.Value.res_main_v51 m' c = (Cert.Kernel5Ideal.Gen.dats m 0 c).arrAt 6 (Cert.Kernel5Ideal.cfgs 0).N := fun c => by
    obtain ⟨q0, q1, q2, q3, q4⟩ := hagree c
    rw [val_main_v51_eq, q0, q1, q2, q3, q4]
    exact (Cert.Kernel5Ideal.Loss.final6 m c (hf c)).symm
  refine ⟨_, _, _, _, Cert.Kernel5Ideal.Value.run_blocks m g, ?_⟩
  refine (θ_run (Cert.Reference5Ideal.defs (F := Ideal)) _ _).mono (fun r h c =>
    ⟨((h c).1).trans (e5 c), ((h c).2.1).trans (e6 c), ((h c).2.2.1).trans ((val_main_v52_eq _ _ _ _ _).trans ?_),
      ((h c).2.2.2.1).trans ((val_main_v34_eq _ _ _ _ _).trans ?_), (h c).2.2.2.2⟩)
    (Cert.Reference5Ideal.Value.run (F := Ideal) m' g')
  · obtain ⟨q0, q1, q2, q3, q4⟩ := hagree c
    rw [q0, q1, q2, q3, q4]
    exact (Cert.Kernel5Ideal.Loss.final7 m c (hf c)).symm
  · obtain ⟨q0, q1, q2, q3, q4⟩ := hagree c
    rw [q0, q1, q2, q3, q4]
    exact (Cert.Kernel5Ideal.Loss.final8 m c).symm

theorem frame_reference5 : Cert.quiescent_Reference5Ideal (hReference5Ideal := Cert.Reference5Ideal.Gen.facts) := fun m g _ =>
  (θ_run (Cert.Reference5Ideal.defs (F := Ideal)) _ _).mono
    (fun r h => And.intro (fun c => (h c).2.2.2.2) (sem_eq_zero_of_no_sems (by decide) r.2))
    (Cert.Reference5Ideal.Value.run (F := Ideal) m g)

end Cert.Others

end
-- ==== Proof.Norm.lean ====
/- The gradient through a row's root mean square norm, for rows of any width: the form in which a body computes it, and the sum
   of what comes through the row and through its scale. -/
module
public import proofs.«01_k».proof.Proof.LossFinal
@[expose] public section
noncomputable section

namespace Cert.Norm
open Idealize.ShloMosaic Cert.Finite
open Cert.Kernel5Ideal.Loss (div_real mul_sum_fin sum_sq mhalf_eq ep ep_eq)

/-- A row's scale, from one over its width. -/
def rs {n : ℕ} (k : EReal) (x : Fin n → EReal) : EReal := Ideal.rsqrt ((∑ j, x j * x j) * k + ep)
/-- A row's gradient, from that of the normed row. -/
def gn {n : ℕ} (k : EReal) (x y : Fin n → EReal) (q : Fin n) : EReal :=
  rs k x * (y q - (x q * rs k x) * ((∑ j, (x j * rs k x) * y j) * k))
/-- What comes through the scale alone, twice a half. -/
def th {n : ℕ} (k : EReal) (x y : Fin n → EReal) : EReal :=
  ((∑ j, x j * y j) * (Ideal.ofBits .f32 0xBF000000#32 * Ideal.div (rs k x) ((∑ j, x j * x j) * k + ep))) * k

theorem rs_real {n : ℕ} {k : EReal} (hk : ∃ r : ℝ, 0 < r ∧ k = (r : EReal)) (x : Fin n → EReal) (h : ∀ j, R (x j)) :
    ∃ d ρ : ℝ, d ≠ 0 ∧ ρ * ρ * d = 1 ∧ (∑ j, x j * x j) * k + ep = (d : EReal) ∧ rs k x = (ρ : EReal) := by
  obtain ⟨s, hs, e⟩ := sum_sq Finset.univ x h
  obtain ⟨p, hp, e'⟩ := ep_eq
  obtain ⟨r, hr, rfl⟩ := hk
  have hd : (0 : ℝ) < s * r + p := by positivity
  have ed : (∑ j, x j * x j) * (r : EReal) + ep = ((s * r + p : ℝ) : EReal) := by rw [e, e', EReal.coe_add, EReal.coe_mul]
  refine ⟨s * r + p, (Real.sqrt (s * r + p))⁻¹, ne_of_gt hd, ?_, ed, ?_⟩
  · rw [← mul_inv, Real.mul_self_sqrt hd.le, inv_mul_cancel₀ (ne_of_gt hd)]
  · unfold rs
    rw [ed, Ideal.rsqrt_coe, if_neg (not_lt.mpr hd.le), if_neg (ne_of_gt hd)]

theorem rs_fin {n : ℕ} {k : EReal} (hk : ∃ r : ℝ, 0 < r ∧ k = (r : EReal)) (x : Fin n → EReal) (h : ∀ j, R (x j)) : R (rs k x) := by
  obtain ⟨d, ρ, _, _, _, e⟩ := rs_real hk x h
  exact ⟨ρ, e⟩

theorem gn_alg {n : ℕ} {k : EReal} (hk : ∃ r : ℝ, 0 < r ∧ k = (r : EReal)) (x y : Fin n → EReal) (hx : ∀ j, R (x j)) (hy : ∀ j, R (y j)) (q : Fin n) :
    gn k x y q = y q * rs k x + x q * th k x y + th k x y * x q := by
  obtain ⟨d, ρ, hd, h, e, e'⟩ := rs_real hk x hx
  obtain ⟨r, hr, rfl⟩ := hk
  unfold gn th
  rw [e, e']
  have es : (∑ j, (x j * (ρ : EReal)) * y j) = (ρ : EReal) * ∑ j, x j * y j := by
    rw [mul_sum_fin Finset.univ (fun j => x j * y j) (fun j => (hx j).mul (hy j)) _ ⟨ρ, rfl⟩]
    exact Finset.sum_congr rfl fun j _ => by rw [mul_comm (x j), mul_assoc]
  rw [es]
  obtain ⟨S, hS⟩ := R.sum Finset.univ (fun j => x j * y j) fun j => (hx j).mul (hy j)
  obtain ⟨u, hu⟩ := hx q
  obtain ⟨v, hv⟩ := hy q
  rw [hS, hu, hv, div_real _ d hd, mhalf_eq]
  simp only [← EReal.coe_mul, ← EReal.coe_sub, ← EReal.coe_add]
  congr 1
  rw [show d⁻¹ = ρ * ρ from inv_eq_of_mul_eq_one_left h]
  ring

/-! One over 1024, and one over 512. -/

theorem n1024 : ∃ r : ℝ, 0 < r ∧ Ideal.ofBits .f32 0x3A800000#32 = (r : EReal) :=
  ⟨(1024 : ℝ)⁻¹, by norm_num, Cert.Kernel5Ideal.Loss.c10_eq⟩
theorem c9_eq : Ideal.ofBits .f32 0x3B000000#32 = (((512 : ℝ)⁻¹ : ℝ) : EReal) := by
  simp [Ideal.ofBits, Ideal.ieee, -EReal.coe_mul]; norm_num
theorem n512_eq : Ideal.ofBits .f32 0x44000000#32 = ((512 : ℝ) : EReal) := by
  simp [Ideal.ofBits, Ideal.ieee, -EReal.coe_mul]; norm_num
theorem n512 : ∃ r : ℝ, 0 < r ∧ Ideal.ofBits .f32 0x3B000000#32 = (r : EReal) := ⟨(512 : ℝ)⁻¹, by norm_num, c9_eq⟩
theorem div512 (x : EReal) : Ideal.div x (Ideal.ofBits .f32 0x44000000#32) = x * Ideal.ofBits .f32 0x3B000000#32 := by
  rw [n512_eq, div_real x 512 (by norm_num), c9_eq]
theorem div1024 (x : EReal) : Ideal.div x (Ideal.ofBits .f32 0x44800000#32) = x * Ideal.ofBits .f32 0x3A800000#32 := Cert.Kernel5Ideal.Loss.div1024 x

/-- What starts at the first tile's part and grows by each tile's is the parts' sum. -/
theorem held {N : ℕ} (a : (n : ℕ) → n < N → EReal) (p : Fin 8 → EReal) (h0 : ∀ h, a 0 h = p 0)
    (hs : ∀ n (h : n + 1 < N) (h8 : n + 1 < 8), a (n + 1) h = a n (by omega) + p ⟨n + 1, h8⟩) :
    ∀ n (h : n < N) (h8 : n < 8), a n h = ∑ s ∈ Finset.univ.filter (fun s : Fin 8 => s.val ≤ n), p s := by
  intro n
  induction n with
  | zero =>
    intro h h8
    rw [show Finset.univ.filter (fun s : Fin 8 => s.val ≤ 0) = {0} by decide, Finset.sum_singleton]
    exact h0 h
  | succ n ih =>
    intro h h8
    have e : Finset.univ.filter (fun s : Fin 8 => s.val ≤ n + 1) = insert ⟨n + 1, h8⟩ (Finset.univ.filter (fun s : Fin 8 => s.val ≤ n)) := by
      ext s
      simp only [Finset.mem_filter, Finset.mem_insert, Finset.mem_univ, true_and, Fin.ext_iff]
      omega
    refine Eq.trans ?_ (congrArg (fun S => ∑ s ∈ S, p s) e).symm
    rw [Finset.sum_insert (by simp), add_comm (p ⟨n + 1, h8⟩), hs n h h8, ih (by omega) (by omega)]

theorem held_last {N : ℕ} (a : (n : ℕ) → n < N → EReal) (p : Fin 8 → EReal) (h0 : ∀ h, a 0 h = p 0)
    (hs : ∀ n (h : n + 1 < N) (h8 : n + 1 < 8), a (n + 1) h = a n (by omega) + p ⟨n + 1, h8⟩) (n : ℕ) (h : n < N) (h7 : n = 7) :
    a n h = ∑ s, p s := by
  subst h7
  rw [held a p h0 hs 7 h (by omega), show Finset.univ.filter (fun s : Fin 8 => s.val ≤ 7) = Finset.univ by decide]

end Cert.Norm

end
-- ==== Proof.UpBwd.lean ====
/- The up projection's input gradient and the gradient through the norm in front of it: the gradient of a tile's normed rows, in
   four products, and what the body makes of it; over finite arguments the results are the reference's. -/
module
public import proofs.«01_k».proof.Proof.Norm
public import proofs.«01_k».proof.Proof.Gen.Kernel6Ideal.Value
public import proofs.«01_k».proof.Proof.Gen.Reference6Ideal.Read
public import Idealize.ShloMosaic.Lib.Pointwise
public import Idealize.ShloMosaic.Lib.Claim
public import Idealize.ShloMosaic.Lib.Pipeline.ValueKit
public import Idealize.ShloMosaic.Lib.Pipeline.ReadBack
@[expose] public section
set_option maxRecDepth 16384
set_option maxHeartbeats 1000000
noncomputable section

namespace Cert.Kernel6Ideal.UpBwd
open Cert.Kernel6Ideal Cert.Kernel6Ideal.Gen Idealize.ShloMosaic Idealize.ShloMosaic.TcCoe Idealize.SL.Sem
open Cert.Reference6Ideal.Read Cert.Finite Cert.Norm
open Cert.Kernel5Ideal.Loss (ep)
variable (m : (ℓ : Loc nD τ sig) → Buf (Elt Ideal) ℓ)

/-- One over 1024. -/
def ct : EReal := Ideal.ofBits .f32 0x3A800000#32

/-! What the body computes. -/

/-- The gradient of a tile's normed rows, a quarter of the width at a time. -/
def dh (a b : Fin 512 → Fin 2816 → EReal) (w : Fin 4 → Fin 1024 → Fin 1408 → EReal) (r : Fin 512) (q : Fin 1024) : EReal :=
  (∑ k : Fin 1408, a r ⟨k, by omega⟩ * w 0 q k) + (∑ k : Fin 1408, a r ⟨1408 + k, by omega⟩ * w 1 q k)
    + (∑ k : Fin 1408, b r ⟨k, by omega⟩ * w 2 q k) + ∑ k : Fin 1408, b r ⟨1408 + k, by omega⟩ * w 3 q k

theorem pay6_at (a b : Vec Ideal S512x2816 .bf16) (w : Vec Ideal S4x1024x1408 .bf16) (r : Fin 512) (q : Fin 1024) :
    k0_pay6 (F := Ideal) (View.ld a (Rect.unit ![0, 0] ![512, 1408] inb_S512x2816_S512x1408_0_0)) (View.ld w (Rect.unit ![0, 0, 0] ![1, 1024, 1408] inb_S4x1024x1408_S1x1024x1408_0_0_0))
      (View.ld a (Rect.unit ![0, 1408] ![512, 1408] inb_S512x2816_S512x1408_0_1408)) (View.ld w (Rect.unit ![1, 0, 0] ![1, 1024, 1408] inb_S4x1024x1408_S1x1024x1408_1_0_0))
      (View.ld b (Rect.unit ![0, 0] ![512, 1408] inb_S512x2816_S512x1408_0_0)) (View.ld w (Rect.unit ![2, 0, 0] ![1, 1024, 1408] inb_S4x1024x1408_S1x1024x1408_2_0_0))
      (View.ld b (Rect.unit ![0, 1408] ![512, 1408] inb_S512x2816_S512x1408_0_1408)) (View.ld w (Rect.unit ![3, 0, 0] ![1, 1024, 1408] inb_S4x1024x1408_S1x1024x1408_3_0_0)) (ix2 r q)
      = dh (fun r k => a (ix2 r k)) (fun r k => b (ix2 r k)) (fun j q k => w (ix3 j q k)) r q := by
  unfold dh
  pointwise [k0_pay6]

theorem pay3_at (d : FVec Ideal S512x1024 .f32) (x : Vec Ideal S512x1024 .f32) (g : Vec Ideal S1x1024 .f32) (y : Vec Ideal S512x1024 .f32) (r : Fin 512) (q : Fin 1024) :
    k0_pay3 (F := Ideal) d x g y (ix2 r q) = (y (ix2 r q) : EReal) + gn ct (fun q => x (ix2 r q)) (fun q => (d (ix2 r q) : EReal) * g (ix2 0 q)) q := by
  unfold gn rs ct ep
  pointwise [k0_pay3, k0_pay2, k0_pay1]

theorem pay4_at (d : FVec Ideal S512x1024 .f32) (x : Vec Ideal S512x1024 .f32) (acc : Vec Ideal S1x1024 .f32) (q : Fin 1024) :
    k0_pay4 (F := Ideal) d x acc (ix2 0 q) = (acc (ix2 0 q) : EReal) + ∑ r : Fin 512, (d (ix2 r q) : EReal) * ((x (ix2 r q) : EReal) * rs ct (fun q => x (ix2 r q))) := by
  unfold rs ct ep
  pointwise [k0_pay4, k0_pay2, k0_pay1]

theorem pay5_at (q : Fin 1024) : (k0_pay5 (F := Ideal) (ix2 0 q) : EReal) = 0 := by
  pointwise [k0_pay5]

/-! What a grid point leaves. -/

theorem pred_lt (t : Fin cfg0.N) : t.val - 1 < cfg0.N := lt_of_le_of_lt (Nat.sub_le _ _) t.isLt

/-- The blocks of a point, as rows. -/
def bd (c : Dev nD) (t : Fin cfg0.N) (r : Fin 512) (q : Fin 1024) : EReal :=
  dh (fun r k => iblk m c 0 t (ix2 r k)) (fun r k => iblk m c 1 t (ix2 r k)) (fun j q k => iblk m c 2 t (ix3 j q k)) r q
def bx (c : Dev nD) (t : Fin cfg0.N) (r : Fin 512) (q : Fin 1024) : EReal := iblk m c 3 t (ix2 r q)
def bg (c : Dev nD) (t : Fin cfg0.N) (q : Fin 1024) : EReal := iblk m c 4 t (ix2 0 q)
def bq (c : Dev nD) (t : Fin cfg0.N) (r : Fin 512) (q : Fin 1024) : EReal := iblk m c 5 t (ix2 r q)
/-- What the scale's gradient held before the point. -/
def old (c : Dev nD) (t : Fin cfg0.N) (q : Fin 1024) : EReal :=
  if t.val % 8 = 0 then 0 else (outsAt0 m c (t.val - 1) (pred_lt t)).2 (ix2 0 q)

theorem gn_of (x y y' : Fin 1024 → EReal) (h : ∀ q, y q = y' q) (q : Fin 1024) : gn ct x y q = gn ct x y' q := by
  rw [show y = y' from funext h]

theorem outX (c : Dev nD) (t : Fin cfg0.N) (r : Fin 512) (q : Fin 1024) :
    ((outsAt0 m c t.val t.isLt).1 (ix2 r q) : EReal) = bq m c t r q + gn ct (bx m c t r) (fun q => bd m c t r q * bg m c t q) q := by
  by_cases h0 : t.val % 8 = 0
  · rw [outsAt0_A m c t h0]; frame_out
    exact (pay3_at _ _ _ _ r q).trans (congrArg (fun a : EReal => bq m c t r q + a) (gn_of _ _ _ (fun q => congrArg (fun a : EReal => a * bg m c t q) (pay6_at _ _ _ r q)) q))
  · rw [outsAt0_B m c t h0]; frame_out
    exact (pay3_at _ _ _ _ r q).trans (congrArg (fun a : EReal => bq m c t r q + a) (gn_of _ _ _ (fun q => congrArg (fun a : EReal => a * bg m c t q) (pay6_at _ _ _ r q)) q))

theorem outG (c : Dev nD) (t : Fin cfg0.N) (q : Fin 1024) :
    ((outsAt0 m c t.val t.isLt).2 (ix2 0 q) : EReal) = old m c t q + ∑ r : Fin 512, bd m c t r q * (bx m c t r q * rs ct (bx m c t r)) := by
  by_cases h0 : t.val % 8 = 0
  · rw [outsAt0_A m c t h0]; frame_out
    refine (pay4_at _ _ _ q).trans (congrArg₂ (fun a b : EReal => a + b) ?_ (Finset.sum_congr rfl fun r _ => congrArg (fun a : EReal => a * (bx m c t r q * rs ct (bx m c t r))) (pay6_at _ _ _ r q)))
    unfold old
    rw [if_pos h0]
    exact pay5_at q
  · rw [outsAt0_B m c t h0]; frame_out
    refine (pay4_at _ _ _ q).trans (congrArg₂ (fun a b : EReal => a + b) ?_ (Finset.sum_congr rfl fun r _ => congrArg (fun a : EReal => a * (bx m c t r q * rs ct (bx m c t r))) (pay6_at _ _ _ r q)))
    unfold old
    rw [if_neg h0]

/-! Over all tokens. -/

abbrev a0 (c : Dev nD) : FVec Ideal S4096x2816 .f32 := m ((c : Thread nD τ).loc main_arg0)
abbrev a1 (c : Dev nD) : FVec Ideal S4096x2816 .f32 := m ((c : Thread nD τ).loc main_arg1)
abbrev a2 (c : Dev nD) : FVec Ideal S1024x5632 .f32 := m ((c : Thread nD τ).loc main_arg2)
abbrev a3 (c : Dev nD) : FVec Ideal S4096x1024 .f32 := m ((c : Thread nD τ).loc main_arg3)
abbrev a4 (c : Dev nD) : FVec Ideal S1x1024 .f32 := m ((c : Thread nD τ).loc main_arg4)
abbrev a5 (c : Dev nD) : FVec Ideal S4096x1024 .f32 := m ((c : Thread nD τ).loc main_arg5)

theorem e2 (c : Dev nD) : V m c main_v2 = fun i => a0 m c i := by
  entry_read
  rfl
theorem e3 (c : Dev nD) : V m c main_v3 = fun i => a1 m c i := by
  entry_read
  rfl
theorem s4 (c : Dev nD) : V m c main_v4 = fun i => (transpose S4x1024x1408 [1, 0, 2] (shapeCast S1024x4x1408 (a2 m c) shapeCasts_S1024x5632_S1024x4x1408) transposes_S1024x4x1408_S4x1024x1408_1_0_2 i : EReal) := by
  entry_read
  rfl

theorem idx : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![t.val, 0] :=
  (by decide +kernel : ∀ t : Fin grid0.N, _)
theorem odx : ∀ t : Fin cfg0.N, win0_6.index t = ![t.val, 0] ∧ win0_7.index t = ![0, 0] :=
  (by decide +kernel : ∀ t : Fin grid0.N, _)
theorem lt8 (t : Fin cfg0.N) : t.val < 8 := lt_of_lt_of_eq t.isLt N_0
/-- The token of a tile's row. -/
def tk (t : Fin cfg0.N) (k : Fin 512) : Fin 4096 := ⟨512 * t.val + k, by have := lt8 t; omega⟩

def A (c : Dev nD) (T : Fin 4096) (k : Fin 2816) : EReal := V m c main_v2 (ix2 T k)
def B (c : Dev nD) (T : Fin 4096) (k : Fin 2816) : EReal := V m c main_v3 (ix2 T k)
def W (c : Dev nD) (j : Fin 4) (q : Fin 1024) (k : Fin 1408) : EReal := V m c main_v4 (ix3 j q k)
def X (c : Dev nD) (T : Fin 4096) (q : Fin 1024) : EReal := V m c main_arg3 (ix2 T q)
def G (c : Dev nD) (q : Fin 1024) : EReal := V m c main_arg4 (ix2 0 q)
def Y (c : Dev nD) (T : Fin 4096) (q : Fin 1024) : EReal := V m c main_arg5 (ix2 T q)
theorem A_at (c : Dev nD) (T : Fin 4096) (k : Fin 2816) : A m c T k = a0 m c (ix2 T k) := by
  unfold A; rw [e2]
theorem B_at (c : Dev nD) (T : Fin 4096) (k : Fin 2816) : B m c T k = a1 m c (ix2 T k) := by
  unfold B; rw [e3]
theorem W_at (c : Dev nD) (j : Fin 4) (q : Fin 1024) (k : Fin 1408) : W m c j q k = a2 m c (ix2 q ⟨1408 * j + k, by omega⟩) := by
  unfold W; rw [s4]
  pointwise
  exact congrArg (fun C => a2 m c (ix2 q C)) (Fin.ext (by dsimp only; omega))
theorem X_at (c : Dev nD) (T : Fin 4096) (q : Fin 1024) : X m c T q = a3 m c (ix2 T q) := by
  unfold X; rw [V_main_arg3]
theorem G_at (c : Dev nD) (q : Fin 1024) : G m c q = a4 m c (ix2 0 q) := by
  unfold G; rw [V_main_arg4]
theorem Y_at (c : Dev nD) (T : Fin 4096) (q : Fin 1024) : Y m c T q = a5 m c (ix2 T q) := by
  unfold Y; rw [V_main_arg5]

theorem b0_at (c : Dev nD) (t : Fin cfg0.N) (r : Fin 512) (k : Fin 2816) : (iblk m c 0 t (ix2 r k) : EReal) = A m c (tk t r) k := by
  unfold A tk
  blk_ext [iblk, V, idx t]
theorem b1_at (c : Dev nD) (t : Fin cfg0.N) (r : Fin 512) (k : Fin 2816) : (iblk m c 1 t (ix2 r k) : EReal) = B m c (tk t r) k := by
  unfold B tk
  blk_ext [iblk, V, idx t]
theorem b2_at (c : Dev nD) (t : Fin cfg0.N) (j : Fin 4) (q : Fin 1024) (k : Fin 1408) : (iblk m c 2 t (ix3 j q k) : EReal) = W m c j q k := by
  unfold W
  blk_ext [iblk, V, idx t]
theorem bx_at (c : Dev nD) (t : Fin cfg0.N) (r : Fin 512) : bx m c t r = X m c (tk t r) := by
  funext q
  unfold bx X tk
  blk_ext [iblk, V, idx t]
theorem bg_at (c : Dev nD) (t : Fin cfg0.N) : bg m c t = G m c := by
  funext q
  unfold bg G
  blk_ext [iblk, V, idx t]
theorem bq_at (c : Dev nD) (t : Fin cfg0.N) (r : Fin 512) (q : Fin 1024) : bq m c t r q = Y m c (tk t r) q := by
  unfold bq Y tk
  blk_ext [iblk, V, idx t]

/-- A sum over 5632, quarter by quarter. -/
theorem sum_parts (f : Fin 5632 → EReal) : ∑ k, f k
    = (∑ k : Fin 1408, f ⟨k, by omega⟩) + (∑ k : Fin 1408, f ⟨1408 + k, by omega⟩) + (∑ k : Fin 1408, f ⟨2816 + k, by omega⟩)
      + ∑ k : Fin 1408, f ⟨4224 + k, by omega⟩ := by
  show ∑ k : Fin (1408 + 1408 + 1408 + 1408), f k = _
  rw [Fin.sum_univ_add, Fin.sum_univ_add, Fin.sum_univ_add]
  rfl

/-- The gate's and the value's gradient side by side, and the gradient of the normed rows. -/
def Q (c : Dev nD) (T : Fin 4096) (k : Fin 5632) : EReal := val_main_v0 (F := Ideal) (a0 m c) (a1 m c) (ix2 T k)
def D (c : Dev nD) (T : Fin 4096) (q : Fin 1024) : EReal := val_main_v17 (F := Ideal) (a0 m c) (a1 m c) (a2 m c) (ix2 T q)
theorem Q_at (c : Dev nD) (T : Fin 4096) (k : Fin 5632) : Q m c T k =
    if h : (k : ℕ) < 2816 then A m c T ⟨k, h⟩ else B m c T ⟨k - 2816, by omega⟩ := by
  unfold Q
  simp only [A_at, B_at]
  pointwise [val_main_v0]
theorem QA (c : Dev nD) (T : Fin 4096) (k : Fin 5632) (k' : Fin 2816) (h : (k : ℕ) = k') : Q m c T k = A m c T k' := by
  rw [Q_at, dif_pos (by omega)]
  exact congrArg (A m c T) (Fin.ext h)
theorem QB (c : Dev nD) (T : Fin 4096) (k : Fin 5632) (k' : Fin 2816) (h : (k : ℕ) = 2816 + k') : Q m c T k = B m c T k' := by
  rw [Q_at, dif_neg (by omega)]
  exact congrArg (B m c T) (Fin.ext (by dsimp only; omega))
theorem Wa (c : Dev nD) (j : Fin 4) (q : Fin 1024) (k : Fin 1408) (C : Fin 5632) (h : (C : ℕ) = 1408 * j + k) : W m c j q k = a2 m c (ix2 q C) := by
  rw [W_at]
  exact congrArg (fun C => a2 m c (ix2 q C)) (Fin.ext h.symm)

theorem D_at (c : Dev nD) (T : Fin 4096) (q : Fin 1024) : D m c T q = ∑ k, Q m c T k * a2 m c (ix2 q k) := by
  unfold D Q
  pointwise [val_main_v17]

theorem dh_at (c : Dev nD) (T : Fin 4096) (q : Fin 1024) (a b : Fin 512 → Fin 2816 → EReal) (w : Fin 4 → Fin 1024 → Fin 1408 → EReal) (r : Fin 512)
    (ha : ∀ k, a r k = A m c T k) (hb : ∀ k, b r k = B m c T k) (hw : ∀ j k, w j q k = W m c j q k) : dh a b w r q = D m c T q := by
  rw [D_at, sum_parts]
  unfold dh
  simp only [ha, hb, hw]
  refine congrArg₂ (fun a b : EReal => a + b) (congrArg₂ (fun a b : EReal => a + b) (congrArg₂ (fun a b : EReal => a + b) ?_ ?_) ?_) ?_ <;>
    refine Finset.sum_congr rfl fun k _ => congrArg₂ (fun a b : EReal => a * b) (Eq.symm ?_) (Wa m c _ q k _ ?_)
  · exact QA m c T _ _ rfl
  · show (k : ℕ) = 1408 * 0 + k; omega
  · exact QA m c T _ _ rfl
  · show 1408 + (k : ℕ) = 1408 * 1 + k; omega
  · exact QB m c T _ _ rfl
  · show 2816 + (k : ℕ) = 1408 * 2 + k; omega
  · exact QB m c T _ _ (show 4224 + (k : ℕ) = 2816 + (1408 + k) by omega)
  · show 4224 + (k : ℕ) = 1408 * 3 + k; omega

theorem bd_at (c : Dev nD) (t : Fin cfg0.N) (r : Fin 512) (q : Fin 1024) : bd m c t r q = D m c (tk t r) q := by
  unfold bd
  exact dh_at m c _ q _ _ _ r (fun k => b0_at m c t r k) (fun k => b1_at m c t r k) (fun j k => b2_at m c t j q k)

/-- What goes through the norm, and what a token adds to the scale's gradient. -/
def P (c : Dev nD) (T : Fin 4096) (q : Fin 1024) : EReal := D m c T q * G m c q
def G1 (c : Dev nD) (q : Fin 1024) (T : Fin 4096) : EReal := D m c T q * (X m c T q * rs ct (X m c T))

theorem rowX (c : Dev nD) (t : Fin cfg0.N) (r : Fin 512) (q : Fin 1024) :
    ((outsAt0 m c t.val t.isLt).1 (ix2 r q) : EReal) = Y m c (tk t r) q + gn ct (X m c (tk t r)) (P m c (tk t r)) q := by
  rw [outX, bq_at, bx_at, bg_at]
  simp only [bd_at]
  rfl
theorem step (c : Dev nD) (t : Fin cfg0.N) (q : Fin 1024) :
    ((outsAt0 m c t.val t.isLt).2 (ix2 0 q) : EReal) = old m c t q + ∑ r : Fin 512, G1 m c q (tk t r) := by
  rw [outG]
  simp only [bd_at, bx_at]
  rfl
theorem last (c : Dev nD) (t : Fin cfg0.N) (ht : t.val % 8 = 7) (q : Fin 1024) :
    ((outsAt0 m c t.val t.isLt).2 (ix2 0 q) : EReal) = ∑ T, G1 m c q T := by
  rw [← Cert.Kernel4Ideal.In.sum_tiles (G1 m c q)]
  refine held_last (fun n h => ((outsAt0 m c n h).2 (ix2 0 q) : EReal)) _ (fun h => ?_) (fun n h h8 => ?_) t.val t.isLt (by have := lt8 t; omega)
  · refine (step m c ⟨0, h⟩ q).trans ?_
    unfold old
    rw [if_pos (show ((⟨0, h⟩ : Fin cfg0.N) : ℕ) % 8 = 0 from rfl), zero_add]
    rfl
  · refine (step m c ⟨n + 1, h⟩ q).trans ?_
    unfold old
    rw [if_neg (by dsimp only; omega)]
    rfl

/-! The results as arrays. -/

def rX (c : Dev nD) : S4096x1024.Idx → EReal := fun i => Y m c (i 0) (i 1) + gn ct (X m c (i 0)) (P m c (i 0)) (i 1)
theorem rX_at (c : Dev nD) (i : S4096x1024.Idx) (T : Fin 4096) (q : Fin 1024) (h0 : (i 0 : ℕ) = T) (h1 : (i 1 : ℕ) = q) :
    Y m c T q + gn ct (X m c T) (P m c T) q = rX m c i := by
  unfold rX
  rw [show i 0 = T from Fin.ext h0, show i 1 = q from Fin.ext h1]
def rG (c : Dev nD) : S1x1024.Idx → EReal := fun i => ∑ T, G1 m c (i 1) T
theorem rG_at (c : Dev nD) (i : S1x1024.Idx) (q : Fin 1024) (h1 : (i 1 : ℕ) = q) : ∑ T, G1 m c q T = rG m c i := by
  unfold rG
  rw [show i 1 = q from Fin.ext h1]

theorem out6 (c : Dev nD) : (dats m 0 c).arrAt 6 (cfgs 0).N = rX m c := by
  refine (dats m 0 c).arrAt_eq_of_covers 6 _ (by decide +kernel) fun t hf y => ?_
  blk_simp
  idx_vars y
  rw [after0_6]
  refine (rowX m c t _ _).trans <| rX_at m c _ _ _ ?_ ?_
  · blk_simp [odx t] <;> first | omega | (simp only [tk]; omega)
  · blk_simp [odx t] <;> first | omega | (simp only [tk]; omega)
theorem out7 (c : Dev nD) : (dats m 0 c).arrAt 7 (cfgs 0).N = rG m c := by
  refine (dats m 0 c).arrAt_eq_of_covers 7 _ (by decide +kernel) fun t hf y => ?_
  blk_simp
  idx_vars y
  obtain rfl : y0 = 0 := Subsingleton.elim _ _
  rw [after0_7]
  refine (last m c t ((flush0_7 t).mp hf) _).trans <| rG_at m c _ _ ?_
  blk_simp [odx t] <;> first | omega | (dsimp only; omega)

/-! The reference, read at a token and a column. -/

theorem v8_at (c : Dev nD) (T : Fin 4096) : (val_main_v8 (F := Ideal) (a3 m c) (ix2 T 0) : EReal) = rs ct (X m c T) := by
  unfold rs ct ep
  rw [← div1024]
  simp only [X_at]
  pointwise [val_main_v8, val_main_v7, val_main_cst_1, val_main_v6, val_main_v5, val_main_cst_0, val_main_v4, val_main_v3, val_main_v2, val_main_v1, val_main_cst]

theorem v11_at (c : Dev nD) (T : Fin 4096) : (val_main_v11 (F := Ideal) (a3 m c) (ix2 T 0) : EReal)
    = Ideal.ofBits .f32 0xBF000000#32 * Ideal.div (rs ct (X m c T)) ((∑ j, X m c T j * X m c T j) * ct + ep) := by
  rw [← v8_at]
  unfold ct ep
  rw [← div1024]
  simp only [X_at]
  pointwise [val_main_v11, val_main_v10, val_main_cst_2, val_main_v9, val_main_v7, val_main_cst_1, val_main_v6, val_main_v5, val_main_cst_0, val_main_v4, val_main_v3, val_main_v2, val_main_v1, val_main_cst]

theorem v13_at (c : Dev nD) (T : Fin 4096) (q : Fin 1024) : (val_main_v13 (F := Ideal) (a3 m c) (ix2 T q) : EReal) = X m c T q * rs ct (X m c T) := by
  rw [← v8_at, X_at]
  pointwise [val_main_v13, val_main_v12]

theorem v22_at (c : Dev nD) (T : Fin 4096) (q : Fin 1024) : (val_main_v22 (F := Ideal) (a0 m c) (a1 m c) (a2 m c) (a4 m c) (ix2 T q) : EReal) = P m c T q := by
  unfold P D
  rw [G_at]
  pointwise [val_main_v22, val_main_v21]

/-- Every argument is finite. -/
structure Fin6 (c : Dev nD) : Prop where
  h0 : ∀ i, R (a0 m c i)
  h1 : ∀ i, R (a1 m c i)
  h2 : ∀ i, R (a2 m c i)
  h3 : ∀ i, R (a3 m c i)
  h4 : ∀ i, R (a4 m c i)
  h5 : ∀ i, R (a5 m c i)

theorem fX (c : Dev nD) (h : Fin6 m c) (T : Fin 4096) (q : Fin 1024) : R (X m c T q) := by
  rw [X_at]; exact h.h3 _
theorem fP (c : Dev nD) (h : Fin6 m c) (T : Fin 4096) (q : Fin 1024) : R (P m c T q) := by
  unfold P
  rw [D_at, G_at]
  refine (R.sum _ _ fun k => R.mul ?_ (h.h2 _)).mul (h.h4 _)
  rw [Q_at]
  split
  · rw [A_at]; exact h.h0 _
  · rw [B_at]; exact h.h1 _

theorem final6 (c : Dev nD) (h : Fin6 m c) : (dats m 0 c).arrAt 6 (cfgs 0).N = val_main_v37 (F := Ideal) (a0 m c) (a1 m c) (a2 m c) (a3 m c) (a4 m c) (a5 m c) := by
  rw [out6]
  funext i
  idx_vars i
  show (Y m c i0 i1 + gn ct (X m c i0) (P m c i0) i1 : EReal) = _
  have hk : ∃ r : ℝ, 0 < r ∧ ct = (r : EReal) := n1024
  rw [gn_alg hk _ _ (fX m c h i0) (fP m c h i0)]
  unfold th
  rw [← add_assoc, ← add_assoc, ← v11_at, ← v8_at, Y_at]
  unfold ct
  simp only [← v22_at, X_at]
  pointwise [val_main_v37, val_main_v36, val_main_v35, val_main_v34, val_main_v33, val_main_v32, val_main_v31, val_main_v30, val_main_v29, val_main_v28, val_main_v27, val_main_v26, val_main_v25, val_main_v24, val_main_v23, val_main_cst_4, val_main_cst_5, val_main_cst_6]
  rw [Fin.sum_univ_one]
  simp only [div1024]

theorem final7 (c : Dev nD) : (dats m 0 c).arrAt 7 (cfgs 0).N = val_main_v20 (F := Ideal) (a0 m c) (a1 m c) (a2 m c) (a3 m c) := by
  rw [out7]
  funext i
  idx_vars i
  show (∑ T, G1 m c i1 T : EReal) = _
  unfold G1 D
  simp only [← v13_at]
  pointwise [val_main_v20, val_main_v19, val_main_v18, val_main_cst_3]
  exact Finset.sum_congr rfl fun T _ => mul_comm _ _

end Cert.Kernel6Ideal.UpBwd

end
-- ==== Proof.InBwd.lean ====
/- The gradient in front of the projections: the five products of a tile's rows, added, are one product of the five gradients
   side by side. -/
module
public import proofs.«01_k».proof.Proof.Gen.Kernel7Ideal.Value
public import proofs.«01_k».proof.Proof.Gen.Reference7Ideal.Read
public import Idealize.ShloMosaic.Lib.Pointwise
public import Idealize.ShloMosaic.Lib.Claim
public import Idealize.ShloMosaic.Lib.Pipeline.ValueKit
public import Idealize.ShloMosaic.Lib.Pipeline.ReadBack
@[expose] public section
set_option maxRecDepth 16384
set_option maxHeartbeats 1000000
noncomputable section

namespace Cert.Kernel7Ideal.InBwd
open Cert.Kernel7Ideal Cert.Kernel7Ideal.Gen Idealize.ShloMosaic Idealize.ShloMosaic.TcCoe Idealize.SL.Sem
open Cert.Reference7Ideal.Read
variable (m : (ℓ : Loc nD τ sig) → Buf (Elt Ideal) ℓ)

/-- A sum over 2304, part by part. -/
theorem sum_parts (f : Fin 2304 → EReal) : ∑ k, f k
    = (∑ k : Fin 512, f ⟨k, by omega⟩) + (∑ k : Fin 512, f ⟨512 + k, by omega⟩) + (∑ k : Fin 512, f ⟨1024 + k, by omega⟩)
      + (∑ k : Fin 384, f ⟨1536 + k, by omega⟩) + ∑ k : Fin 384, f ⟨1920 + k, by omega⟩ := by
  show ∑ k : Fin (512 + 512 + 512 + 384 + 384), f k = _
  rw [Fin.sum_univ_add, Fin.sum_univ_add, Fin.sum_univ_add, Fin.sum_univ_add]
  rfl

/-- The body's five products, added. -/
theorem pay1_at (p1 : Vec Ideal S512x512 .f32) (w1 : Vec Ideal S512x1024 .bf16) (p2 : Vec Ideal S512x512 .f32) (w2 : Vec Ideal S512x1024 .bf16)
    (p3 : Vec Ideal S512x512 .f32) (w3 : Vec Ideal S512x1024 .bf16) (p4 : Vec Ideal S512x384 .f32) (w4 : Vec Ideal S384x1024 .bf16)
    (p5 : Vec Ideal S512x384 .f32) (w5 : Vec Ideal S384x1024 .bf16) (r : Fin 512) (x : Fin 1024) :
    k0_pay1 (F := Ideal) p1 w1 p2 w2 p3 w3 p4 w4 p5 w5 (ix2 r x)
      = (∑ k : Fin 512, (p1 (ix2 r k) : EReal) * w1 (ix2 k x)) + (∑ k : Fin 512, (p2 (ix2 r k) : EReal) * w2 (ix2 k x))
        + (∑ k : Fin 512, (p3 (ix2 r k) : EReal) * w3 (ix2 k x)) + (∑ k : Fin 384, (p4 (ix2 r k) : EReal) * w4 (ix2 k x))
        + ∑ k : Fin 384, (p5 (ix2 r k) : EReal) * w5 (ix2 k x) := by
  pointwise [k0_pay1]

abbrev a0 (c : Dev nD) : FVec Ideal S4096x512 .f32 := m ((c : Thread nD τ).loc main_arg0)
abbrev a1 (c : Dev nD) : FVec Ideal S4096x512 .f32 := m ((c : Thread nD τ).loc main_arg1)
abbrev a2 (c : Dev nD) : FVec Ideal S4096x512 .f32 := m ((c : Thread nD τ).loc main_arg2)
abbrev a3 (c : Dev nD) : FVec Ideal S4096x384 .f32 := m ((c : Thread nD τ).loc main_arg3)
abbrev a4 (c : Dev nD) : FVec Ideal S4096x384 .f32 := m ((c : Thread nD τ).loc main_arg4)
abbrev a5 (c : Dev nD) : FVec Ideal S2304x1024 .f32 := m ((c : Thread nD τ).loc main_arg5)

theorem e0 (c : Dev nD) : V m c main_v0 = fun i => a5 m c i := by
  entry_read
  rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![1, 0]
    ∧ win0_7.index t = ![2, 0] ∧ win0_8.index t = ![4, 0] ∧ win0_9.index t = ![5, 0] :=
  (by decide +kernel : ∀ t : Fin grid0.N, _)
theorem odx : ∀ t : Fin cfg0.N, win0_10.index t = ![t.val, 0] :=
  (by decide +kernel : ∀ t : Fin grid0.N, _)
theorem lt8 (t : Fin cfg0.N) : t.val < 8 := lt_of_lt_of_eq t.isLt N_0
/-- The token of a tile's row. -/
def tk (t : Fin cfg0.N) (k : Fin 512) : Fin 4096 := ⟨512 * t.val + k, by have := lt8 t; omega⟩

def G1 (c : Dev nD) (T : Fin 4096) (k : Fin 512) : EReal := V m c main_arg0 (ix2 T k)
def G2 (c : Dev nD) (T : Fin 4096) (k : Fin 512) : EReal := V m c main_arg1 (ix2 T k)
def G3 (c : Dev nD) (T : Fin 4096) (k : Fin 512) : EReal := V m c main_arg2 (ix2 T k)
def G4 (c : Dev nD) (T : Fin 4096) (k : Fin 384) : EReal := V m c main_arg3 (ix2 T k)
def G5 (c : Dev nD) (T : Fin 4096) (k : Fin 384) : EReal := V m c main_arg4 (ix2 T k)
def W (c : Dev nD) (k : Fin 2304) (x : Fin 1024) : EReal := V m c main_v0 (ix2 k x)

theorem p1_at (c : Dev nD) (t : Fin cfg0.N) (r k : Fin 512) : (iblk m c 0 t (ix2 r k) : EReal) = G1 m c (tk t r) k := by
  unfold G1 tk
  blk_ext [iblk, V, idx t]
theorem p2_at (c : Dev nD) (t : Fin cfg0.N) (r k : Fin 512) : (iblk m c 1 t (ix2 r k) : EReal) = G2 m c (tk t r) k := by
  unfold G2 tk
  blk_ext [iblk, V, idx t]
theorem p3_at (c : Dev nD) (t : Fin cfg0.N) (r k : Fin 512) : (iblk m c 2 t (ix2 r k) : EReal) = G3 m c (tk t r) k := by
  unfold G3 tk
  blk_ext [iblk, V, idx t]
theorem p4_at (c : Dev nD) (t : Fin cfg0.N) (r : Fin 512) (k : Fin 384) : (iblk m c 3 t (ix2 r k) : EReal) = G4 m c (tk t r) k := by
  unfold G4 tk
  blk_ext [iblk, V, idx t]
theorem p5_at (c : Dev nD) (t : Fin cfg0.N) (r : Fin 512) (k : Fin 384) : (iblk m c 4 t (ix2 r k) : EReal) = G5 m c (tk t r) k := by
  unfold G5 tk
  blk_ext [iblk, V, idx t]
theorem w1_at (c : Dev nD) (t : Fin cfg0.N) (k : Fin 512) (x : Fin 1024) : (X0_5 m c t (ix2 k x) : EReal) = W m c ⟨k, by omega⟩ x := by
  unfold W X0_5 Pipeline.Window.fill
  rw [dif_pos (moved0_5 t _)]
  blk_ext [iblk, V, idx t]
theorem w2_at (c : Dev nD) (t : Fin cfg0.N) (k : Fin 512) (x : Fin 1024) : (X0_6 m c t (ix2 k x) : EReal) = W m c ⟨512 + k, by omega⟩ x := by
  unfold W X0_6 Pipeline.Window.fill
  rw [dif_pos (moved0_6 t _)]
  blk_ext [iblk, V, idx t]
theorem w3_at (c : Dev nD) (t : Fin cfg0.N) (k : Fin 512) (x : Fin 1024) : (X0_7 m c t (ix2 k x) : EReal) = W m c ⟨1024 + k, by omega⟩ x := by
  unfold W X0_7 Pipeline.Window.fill
  rw [dif_pos (moved0_7 t _)]
  blk_ext [iblk, V, idx t]
theorem w4_at (c : Dev nD) (t : Fin cfg0.N) (k : Fin 384) (x : Fin 1024) : (iblk m c 8 t (ix2 k x) : EReal) = W m c ⟨1536 + k, by omega⟩ x := by
  unfold W
  blk_ext [iblk, V, idx t]
theorem w5_at (c : Dev nD) (t : Fin cfg0.N) (k : Fin 384) (x : Fin 1024) : (iblk m c 9 t (ix2 k x) : EReal) = W m c ⟨1920 + k, by omega⟩ x := by
  unfold W
  blk_ext [iblk, V, idx t]

/-- The five gradients side by side. -/
def Q (c : Dev nD) (T : Fin 4096) (k : Fin 2304) : EReal := val_main_v0 (F := Ideal) (a0 m c) (a1 m c) (a2 m c) (a3 m c) (a4 m c) (ix2 T k)
theorem Q_at (c : Dev nD) (T : Fin 4096) (k : Fin 2304) : Q m c T k =
    if h : (k : ℕ) < 512 then G1 m c T ⟨k, h⟩
    else if h : (k : ℕ) - 512 < 512 then G2 m c T ⟨k - 512, h⟩
    else if h : (k : ℕ) - 512 - 512 < 512 then G3 m c T ⟨k - 512 - 512, h⟩
    else if h : (k : ℕ) - 512 - 512 - 512 < 384 then G4 m c T ⟨k - 512 - 512 - 512, h⟩
    else G5 m c T ⟨k - 512 - 512 - 512 - 384, by omega⟩ := by
  unfold Q G1 G2 G3 G4 G5
  rw [V_main_arg0, V_main_arg1, V_main_arg2, V_main_arg3, V_main_arg4]
  pointwise [val_main_v0]
theorem Q1 (c : Dev nD) (T : Fin 4096) (k : Fin 512) : Q m c T ⟨k, by omega⟩ = G1 m c T k := by
  rw [Q_at, dif_pos (by dsimp only; omega)]
theorem Q2 (c : Dev nD) (T : Fin 4096) (k : Fin 512) : Q m c T ⟨512 + k, by omega⟩ = G2 m c T k := by
  rw [Q_at, dif_neg (by dsimp only; omega), dif_pos (by dsimp only; omega)]
  exact congrArg (G2 m c T) (Fin.ext (by dsimp only; omega))
theorem Q3 (c : Dev nD) (T : Fin 4096) (k : Fin 512) : Q m c T ⟨1024 + k, by omega⟩ = G3 m c T k := by
  rw [Q_at, dif_neg (by dsimp only; omega), dif_neg (by dsimp only; omega), dif_pos (by dsimp only; omega)]
  exact congrArg (G3 m c T) (Fin.ext (by dsimp only; omega))
theorem Q4 (c : Dev nD) (T : Fin 4096) (k : Fin 384) : Q m c T ⟨1536 + k, by omega⟩ = G4 m c T k := by
  rw [Q_at, dif_neg (by dsimp only; omega), dif_neg (by dsimp only; omega), dif_neg (by dsimp only; omega), dif_pos (by dsimp only; omega)]
  exact congrArg (G4 m c T) (Fin.ext (by dsimp only; omega))
theorem Q5 (c : Dev nD) (T : Fin 4096) (k : Fin 384) : Q m c T ⟨1920 + k, by omega⟩ = G5 m c T k := by
  rw [Q_at, dif_neg (by dsimp only; omega), dif_neg (by dsimp only; omega), dif_neg (by dsimp only; omega), dif_neg (by dsimp only; omega)]
  exact congrArg (G5 m c T) (Fin.ext (by dsimp only; omega))

theorem sum_of {n : ℕ} (f g f' g' : Fin n → EReal) (hf : ∀ k, f k = f' k) (hg : ∀ k, g k = g' k) : ∑ k, f k * g k = ∑ k, f' k * g' k := by
  rw [show f = f' from funext hf, show g = g' from funext hg]

theorem point_at (c : Dev nD) (t : Fin cfg0.N) (r : Fin 512) (x : Fin 1024) :
    (outsAt0 m c t (ix2 r x) : EReal) = ∑ k, Q m c (tk t r) k * W m c k x := by
  rw [sum_parts]
  unfold outsAt0
  frame_out
  refine (pay1_at _ _ _ _ _ _ _ _ _ _ r x).trans ?_
  refine congrArg₂ (fun a b : EReal => a + b) (congrArg₂ (fun a b : EReal => a + b) (congrArg₂ (fun a b : EReal => a + b) (congrArg₂ (fun a b : EReal => a + b) ?_ ?_) ?_) ?_) ?_
  · exact sum_of _ _ _ _ (fun k => (p1_at m c t r k).trans (Q1 m c _ k).symm) (fun k => w1_at m c t k x)
  · exact sum_of _ _ _ _ (fun k => (p2_at m c t r k).trans (Q2 m c _ k).symm) (fun k => w2_at m c t k x)
  · exact sum_of _ _ _ _ (fun k => (p3_at m c t r k).trans (Q3 m c _ k).symm) (fun k => w3_at m c t k x)
  · exact sum_of _ _ _ _ (fun k => (p4_at m c t r k).trans (Q4 m c _ k).symm) (fun k => w4_at m c t k x)
  · exact sum_of _ _ _ _ (fun k => (p5_at m c t r k).trans (Q5 m c _ k).symm) (fun k => w5_at m c t k x)

/-- The result as a function of token and column. -/
def out (c : Dev nD) : S4096x1024.Idx → EReal := fun i => ∑ k, Q m c (i 0) k * W m c k (i 1)
theorem out_at (c : Dev nD) (i : S4096x1024.Idx) (T : Fin 4096) (x : Fin 1024) (h0 : (i 0 : ℕ) = T) (h1 : (i 1 : ℕ) = x) :
    ∑ k, Q m c T k * W m c k x = out m c i := by
  unfold out
  rw [show i 0 = T from Fin.ext h0, show i 1 = x from Fin.ext h1]

theorem out10 (c : Dev nD) : (dats m 0 c).arrAt 10 (cfgs 0).N = out m c := by
  refine (dats m 0 c).arrAt_eq_of_covers 10 _ (by decide +kernel) fun t hf y => ?_
  blk_simp
  idx_vars y
  rw [after0_10]
  refine (point_at m c t _ _).trans <| out_at m c _ _ _ ?_ ?_
  · blk_simp [odx t] <;> first | omega | (simp only [tk]; omega)
  · blk_simp [odx t] <;> first | omega | (simp only [tk]; omega)

/-- The call's result is the reference's. -/
theorem final (c : Dev nD) : (dats m 0 c).arrAt 10 (cfgs 0).N = val_main_v4 (F := Ideal) (a0 m c) (a1 m c) (a2 m c) (a3 m c) (a4 m c) (a5 m c) := by
  rw [out10]
  funext i
  idx_vars i
  show (∑ k, Q m c i0 k * W m c k i1 : EReal) = _
  unfold Q W
  rw [e0]
  pointwise [val_main_v4, val_main_v2]

end Cert.Kernel7Ideal.InBwd

end
-- ==== Proof.ProjIn.lean ====
/- The projections in front of the attention: every block of the result is one product of whole rows. -/
module
public import proofs.«01_k».proof.Proof.Gen.Kernel8Ideal.Value
public import proofs.«01_k».proof.Proof.Gen.Reference8Ideal.Read
public import Idealize.ShloMosaic.Lib.Pointwise
public import Idealize.ShloMosaic.Lib.Claim
public import Idealize.ShloMosaic.Lib.Pipeline.ValueKit
public import Idealize.ShloMosaic.Lib.Pipeline.ReadBack
@[expose] public section
set_option maxRecDepth 16384
noncomputable section

namespace Cert.Kernel8Ideal.ProjIn
open Cert.Kernel8Ideal Cert.Kernel8Ideal.Gen Idealize.ShloMosaic Idealize.ShloMosaic.TcCoe Idealize.SL.Sem
open Cert.Reference8Ideal.Read
variable (m : (ℓ : Loc nD τ sig) → Buf (Elt Ideal) ℓ)

abbrev a0 (c : Dev nD) : FVec Ideal S4096x1024 .f32 := m ((c : Thread nD τ).loc main_arg0)
abbrev a1 (c : Dev nD) : FVec Ideal S2304x1024 .f32 := m ((c : Thread nD τ).loc main_arg1)

theorem e0 (c : Dev nD) : V m c main_v0 = fun i => a0 m c i := by
  entry_read
  rfl
theorem e1 (c : Dev nD) : V m c main_v1 = fun i => a1 m c i := by
  entry_read
  rfl

theorem idx : ∀ t : Fin cfg0.N, win0_0.index t = ![t.val % 8, 0] ∧ win0_1.index t = ![t.val / 8, 0] :=
  (by decide +kernel : ∀ t : Fin grid0.N, _)
theorem odx : ∀ t : Fin cfg0.N, win0_2.index t = ![t.val % 8, t.val / 8] :=
  (by decide +kernel : ∀ t : Fin grid0.N, _)
theorem lt16 (t : Fin cfg0.N) : t.val < 16 := lt_of_lt_of_eq t.isLt N_0

def H (c : Dev nD) (T : Fin 4096) (k : Fin 1024) : EReal := V m c main_v0 (ix2 T k)
def W (c : Dev nD) (n : Fin 2304) (k : Fin 1024) : EReal := V m c main_v1 (ix2 n k)
theorem H_at (c : Dev nD) (T : Fin 4096) (k : Fin 1024) : H m c T k = a0 m c (ix2 T k) := by
  unfold H; rw [e0]
theorem W_at (c : Dev nD) (n : Fin 2304) (k : Fin 1024) : W m c n k = a1 m c (ix2 n k) := by
  unfold W; rw [e1]

/-- The token of a block's row, and the column of a block's column. -/
def tk (t : Fin cfg0.N) (r : Fin 512) : Fin 4096 := ⟨512 * (t.val % 8) + r, by omega⟩
def cl (t : Fin cfg0.N) (n : Fin 1152) : Fin 2304 := ⟨1152 * (t.val / 8) + n, by have := lt16 t; omega⟩

theorem b0_at (c : Dev nD) (t : Fin cfg0.N) (r : Fin 512) (k : Fin 1024) : (iblk m c 0 t (ix2 r k) : EReal) = H m c (tk t r) k := by
  unfold H tk
  blk_ext [iblk, V, idx t]
theorem b1_at (c : Dev nD) (t : Fin cfg0.N) (n : Fin 1152) (k : Fin 1024) : (iblk m c 1 t (ix2 n k) : EReal) = W m c (cl t n) k := by
  unfold W cl
  blk_ext [iblk, V, idx t]

theorem pay1_at (x : Vec Ideal S512x1024 .bf16) (w : Vec Ideal S1152x1024 .bf16) (r : Fin 512) (n : Fin 1152) :
    k0_pay1 (F := Ideal) x w (ix2 r n) = ∑ k : Fin 1024, (x (ix2 r k) : EReal) * w (ix2 n k) := by
  pointwise [k0_pay1]

theorem point_at (c : Dev nD) (t : Fin cfg0.N) (r : Fin 512) (n : Fin 1152) :
    (out0_2 (iblk m c 0 t) (iblk m c 1 t) (ix2 r n) : EReal) = ∑ k, H m c (tk t r) k * W m c (cl t n) k := by
  frame_out
  exact (pay1_at _ _ r n).trans (Finset.sum_congr rfl fun k _ => congrArg₂ (fun a b : EReal => a * b) (b0_at m c t r k) (b1_at m c t n k))

/-- The result as a function of row and column. -/
def out (c : Dev nD) : S4096x2304.Idx → EReal := fun i => ∑ k, H m c (i 0) k * W m c (i 1) k
theorem out_at (c : Dev nD) (i : S4096x2304.Idx) (T : Fin 4096) (n : Fin 2304) (h0 : (i 0 : ℕ) = T) (h1 : (i 1 : ℕ) = n) :
    ∑ k, H m c T k * W m c n k = out m c i := by
  unfold out
  rw [show i 0 = T from Fin.ext h0, show i 1 = n from Fin.ext h1]

theorem out2 (c : Dev nD) : (dats m 0 c).arrAt 2 (cfgs 0).N = out m c := by
  refine (dats m 0 c).arrAt_eq_of_covers 2 _ (by decide +kernel) fun t hf y => ?_
  blk_simp
  idx_vars y
  rw [after0_2]
  refine (point_at m c t _ _).trans <| out_at m c _ _ _ ?_ ?_
  · blk_simp [odx t] <;> first | omega | (simp only [tk]; omega)
  · blk_simp [odx t] <;> first | omega | (simp only [cl]; omega)

/-- The call's result is the reference's. -/
theorem final (c : Dev nD) : (dats m 0 c).arrAt 2 (cfgs 0).N = val_main_v1 (F := Ideal) (a0 m c) (a1 m c) := by
  rw [out2]
  funext i
  idx_vars i
  show (∑ k, H m c i0 k * W m c i1 k : EReal) = _
  simp only [H_at, W_at]
  pointwise [val_main_v1, val_main_v0]

end Cert.Kernel8Ideal.ProjIn

end
-- ==== Proof.WOut.lean ====
/- The output projection's weight gradient: the four blocks of 1024 tokens added one after the other, from zero. -/
module
public import proofs.«01_k».proof.Proof.Down
public import proofs.«01_k».proof.Proof.Gen.Kernel9Ideal.Value
public import proofs.«01_k».proof.Proof.Gen.Reference9Ideal.Read
@[expose] public section
set_option maxRecDepth 16384
noncomputable section

namespace Cert.Kernel9Ideal.WOut
open Cert.Kernel9Ideal Cert.Kernel9Ideal.Gen Cert.Kernel9Ideal.Value Idealize.ShloMosaic Idealize.ShloMosaic.TcCoe Idealize.SL.Sem
open Cert.Reference9Ideal.Read
variable (m : (ℓ : Loc nD τ sig) → Buf (Elt Ideal) ℓ)

abbrev a0 (c : Dev nD) : FVec Ideal S4096x1024 .f32 := m ((c : Thread nD τ).loc main_arg0)
abbrev a1 (c : Dev nD) : FVec Ideal S4096x1024 .f32 := m ((c : Thread nD τ).loc main_arg1)

theorem e0 (c : Dev nD) : V m c main_v0 = fun i => a0 m c i := by
  entry_read
  rfl

theorem idx : ∀ t : Fin cfg0.N, win0_0.index t = ![t.val, 0] ∧ win0_1.index t = ![t.val, 0] :=
  (by decide +kernel : ∀ t : Fin grid0.N, _)
theorem lt4 (t : Fin cfg0.N) : t.val < 4 := lt_of_lt_of_eq t.isLt N_0

def A (c : Dev nD) (T : Fin 4096) (f : Fin 1024) : EReal := V m c main_v0 (ix2 T f)
def D (c : Dev nD) (T : Fin 4096) (q : Fin 1024) : EReal := V m c main_arg1 (ix2 T q)
theorem A_at (c : Dev nD) (T : Fin 4096) (f : Fin 1024) : A m c T f = a0 m c (ix2 T f) := by
  unfold A; rw [e0]
theorem D_at (c : Dev nD) (T : Fin 4096) (q : Fin 1024) : D m c T q = a1 m c (ix2 T q) := by
  unfold D; rw [V_main_arg1]

theorem b0_at (c : Dev nD) (t : Fin cfg0.N) (r : Fin 1024) (f : Fin 1024) :
    (iblk m c 0 t (ix2 r f) : EReal) = A m c ⟨1024 * t.val + r, by have := lt4 t; omega⟩ f := by
  unfold A
  blk_ext [iblk, V, idx t]
theorem b1_at (c : Dev nD) (t : Fin cfg0.N) (r : Fin 1024) (q : Fin 1024) :
    (iblk m c 1 t (ix2 r q) : EReal) = D m c ⟨1024 * t.val + r, by have := lt4 t; omega⟩ q := by
  unfold D
  blk_ext [iblk, V, idx t]

/-- The body's product, added to what the block held. -/
theorem pay2_at (acc : Vec Ideal S1024x1024 .f32) (x : Vec Ideal S1024x1024 .bf16) (y : Vec Ideal S1024x1024 .f32) (f : Fin 1024) (q : Fin 1024) :
    k0_pay2 (F := Ideal) acc x y (ix2 f q) = (acc (ix2 f q) : EReal) + ∑ r : Fin 1024, (x (ix2 r f) : EReal) * y (ix2 r q) := by
  pointwise [k0_pay2]
theorem pay1_at (f : Fin 1024) (q : Fin 1024) : (k0_pay1 (F := Ideal) (ix2 f q) : EReal) = 0 := by
  pointwise [k0_pay1]

/-- What a point adds. -/
def part (c : Dev nD) (s : Fin 4) (f q : Fin 1024) : EReal :=
  ∑ r : Fin 1024, A m c ⟨1024 * s + r, by omega⟩ f * D m c ⟨1024 * s + r, by omega⟩ q

theorem point_at (c : Dev nD) (n : ℕ) (hn : n < cfg0.N) (s : Fin 4) (e : n = s) (f q : Fin 1024) (acc : Vec Ideal S1024x1024 .f32) :
    k0_pay2 (F := Ideal) acc (iblk m c 0 ⟨n, hn⟩) (iblk m c 1 ⟨n, hn⟩) (ix2 f q) = (acc (ix2 f q) : EReal) + part m c s f q := by
  subst e
  refine (pay2_at acc _ _ f q).trans (congrArg (fun z : EReal => (acc (ix2 f q) : EReal) + z) ?_)
  exact Finset.sum_congr rfl fun r _ => congrArg₂ (fun a b : EReal => a * b) (b0_at m c _ r f) (b1_at m c _ r q)

theorem fold_at (c : Dev nD) (b : ℕ) (h0 : b = 0) (f q : Fin 1024) : ∀ (j : ℕ) (hj : j < 4) (hb : b + j < cfg0.N),
    (Pipeline.accAt (reset2 m c) (step2 m c) b j hb (ix2 f q) : EReal) = ∑ s ∈ Finset.univ.filter (fun s : Fin 4 => s.val ≤ j), part m c s f q := by
  subst h0
  intro j
  induction j with
  | zero =>
    intro hj hb
    rw [show Finset.univ.filter (fun s : Fin 4 => s.val ≤ 0) = {0} by decide, Finset.sum_singleton]
    refine (point_at m c 0 hb 0 rfl f q _).trans ?_
    rw [pay1_at, zero_add]
  | succ j ih =>
    intro hj hb
    have e : Finset.univ.filter (fun s : Fin 4 => s.val ≤ j + 1) = insert ⟨j + 1, hj⟩ (Finset.univ.filter (fun s : Fin 4 => s.val ≤ j)) := by
      ext s
      simp only [Finset.mem_filter, Finset.mem_insert, Finset.mem_univ, true_and, Fin.ext_iff]
      omega
    refine Eq.trans ?_ (congrArg (fun S => ∑ s ∈ S, part m c s f q) e).symm
    rw [Finset.sum_insert (by simp), add_comm (part m c ⟨j + 1, hj⟩ f q)]
    exact (point_at m c (0 + (j + 1)) hb ⟨j + 1, hj⟩ (Nat.zero_add _) f q _).trans
      (congrArg (fun z : EReal => z + part m c ⟨j + 1, hj⟩ f q) (ih (by omega) (by omega)))

/-- The result as a function of row and column. -/
def out (c : Dev nD) : S1024x1024.Idx → EReal := fun i => ∑ T, A m c T (i 0) * D m c T (i 1)
theorem out_at (c : Dev nD) (i : S1024x1024.Idx) (f q : Fin 1024) (h0 : (i 0 : ℕ) = f) (h1 : (i 1 : ℕ) = q) :
    ∑ T, A m c T f * D m c T q = out m c i := by
  unfold out
  rw [show i 0 = f from Fin.ext h0, show i 1 = q from Fin.ext h1]

theorem odx : ∀ t : Fin cfg0.N, win0_2.index t = ![0, 0] :=
  (by decide +kernel : ∀ t : Fin grid0.N, _)

/-- What the block holds at the last point. -/
theorem last_at (c : Dev nD) (t : Fin cfg0.N) (ht : t.val % 4 = 3) (f q : Fin 1024) :
    (outsAt0 m c t.val t.isLt (ix2 f q) : EReal) = ∑ T, A m c T f * D m c T q := by
  have h4 := lt4 t
  have key := fold_at m c (4 * (t.val / 4)) (by omega) f q (t.val % 4) (by omega)
  rw [outsAt_2_eq]
  refine (key _).trans ?_
  rw [ht, show Finset.univ.filter (fun s : Fin 4 => s.val ≤ 3) = Finset.univ by decide]
  exact Cert.Kernel2Ideal.Down.sum_blocks fun T => A m c T f * D m c T q

theorem out2 (c : Dev nD) : (dats m 0 c).arrAt 2 (cfgs 0).N = out m c := by
  refine (dats m 0 c).arrAt_eq_of_covers 2 _ (by decide +kernel) fun t hf y => ?_
  blk_simp
  idx_vars y
  rw [after0_2]
  refine (last_at m c t ((flush0_2 t).mp hf) _ _).trans <| out_at m c _ _ _ ?_ ?_
  · blk_simp [odx t] <;> first | omega | (dsimp only; omega)
  · blk_simp [odx t] <;> first | omega | (dsimp only; omega)

/-- The call's result is the reference's. -/
theorem final (c : Dev nD) : (dats m 0 c).arrAt 2 (cfgs 0).N = val_main_v3 (F := Ideal) (a0 m c) (a1 m c) := by
  rw [out2]
  funext i
  idx_vars i
  show (∑ T, A m c T i0 * D m c T i1 : EReal) = _
  pointwise [val_main_v3, val_main_v2]
  refine Finset.sum_congr rfl fun T _ => ?_
  rw [A_at, D_at, mul_comm]

end Cert.Kernel9Ideal.WOut

end
-- ==== Proof.OutNorm.lean ====
/- The projection out: the two attentions' rows, each normed and scaled, side by side, their projection added to the residual,
   and the norm in front of the feed forward. -/
module
public import proofs.«01_k».proof.Proof.Norm
public import proofs.«01_k».proof.Proof.Gen.Kernel10Ideal.Value
public import proofs.«01_k».proof.Proof.Gen.Reference10Ideal.Read
public import Idealize.ShloMosaic.Lib.Pointwise
public import Idealize.ShloMosaic.Lib.Claim
public import Idealize.ShloMosaic.Lib.Pipeline.ValueKit
public import Idealize.ShloMosaic.Lib.Pipeline.ReadBack
@[expose] public section
set_option maxRecDepth 16384
set_option maxHeartbeats 1000000
noncomputable section

namespace Cert.Kernel10Ideal.OutNorm
open Cert.Kernel10Ideal Cert.Kernel10Ideal.Gen Idealize.ShloMosaic Idealize.ShloMosaic.TcCoe Idealize.SL.Sem
open Cert.Reference10Ideal.Read Cert.Norm
open Cert.Kernel5Ideal.Loss (ep)
variable (m : (ℓ : Loc nD τ sig) → Buf (Elt Ideal) ℓ)

/-- One over 1024, and one over 512. -/
def ct : EReal := Ideal.ofBits .f32 0x3A800000#32
def cw : EReal := Ideal.ofBits .f32 0x3B000000#32

/-- A row, normed and scaled. -/
def nm {n : ℕ} (k : EReal) (x g : Fin n → EReal) (q : Fin n) : EReal := (x q * rs k x) * g q
/-- Two rows, each normed and scaled, side by side. -/
def cat (x y g h : Fin 512 → EReal) (q : Fin 1024) : EReal :=
  if e : (q : ℕ) < 512 then nm cw x g ⟨q, e⟩ else nm cw y h ⟨q - 512, by omega⟩

theorem pay2_at (x y : Vec Ideal S512x512 .f32) (g h : Vec Ideal S1x512 .f32) (r : Fin 512) (q : Fin 1024) :
    k0_pay2 (F := Ideal) x y g h (ix2 r q) = cat (fun k => x (ix2 r k)) (fun k => y (ix2 r k)) (fun k => g (ix2 0 k)) (fun k => h (ix2 0 k)) q := by
  unfold cat nm rs cw ep
  pointwise [k0_pay2]

theorem pay3_at (x y : Vec Ideal S512x512 .f32) (g h : Vec Ideal S1x512 .f32) (z : Vec Ideal S512x1024 .f32) (w : Vec Ideal S1024x1024 .bf16) (r : Fin 512) (q : Fin 1024) :
    k0_pay3 (F := Ideal) x y g h z w (ix2 r q) = (z (ix2 r q) : EReal)
      + ∑ k : Fin 1024, cat (fun k => x (ix2 r k)) (fun k => y (ix2 r k)) (fun k => g (ix2 0 k)) (fun k => h (ix2 0 k)) k * w (ix2 k q) := by
  simp only [← pay2_at]
  pointwise [k0_pay3]

theorem pay1_at (x : FVec Ideal S512x1024 .f32) (g : Vec Ideal S1x1024 .f32) (r : Fin 512) (q : Fin 1024) :
    k0_pay1 (F := Ideal) x g (ix2 r q) = nm ct (fun k => x (ix2 r k)) (fun k => g (ix2 0 k)) q := by
  unfold nm rs ct ep
  pointwise [k0_pay1]

abbrev a0 (c : Dev nD) : FVec Ideal S4096x512 .f32 := m ((c : Thread nD τ).loc main_arg0)
abbrev a1 (c : Dev nD) : FVec Ideal S4096x512 .f32 := m ((c : Thread nD τ).loc main_arg1)
abbrev a2 (c : Dev nD) : FVec Ideal S1x512 .f32 := m ((c : Thread nD τ).loc main_arg2)
abbrev a3 (c : Dev nD) : FVec Ideal S1x512 .f32 := m ((c : Thread nD τ).loc main_arg3)
abbrev a4 (c : Dev nD) : FVec Ideal S1024x1024 .f32 := m ((c : Thread nD τ).loc main_arg4)
abbrev a5 (c : Dev nD) : FVec Ideal S4096x1024 .f32 := m ((c : Thread nD τ).loc main_arg5)
abbrev a6 (c : Dev nD) : FVec Ideal S1x1024 .f32 := m ((c : Thread nD τ).loc main_arg6)

theorem e0 (c : Dev nD) : V m c main_v0 = fun i => a4 m c i := by
  entry_read
  rfl

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0] :=
  (by decide +kernel : ∀ t : Fin grid0.N, _)
theorem odx : ∀ t : Fin cfg0.N, win0_7.index t = ![t.val, 0] ∧ win0_8.index t = ![t.val, 0] ∧ win0_9.index t = ![t.val, 0] :=
  (by decide +kernel : ∀ t : Fin grid0.N, _)
theorem lt8 (t : Fin cfg0.N) : t.val < 8 := lt_of_lt_of_eq t.isLt N_0
/-- The token of a tile's row. -/
def tk (t : Fin cfg0.N) (k : Fin 512) : Fin 4096 := ⟨512 * t.val + k, by have := lt8 t; omega⟩

/-- The arguments, at an index. -/
def X (c : Dev nD) (T : Fin 4096) (k : Fin 512) : EReal := V m c main_arg0 (ix2 T k)
def Y (c : Dev nD) (T : Fin 4096) (k : Fin 512) : EReal := V m c main_arg1 (ix2 T k)
def G (c : Dev nD) (k : Fin 512) : EReal := V m c main_arg2 (ix2 0 k)
def H (c : Dev nD) (k : Fin 512) : EReal := V m c main_arg3 (ix2 0 k)
def W (c : Dev nD) (k q : Fin 1024) : EReal := V m c main_v0 (ix2 k q)
def Z (c : Dev nD) (T : Fin 4096) (q : Fin 1024) : EReal := V m c main_arg5 (ix2 T q)
def S (c : Dev nD) (q : Fin 1024) : EReal := V m c main_arg6 (ix2 0 q)
theorem X_at (c : Dev nD) (T : Fin 4096) (k : Fin 512) : X m c T k = a0 m c (ix2 T k) := by
  unfold X; rw [V_main_arg0]
theorem Y_at (c : Dev nD) (T : Fin 4096) (k : Fin 512) : Y m c T k = a1 m c (ix2 T k) := by
  unfold Y; rw [V_main_arg1]
theorem G_at (c : Dev nD) (k : Fin 512) : G m c k = a2 m c (ix2 0 k) := by
  unfold G; rw [V_main_arg2]
theorem H_at (c : Dev nD) (k : Fin 512) : H m c k = a3 m c (ix2 0 k) := by
  unfold H; rw [V_main_arg3]
theorem W_at (c : Dev nD) (k q : Fin 1024) : W m c k q = a4 m c (ix2 k q) := by
  unfold W; rw [e0]
theorem Z_at (c : Dev nD) (T : Fin 4096) (q : Fin 1024) : Z m c T q = a5 m c (ix2 T q) := by
  unfold Z; rw [V_main_arg5]
theorem S_at (c : Dev nD) (q : Fin 1024) : S m c q = a6 m c (ix2 0 q) := by
  unfold S; rw [V_main_arg6]

def bx (c : Dev nD) (t : Fin cfg0.N) (r k : Fin 512) : EReal := iblk m c 0 t (ix2 r k)
def bk (c : Dev nD) (t : Fin cfg0.N) (r k : Fin 512) : EReal := iblk m c 1 t (ix2 r k)
def bg (c : Dev nD) (t : Fin cfg0.N) (k : Fin 512) : EReal := iblk m c 2 t (ix2 0 k)
def bh (c : Dev nD) (t : Fin cfg0.N) (k : Fin 512) : EReal := iblk m c 3 t (ix2 0 k)
def bs (c : Dev nD) (t : Fin cfg0.N) (q : Fin 1024) : EReal := iblk m c 6 t (ix2 0 q)
theorem bx_at (c : Dev nD) (t : Fin cfg0.N) (r : Fin 512) : bx m c t r = X m c (tk t r) := by
  funext k
  unfold bx X tk
  blk_ext [iblk, V, idx t]
theorem bk_at (c : Dev nD) (t : Fin cfg0.N) (r : Fin 512) : bk m c t r = Y m c (tk t r) := by
  funext k
  unfold bk Y tk
  blk_ext [iblk, V, idx t]
theorem bg_at (c : Dev nD) (t : Fin cfg0.N) : bg m c t = G m c := by
  funext k
  unfold bg G
  blk_ext [iblk, V, idx t]
theorem bh_at (c : Dev nD) (t : Fin cfg0.N) : bh m c t = H m c := by
  funext k
  unfold bh H
  blk_ext [iblk, V, idx t]
theorem bs_at (c : Dev nD) (t : Fin cfg0.N) : bs m c t = S m c := by
  funext k
  unfold bs S
  blk_ext [iblk, V, idx t]
theorem b4_at (c : Dev nD) (t : Fin cfg0.N) (k q : Fin 1024) : (iblk m c 4 t (ix2 k q) : EReal) = W m c k q := by
  unfold W
  blk_ext [iblk, V, idx t]
theorem b5_at (c : Dev nD) (t : Fin cfg0.N) (r : Fin 512) (q : Fin 1024) : (iblk m c 5 t (ix2 r q) : EReal) = Z m c (tk t r) q := by
  unfold Z tk
  blk_ext [iblk, V, idx t]

/-- A token's normed rows side by side, and their projection added to the residual. -/
def O (c : Dev nD) (T : Fin 4096) (q : Fin 1024) : EReal := cat (X m c T) (Y m c T) (G m c) (H m c) q
def U (c : Dev nD) (T : Fin 4096) (q : Fin 1024) : EReal := Z m c T q + ∑ k, O m c T k * W m c k q

theorem cat_at (c : Dev nD) (t : Fin cfg0.N) (r : Fin 512) (q : Fin 1024) : cat (bx m c t r) (bk m c t r) (bg m c t) (bh m c t) q = O m c (tk t r) q := by
  rw [bx_at, bk_at, bg_at, bh_at]
  rfl

theorem row_at (c : Dev nD) (t : Fin cfg0.N) (r : Fin 512) (q : Fin 1024) :
    (k0_pay3 (F := Ideal) (iblk m c 0 t) (iblk m c 1 t) (iblk m c 2 t) (iblk m c 3 t) (iblk m c 5 t) (iblk m c 4 t) (ix2 r q) : EReal) = U m c (tk t r) q := by
  refine (pay3_at _ _ _ _ _ _ r q).trans ?_
  unfold U
  exact congrArg₂ (fun a b : EReal => a + b) (b5_at m c t r q)
    (Finset.sum_congr rfl fun k _ => congrArg₂ (fun a b : EReal => a * b) (cat_at m c t r k) (b4_at m c t k q))

theorem nm_of (x x' g g' : Fin 1024 → EReal) (hx : ∀ q, x q = x' q) (hg : ∀ q, g q = g' q) (q : Fin 1024) : nm ct x g q = nm ct x' g' q := by
  rw [show x = x' from funext hx, show g = g' from funext hg]

theorem p7_at (c : Dev nD) (t : Fin cfg0.N) (r : Fin 512) (q : Fin 1024) :
    (out0_7 (F := Ideal) (iblk m c 0 t) (iblk m c 1 t) (iblk m c 2 t) (iblk m c 3 t) (iblk m c 4 t) (iblk m c 5 t) (iblk m c 6 t) (ix2 r q) : EReal) = O m c (tk t r) q := by
  unfold_out out0_7
  frame_out
  exact (pay2_at _ _ _ _ r q).trans (cat_at m c t r q)
theorem p8_at (c : Dev nD) (t : Fin cfg0.N) (r : Fin 512) (q : Fin 1024) :
    (out0_8 (F := Ideal) (iblk m c 0 t) (iblk m c 1 t) (iblk m c 2 t) (iblk m c 3 t) (iblk m c 4 t) (iblk m c 5 t) (iblk m c 6 t) (ix2 r q) : EReal) = U m c (tk t r) q := by
  unfold_out out0_8
  frame_out
  exact row_at m c t r q
theorem p9_at (c : Dev nD) (t : Fin cfg0.N) (r : Fin 512) (q : Fin 1024) :
    (out0_9 (F := Ideal) (iblk m c 0 t) (iblk m c 1 t) (iblk m c 2 t) (iblk m c 3 t) (iblk m c 4 t) (iblk m c 5 t) (iblk m c 6 t) (ix2 r q) : EReal)
      = nm ct (U m c (tk t r)) (S m c) q := by
  unfold_out out0_9
  frame_out
  exact (pay1_at _ _ r q).trans (nm_of _ _ _ _ (row_at m c t r) (fun q => congrFun (bs_at m c t) q) q)

/-! The results as arrays. -/

def r7 (c : Dev nD) : S4096x1024.Idx → EReal := fun i => O m c (i 0) (i 1)
def r8 (c : Dev nD) : S4096x1024.Idx → EReal := fun i => U m c (i 0) (i 1)
def r9 (c : Dev nD) : S4096x1024.Idx → EReal := fun i => nm ct (U m c (i 0)) (S m c) (i 1)
theorem r7_at (c : Dev nD) (i : S4096x1024.Idx) (T : Fin 4096) (q : Fin 1024) (h0 : (i 0 : ℕ) = T) (h1 : (i 1 : ℕ) = q) : O m c T q = r7 m c i := by
  unfold r7
  rw [show i 0 = T from Fin.ext h0, show i 1 = q from Fin.ext h1]
theorem r8_at (c : Dev nD) (i : S4096x1024.Idx) (T : Fin 4096) (q : Fin 1024) (h0 : (i 0 : ℕ) = T) (h1 : (i 1 : ℕ) = q) : U m c T q = r8 m c i := by
  unfold r8
  rw [show i 0 = T from Fin.ext h0, show i 1 = q from Fin.ext h1]
theorem r9_at (c : Dev nD) (i : S4096x1024.Idx) (T : Fin 4096) (q : Fin 1024) (h0 : (i 0 : ℕ) = T) (h1 : (i 1 : ℕ) = q) :
    nm ct (U m c T) (S m c) q = r9 m c i := by
  unfold r9
  rw [show i 0 = T from Fin.ext h0, show i 1 = q from Fin.ext h1]

theorem out7 (c : Dev nD) : (dats m 0 c).arrAt 7 (cfgs 0).N = r7 m c := by
  refine (dats m 0 c).arrAt_eq_of_covers 7 _ (by decide +kernel) fun t hf y => ?_
  blk_simp
  idx_vars y
  rw [after0_7]
  refine (p7_at m c t _ _).trans <| r7_at m c _ _ _ ?_ ?_
  · blk_simp [odx t] <;> first | omega | (simp only [tk]; omega)
  · blk_simp [odx t] <;> first | omega | (simp only [tk]; omega)
theorem out8 (c : Dev nD) : (dats m 0 c).arrAt 8 (cfgs 0).N = r8 m c := by
  refine (dats m 0 c).arrAt_eq_of_covers 8 _ (by decide +kernel) fun t hf y => ?_
  blk_simp
  idx_vars y
  rw [after0_8]
  refine (p8_at m c t _ _).trans <| r8_at m c _ _ _ ?_ ?_
  · blk_simp [odx t] <;> first | omega | (simp only [tk]; omega)
  · blk_simp [odx t] <;> first | omega | (simp only [tk]; omega)
theorem out9 (c : Dev nD) : (dats m 0 c).arrAt 9 (cfgs 0).N = r9 m c := by
  refine (dats m 0 c).arrAt_eq_of_covers 9 _ (by decide +kernel) fun t hf y => ?_
  blk_simp
  idx_vars y
  rw [after0_9]
  refine (p9_at m c t _ _).trans <| r9_at m c _ _ _ ?_ ?_
  · blk_simp [odx t] <;> first | omega | (simp only [tk]; omega)
  · blk_simp [odx t] <;> first | omega | (simp only [tk]; omega)

/-! The reference, read at a token and a column. -/

theorem v11_at (c : Dev nD) (T : Fin 4096) (k : Fin 512) : (val_main_v11 (F := Ideal) (a0 m c) (a2 m c) (ix2 T k) : EReal) = nm cw (X m c T) (G m c) k := by
  unfold nm rs cw ep
  rw [← div512]
  simp only [X_at, G_at]
  pointwise [val_main_v11, val_main_v10, val_main_v9, val_main_v8, val_main_v7, val_main_v6, val_main_v5, val_main_cst_1, val_main_v4, val_main_v3, val_main_cst_0, val_main_v2, val_main_v1, val_main_v0, val_main_cst]

theorem v23_at (c : Dev nD) (T : Fin 4096) (k : Fin 512) : (val_main_v23 (F := Ideal) (a1 m c) (a3 m c) (ix2 T k) : EReal) = nm cw (Y m c T) (H m c) k := by
  unfold nm rs cw ep
  rw [← div512]
  simp only [Y_at, H_at]
  pointwise [val_main_v23, val_main_v22, val_main_v21, val_main_v20, val_main_v19, val_main_v18, val_main_v17, val_main_cst_4, val_main_v16, val_main_v15, val_main_cst_3, val_main_v14, val_main_v13, val_main_v12, val_main_cst_2]

theorem v24_at (c : Dev nD) (T : Fin 4096) (q : Fin 1024) : (val_main_v24 (F := Ideal) (a0 m c) (a1 m c) (a2 m c) (a3 m c) (ix2 T q) : EReal) = O m c T q := by
  unfold O cat
  simp only [← v11_at, ← v23_at]
  pointwise [val_main_v24]

theorem v26_at (c : Dev nD) (T : Fin 4096) (q : Fin 1024) : (val_main_v26 (F := Ideal) (a0 m c) (a1 m c) (a2 m c) (a3 m c) (a4 m c) (a5 m c) (ix2 T q) : EReal) = U m c T q := by
  unfold U
  simp only [← v24_at, Z_at, W_at]
  pointwise [val_main_v26, val_main_v25]

theorem final7 (c : Dev nD) : (dats m 0 c).arrAt 7 (cfgs 0).N = val_main_v27 (F := Ideal) (a0 m c) (a1 m c) (a2 m c) (a3 m c) := by
  rw [out7]
  funext i
  idx_vars i
  show (O m c i0 i1 : EReal) = _
  rw [← v24_at]
  pointwise [val_main_v27]
theorem final8 (c : Dev nD) : (dats m 0 c).arrAt 8 (cfgs 0).N = val_main_v26 (F := Ideal) (a0 m c) (a1 m c) (a2 m c) (a3 m c) (a4 m c) (a5 m c) := by
  rw [out8]
  funext i
  idx_vars i
  exact (v26_at m c i0 i1).symm
theorem final9 (c : Dev nD) : (dats m 0 c).arrAt 9 (cfgs 0).N = val_main_v40 (F := Ideal) (a0 m c) (a1 m c) (a2 m c) (a3 m c) (a4 m c) (a5 m c) (a6 m c) := by
  rw [out9]
  funext i
  idx_vars i
  show (nm ct (U m c i0) (S m c) i1 : EReal) = _
  unfold nm rs ct ep
  rw [← div1024]
  simp only [← v26_at, S_at]
  pointwise [val_main_v40, val_main_v39, val_main_v38, val_main_v37, val_main_v36, val_main_v35, val_main_v34, val_main_v33, val_main_cst_7, val_main_v32, val_main_v31, val_main_cst_6, val_main_v30, val_main_v29, val_main_v28, val_main_cst_5]

end Cert.Kernel10Ideal.OutNorm

end
-- ==== Proof.OutBwd.lean ====
/- The gradient through the projection out and the two norms in front of it: a tile's gradient times the weight, its two halves,
   and what the body makes of each; over finite arguments the results are the reference's. -/
module
public import proofs.«01_k».proof.Proof.Norm
public import proofs.«01_k».proof.Proof.Gen.Kernel11Ideal.Value
public import proofs.«01_k».proof.Proof.Gen.Reference11Ideal.Read
public import Idealize.ShloMosaic.Lib.Pointwise
public import Idealize.ShloMosaic.Lib.Claim
public import Idealize.ShloMosaic.Lib.Pipeline.ValueKit
public import Idealize.ShloMosaic.Lib.Pipeline.ReadBack
@[expose] public section
set_option maxRecDepth 16384
set_option maxHeartbeats 1000000
noncomputable section

namespace Cert.Kernel11Ideal.OutBwd
open Cert.Kernel11Ideal Cert.Kernel11Ideal.Gen Idealize.ShloMosaic Idealize.ShloMosaic.TcCoe Idealize.SL.Sem
open Cert.Reference11Ideal.Read Cert.Finite Cert.Norm
open Cert.Kernel5Ideal.Loss (ep)
variable (m : (ℓ : Loc nD τ sig) → Buf (Elt Ideal) ℓ)

/-- One over 512. -/
def cw : EReal := Ideal.ofBits .f32 0x3B000000#32
/-- The columns of the two halves. -/
def lo (k : Fin 512) : Fin 1024 := ⟨k, by omega⟩
def hi (k : Fin 512) : Fin 1024 := ⟨512 + k, by omega⟩

/-! What the body computes. -/

def dt (y : Fin 512 → Fin 1024 → EReal) (w : Fin 1024 → Fin 1024 → EReal) (r : Fin 512) (q : Fin 1024) : EReal := ∑ k, y r k * w q k

theorem pay3_at (y : Vec Ideal S512x1024 .f32) (w : Vec Ideal S1024x1024 .bf16) (r : Fin 512) (q : Fin 1024) :
    k0_pay3 (F := Ideal) y w (ix2 r q) = dt (fun r k => y (ix2 r k)) (fun q k => w (ix2 q k)) r q := by
  unfold dt
  pointwise [k0_pay3]
theorem pay4_at (y : Vec Ideal S512x1024 .f32) (w : Vec Ideal S1024x1024 .bf16) (r : Fin 512) (k : Fin 512) :
    k0_pay4 (F := Ideal) y w (ix2 r k) = k0_pay3 (F := Ideal) y w (ix2 r (lo k)) := by
  unfold lo
  pointwise [k0_pay4]
theorem pay9_at (d : FVec Ideal S512x1024 .f32) (r : Fin 512) (k : Fin 512) : k0_pay9 (F := Ideal) d (ix2 r k) = d (ix2 r (hi k)) := by
  unfold hi
  pointwise [k0_pay9]

theorem pay7_at (y : Vec Ideal S512x1024 .f32) (w : Vec Ideal S1024x1024 .bf16) (x : Vec Ideal S512x512 .f32) (g : Vec Ideal S1x512 .f32) (r k : Fin 512) :
    k0_pay7 (F := Ideal) y w x g (ix2 r k) = gn cw (fun k => x (ix2 r k)) (fun k => (k0_pay3 (F := Ideal) y w (ix2 r (lo k)) : EReal) * g (ix2 0 k)) k := by
  unfold gn rs cw ep
  simp only [← pay4_at]
  pointwise [k0_pay7, k0_pay6, k0_pay5]
theorem pay12_at (d : FVec Ideal S512x1024 .f32) (x : Vec Ideal S512x512 .f32) (g : Vec Ideal S1x512 .f32) (r k : Fin 512) :
    k0_pay12 (F := Ideal) d x g (ix2 r k) = gn cw (fun k => x (ix2 r k)) (fun k => (d (ix2 r (hi k)) : EReal) * g (ix2 0 k)) k := by
  unfold gn rs cw ep
  simp only [← pay9_at]
  pointwise [k0_pay12, k0_pay11, k0_pay10]

theorem pay13_at (y : Vec Ideal S512x1024 .f32) (w : Vec Ideal S1024x1024 .bf16) (x : Vec Ideal S512x512 .f32) (acc : Vec Ideal S1x512 .f32) (k : Fin 512) :
    k0_pay13 (F := Ideal) (k0_pay8 (F := Ideal) y w x) acc (ix2 0 k) = (acc (ix2 0 k) : EReal)
      + ∑ r : Fin 512, (k0_pay3 (F := Ideal) y w (ix2 r (lo k)) : EReal) * ((x (ix2 r k) : EReal) * rs cw (fun k => x (ix2 r k))) := by
  unfold rs cw ep
  simp only [← pay4_at]
  pointwise [k0_pay13, k0_pay8, k0_pay6, k0_pay5]
theorem pay14_at (d : FVec Ideal S512x1024 .f32) (x : Vec Ideal S512x512 .f32) (acc : Vec Ideal S1x512 .f32) (k : Fin 512) :
    k0_pay14 (F := Ideal) d x acc (ix2 0 k) = (acc (ix2 0 k) : EReal)
      + ∑ r : Fin 512, (d (ix2 r (hi k)) : EReal) * ((x (ix2 r k) : EReal) * rs cw (fun k => x (ix2 r k))) := by
  unfold rs cw ep
  simp only [← pay9_at]
  pointwise [k0_pay14, k0_pay11, k0_pay10]

theorem pay1_at (k : Fin 512) : (k0_pay1 (F := Ideal) (ix2 0 k) : EReal) = 0 := by
  pointwise [k0_pay1]
theorem pay2_at (k : Fin 512) : (k0_pay2 (F := Ideal) (ix2 0 k) : EReal) = 0 := by
  pointwise [k0_pay2]

/-! What a grid point leaves. -/

theorem pred_lt (t : Fin cfg0.N) : t.val - 1 < cfg0.N := lt_of_le_of_lt (Nat.sub_le _ _) t.isLt

/-- The blocks of a point, as rows. -/
def bd (c : Dev nD) (t : Fin cfg0.N) (r : Fin 512) (q : Fin 1024) : EReal := dt (fun r k => iblk m c 0 t (ix2 r k)) (fun q k => iblk m c 1 t (ix2 q k)) r q
def bx (c : Dev nD) (t : Fin cfg0.N) (r k : Fin 512) : EReal := iblk m c 2 t (ix2 r k)
def bk (c : Dev nD) (t : Fin cfg0.N) (r k : Fin 512) : EReal := iblk m c 3 t (ix2 r k)
def bg (c : Dev nD) (t : Fin cfg0.N) (k : Fin 512) : EReal := iblk m c 4 t (ix2 0 k)
def bh (c : Dev nD) (t : Fin cfg0.N) (k : Fin 512) : EReal := iblk m c 5 t (ix2 0 k)
/-- What the scales' gradients held before the point. -/
def oldG (c : Dev nD) (t : Fin cfg0.N) (k : Fin 512) : EReal :=
  if t.val % 8 = 0 then 0 else (outsAt0 m c (t.val - 1) (pred_lt t)).2.2.1 (ix2 0 k)
def oldH (c : Dev nD) (t : Fin cfg0.N) (k : Fin 512) : EReal :=
  if t.val % 8 = 0 then 0 else (outsAt0 m c (t.val - 1) (pred_lt t)).2.2.2 (ix2 0 k)

theorem gn_of (x y y' : Fin 512 → EReal) (h : ∀ k, y k = y' k) (k : Fin 512) : gn cw x y k = gn cw x y' k := by
  rw [show y = y' from funext h]
theorem pd_at (c : Dev nD) (t : Fin cfg0.N) (r : Fin 512) (q : Fin 1024) :
    (k0_pay3 (F := Ideal) (iblk m c 0 t) (iblk m c 1 t) (ix2 r q) : EReal) = bd m c t r q := pay3_at _ _ r q

theorem outX (c : Dev nD) (t : Fin cfg0.N) (r k : Fin 512) :
    ((outsAt0 m c t.val t.isLt).1 (ix2 r k) : EReal) = gn cw (bx m c t r) (fun k => bd m c t r (lo k) * bg m c t k) k := by
  by_cases h0 : t.val % 8 = 0
  · rw [outsAt0_A m c t h0]; frame_out
    exact (pay7_at _ _ _ _ r k).trans (gn_of _ _ _ (fun k => congrArg (fun a : EReal => a * bg m c t k) (pd_at m c t r (lo k))) k)
  · rw [outsAt0_B m c t h0]; frame_out
    exact (pay7_at _ _ _ _ r k).trans (gn_of _ _ _ (fun k => congrArg (fun a : EReal => a * bg m c t k) (pd_at m c t r (lo k))) k)
theorem outY (c : Dev nD) (t : Fin cfg0.N) (r k : Fin 512) :
    ((outsAt0 m c t.val t.isLt).2.1 (ix2 r k) : EReal) = gn cw (bk m c t r) (fun k => bd m c t r (hi k) * bh m c t k) k := by
  by_cases h0 : t.val % 8 = 0
  · rw [outsAt0_A m c t h0]; frame_out
    exact (pay12_at _ _ _ r k).trans (gn_of _ _ _ (fun k => congrArg (fun a : EReal => a * bh m c t k) (pd_at m c t r (hi k))) k)
  · rw [outsAt0_B m c t h0]; frame_out
    exact (pay12_at _ _ _ r k).trans (gn_of _ _ _ (fun k => congrArg (fun a : EReal => a * bh m c t k) (pd_at m c t r (hi k))) k)

theorem outG (c : Dev nD) (t : Fin cfg0.N) (k : Fin 512) :
    ((outsAt0 m c t.val t.isLt).2.2.1 (ix2 0 k) : EReal) = oldG m c t k + ∑ r : Fin 512, bd m c t r (lo k) * (bx m c t r k * rs cw (bx m c t r)) := by
  by_cases h0 : t.val % 8 = 0
  · rw [outsAt0_A m c t h0]; frame_out
    refine (pay13_at _ _ _ _ k).trans (congrArg₂ (fun a b : EReal => a + b) ?_ (Finset.sum_congr rfl fun r _ => congrArg (fun a : EReal => a * (bx m c t r k * rs cw (bx m c t r))) (pd_at m c t r (lo k))))
    unfold oldG
    rw [if_pos h0]
    exact pay1_at k
  · rw [outsAt0_B m c t h0]; frame_out
    refine (pay13_at _ _ _ _ k).trans (congrArg₂ (fun a b : EReal => a + b) ?_ (Finset.sum_congr rfl fun r _ => congrArg (fun a : EReal => a * (bx m c t r k * rs cw (bx m c t r))) (pd_at m c t r (lo k))))
    unfold oldG
    rw [if_neg h0]
theorem outH (c : Dev nD) (t : Fin cfg0.N) (k : Fin 512) :
    ((outsAt0 m c t.val t.isLt).2.2.2 (ix2 0 k) : EReal) = oldH m c t k + ∑ r : Fin 512, bd m c t r (hi k) * (bk m c t r k * rs cw (bk m c t r)) := by
  by_cases h0 : t.val % 8 = 0
  · rw [outsAt0_A m c t h0]; frame_out
    refine (pay14_at _ _ _ k).trans (congrArg₂ (fun a b : EReal => a + b) ?_ (Finset.sum_congr rfl fun r _ => congrArg (fun a : EReal => a * (bk m c t r k * rs cw (bk m c t r))) (pd_at m c t r (hi k))))
    unfold oldH
    rw [if_pos h0]
    exact pay2_at k
  · rw [outsAt0_B m c t h0]; frame_out
    refine (pay14_at _ _ _ k).trans (congrArg₂ (fun a b : EReal => a + b) ?_ (Finset.sum_congr rfl fun r _ => congrArg (fun a : EReal => a * (bk m c t r k * rs cw (bk m c t r))) (pd_at m c t r (hi k))))
    unfold oldH
    rw [if_neg h0]

/-! Over all tokens. -/

abbrev a0 (c : Dev nD) : FVec Ideal S4096x1024 .f32 := m ((c : Thread nD τ).loc main_arg0)
abbrev a1 (c : Dev nD) : FVec Ideal S1024x1024 .f32 := m ((c : Thread nD τ).loc main_arg1)
abbrev a2 (c : Dev nD) : FVec Ideal S4096x512 .f32 := m ((c : Thread nD τ).loc main_arg2)
abbrev a3 (c : Dev nD) : FVec Ideal S4096x512 .f32 := m ((c : Thread nD τ).loc main_arg3)
abbrev a4 (c : Dev nD) : FVec Ideal S1x512 .f32 := m ((c : Thread nD τ).loc main_arg4)
abbrev a5 (c : Dev nD) : FVec Ideal S1x512 .f32 := m ((c : Thread nD τ).loc main_arg5)

theorem e0 (c : Dev nD) : V m c main_v0 = fun i => a1 m c i := by
  entry_read
  rfl

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)
theorem odx : ∀ t : Fin cfg0.N, win0_6.index t = ![t.val, 0] ∧ win0_7.index t = ![t.val, 0] ∧ win0_8.index t = ![0, 0] ∧ win0_9.index t = ![0, 0] :=
  (by decide +kernel : ∀ t : Fin grid0.N, _)
theorem lt8 (t : Fin cfg0.N) : t.val < 8 := lt_of_lt_of_eq t.isLt N_0
/-- The token of a tile's row. -/
def tk (t : Fin cfg0.N) (k : Fin 512) : Fin 4096 := ⟨512 * t.val + k, by have := lt8 t; omega⟩

def E (c : Dev nD) (T : Fin 4096) (q : Fin 1024) : EReal := V m c main_arg0 (ix2 T q)
def W (c : Dev nD) (q k : Fin 1024) : EReal := V m c main_v0 (ix2 q k)
def X (c : Dev nD) (T : Fin 4096) (k : Fin 512) : EReal := V m c main_arg2 (ix2 T k)
def Y (c : Dev nD) (T : Fin 4096) (k : Fin 512) : EReal := V m c main_arg3 (ix2 T k)
def G (c : Dev nD) (k : Fin 512) : EReal := V m c main_arg4 (ix2 0 k)
def H (c : Dev nD) (k : Fin 512) : EReal := V m c main_arg5 (ix2 0 k)
theorem E_at (c : Dev nD) (T : Fin 4096) (q : Fin 1024) : E m c T q = a0 m c (ix2 T q) := by
  unfold E; rw [V_main_arg0]
theorem W_at (c : Dev nD) (q k : Fin 1024) : W m c q k = a1 m c (ix2 q k) := by
  unfold W; rw [e0]
theorem X_at (c : Dev nD) (T : Fin 4096) (k : Fin 512) : X m c T k = a2 m c (ix2 T k) := by
  unfold X; rw [V_main_arg2]
theorem Y_at (c : Dev nD) (T : Fin 4096) (k : Fin 512) : Y m c T k = a3 m c (ix2 T k) := by
  unfold Y; rw [V_main_arg3]
theorem G_at (c : Dev nD) (k : Fin 512) : G m c k = a4 m c (ix2 0 k) := by
  unfold G; rw [V_main_arg4]
theorem H_at (c : Dev nD) (k : Fin 512) : H m c k = a5 m c (ix2 0 k) := by
  unfold H; rw [V_main_arg5]

theorem b0_at (c : Dev nD) (t : Fin cfg0.N) (r : Fin 512) (q : Fin 1024) : (iblk m c 0 t (ix2 r q) : EReal) = E m c (tk t r) q := by
  unfold E tk
  blk_ext [iblk, V, idx t]
theorem b1_at (c : Dev nD) (t : Fin cfg0.N) (q k : Fin 1024) : (iblk m c 1 t (ix2 q k) : EReal) = W m c q k := by
  unfold W
  blk_ext [iblk, V, idx t]
theorem bx_at (c : Dev nD) (t : Fin cfg0.N) (r : Fin 512) : bx m c t r = X m c (tk t r) := by
  funext k
  unfold bx X tk
  blk_ext [iblk, V, idx t]
theorem bk_at (c : Dev nD) (t : Fin cfg0.N) (r : Fin 512) : bk m c t r = Y m c (tk t r) := by
  funext k
  unfold bk Y tk
  blk_ext [iblk, V, idx t]
theorem bg_at (c : Dev nD) (t : Fin cfg0.N) : bg m c t = G m c := by
  funext k
  unfold bg G
  blk_ext [iblk, V, idx t]
theorem bh_at (c : Dev nD) (t : Fin cfg0.N) : bh m c t = H m c := by
  funext k
  unfold bh H
  blk_ext [iblk, V, idx t]

/-- The gradient of the rows side by side. -/
def D (c : Dev nD) (T : Fin 4096) (q : Fin 1024) : EReal := ∑ k, E m c T k * W m c q k
theorem bd_at (c : Dev nD) (t : Fin cfg0.N) (r : Fin 512) (q : Fin 1024) : bd m c t r q = D m c (tk t r) q := by
  unfold bd dt D
  exact Finset.sum_congr rfl fun k _ => congrArg₂ (fun a b : EReal => a * b) (b0_at m c t r k) (b1_at m c t q k)

/-- What goes through each norm, and what a token adds to each scale's gradient. -/
def P (c : Dev nD) (T : Fin 4096) (k : Fin 512) : EReal := D m c T (lo k) * G m c k
def Q (c : Dev nD) (T : Fin 4096) (k : Fin 512) : EReal := D m c T (hi k) * H m c k
def G1 (c : Dev nD) (k : Fin 512) (T : Fin 4096) : EReal := D m c T (lo k) * (X m c T k * rs cw (X m c T))
def H1 (c : Dev nD) (k : Fin 512) (T : Fin 4096) : EReal := D m c T (hi k) * (Y m c T k * rs cw (Y m c T))

theorem rowX (c : Dev nD) (t : Fin cfg0.N) (r k : Fin 512) :
    ((outsAt0 m c t.val t.isLt).1 (ix2 r k) : EReal) = gn cw (X m c (tk t r)) (P m c (tk t r)) k := by
  rw [outX, bx_at, bg_at]
  simp only [bd_at]
  rfl
theorem rowY (c : Dev nD) (t : Fin cfg0.N) (r k : Fin 512) :
    ((outsAt0 m c t.val t.isLt).2.1 (ix2 r k) : EReal) = gn cw (Y m c (tk t r)) (Q m c (tk t r)) k := by
  rw [outY, bk_at, bh_at]
  simp only [bd_at]
  rfl
theorem stepG (c : Dev nD) (t : Fin cfg0.N) (k : Fin 512) :
    ((outsAt0 m c t.val t.isLt).2.2.1 (ix2 0 k) : EReal) = oldG m c t k + ∑ r : Fin 512, G1 m c k (tk t r) := by
  rw [outG]
  simp only [bd_at, bx_at]
  rfl
theorem stepH (c : Dev nD) (t : Fin cfg0.N) (k : Fin 512) :
    ((outsAt0 m c t.val t.isLt).2.2.2 (ix2 0 k) : EReal) = oldH m c t k + ∑ r : Fin 512, H1 m c k (tk t r) := by
  rw [outH]
  simp only [bd_at, bk_at]
  rfl
theorem lastG (c : Dev nD) (t : Fin cfg0.N) (ht : t.val % 8 = 7) (k : Fin 512) :
    ((outsAt0 m c t.val t.isLt).2.2.1 (ix2 0 k) : EReal) = ∑ T, G1 m c k T := by
  rw [← Cert.Kernel4Ideal.In.sum_tiles (G1 m c k)]
  refine held_last (fun n h => ((outsAt0 m c n h).2.2.1 (ix2 0 k) : EReal)) _ (fun h => ?_) (fun n h h8 => ?_) t.val t.isLt (by have := lt8 t; omega)
  · refine (stepG m c ⟨0, h⟩ k).trans ?_
    unfold oldG
    rw [if_pos (show ((⟨0, h⟩ : Fin cfg0.N) : ℕ) % 8 = 0 from rfl), zero_add]
    rfl
  · refine (stepG m c ⟨n + 1, h⟩ k).trans ?_
    unfold oldG
    rw [if_neg (by dsimp only; omega)]
    rfl
theorem lastH (c : Dev nD) (t : Fin cfg0.N) (ht : t.val % 8 = 7) (k : Fin 512) :
    ((outsAt0 m c t.val t.isLt).2.2.2 (ix2 0 k) : EReal) = ∑ T, H1 m c k T := by
  rw [← Cert.Kernel4Ideal.In.sum_tiles (H1 m c k)]
  refine held_last (fun n h => ((outsAt0 m c n h).2.2.2 (ix2 0 k) : EReal)) _ (fun h => ?_) (fun n h h8 => ?_) t.val t.isLt (by have := lt8 t; omega)
  · refine (stepH m c ⟨0, h⟩ k).trans ?_
    unfold oldH
    rw [if_pos (show ((⟨0, h⟩ : Fin cfg0.N) : ℕ) % 8 = 0 from rfl), zero_add]
    rfl
  · refine (stepH m c ⟨n + 1, h⟩ k).trans ?_
    unfold oldH
    rw [if_neg (by dsimp only; omega)]
    rfl

/-! The results as arrays. -/

/-- A function of token and column, and a function of the column, as arrays. -/
def wide (f : Fin 4096 → Fin 512 → EReal) : S4096x512.Idx → EReal := fun i => f (i 0) (i 1)
def flat (f : Fin 512 → EReal) : S1x512.Idx → EReal := fun i => f (i 1)
theorem wide_at (f : Fin 4096 → Fin 512 → EReal) (i : S4096x512.Idx) (T : Fin 4096) (k : Fin 512) (h0 : (i 0 : ℕ) = T) (h1 : (i 1 : ℕ) = k) : f T k = wide f i := by
  unfold wide
  rw [show i 0 = T from Fin.ext h0, show i 1 = k from Fin.ext h1]
theorem flat_at (f : Fin 512 → EReal) (i : S1x512.Idx) (k : Fin 512) (h1 : (i 1 : ℕ) = k) : f k = flat f i := by
  unfold flat
  rw [show i 1 = k from Fin.ext h1]

theorem out6 (c : Dev nD) : (dats m 0 c).arrAt 6 (cfgs 0).N = wide fun T k => gn cw (X m c T) (P m c T) k := by
  refine (dats m 0 c).arrAt_eq_of_covers 6 _ (by decide +kernel) fun t hf y => ?_
  blk_simp
  idx_vars y
  rw [after0_6]
  refine (rowX m c t _ _).trans <| wide_at (fun T k => gn cw (X m c T) (P m c T) k) _ _ _ ?_ ?_
  · blk_simp [odx t] <;> first | omega | (simp only [tk]; omega)
  · blk_simp [odx t] <;> first | omega | (simp only [tk]; omega)
theorem out7 (c : Dev nD) : (dats m 0 c).arrAt 7 (cfgs 0).N = wide fun T k => gn cw (Y m c T) (Q m c T) k := by
  refine (dats m 0 c).arrAt_eq_of_covers 7 _ (by decide +kernel) fun t hf y => ?_
  blk_simp
  idx_vars y
  rw [after0_7]
  refine (rowY m c t _ _).trans <| wide_at (fun T k => gn cw (Y m c T) (Q m c T) k) _ _ _ ?_ ?_
  · blk_simp [odx t] <;> first | omega | (simp only [tk]; omega)
  · blk_simp [odx t] <;> first | omega | (simp only [tk]; omega)
theorem out8 (c : Dev nD) : (dats m 0 c).arrAt 8 (cfgs 0).N = flat fun k => ∑ T, G1 m c k T := by
  refine (dats m 0 c).arrAt_eq_of_covers 8 _ (by decide +kernel) fun t hf y => ?_
  blk_simp
  idx_vars y
  obtain rfl : y0 = 0 := Subsingleton.elim _ _
  rw [after0_8]
  refine (lastG m c t ((flush0_8 t).mp hf) _).trans <| flat_at (fun k => ∑ T, G1 m c k T) _ _ ?_
  blk_simp [odx t] <;> first | omega | (dsimp only; omega)
theorem out9 (c : Dev nD) : (dats m 0 c).arrAt 9 (cfgs 0).N = flat fun k => ∑ T, H1 m c k T := by
  refine (dats m 0 c).arrAt_eq_of_covers 9 _ (by decide +kernel) fun t hf y => ?_
  blk_simp
  idx_vars y
  obtain rfl : y0 = 0 := Subsingleton.elim _ _
  rw [after0_9]
  refine (lastH m c t ((flush0_9 t).mp hf) _).trans <| flat_at (fun k => ∑ T, H1 m c k T) _ _ ?_
  blk_simp [odx t] <;> first | omega | (dsimp only; omega)

/-! The reference, read at a token and a column. -/

theorem v32_at (c : Dev nD) (T : Fin 4096) (q : Fin 1024) : (val_main_v32 (F := Ideal) (a0 m c) (a1 m c) (ix2 T q) : EReal) = D m c T q := by
  unfold D
  simp only [E_at, W_at]
  pointwise [val_main_v32]
theorem v33_at (c : Dev nD) (T : Fin 4096) (k : Fin 512) : (val_main_v33 (F := Ideal) (a0 m c) (a1 m c) (ix2 T k) : EReal) = D m c T (lo k) := by
  rw [← v32_at]
  unfold lo
  pointwise [val_main_v33]
theorem v34_at (c : Dev nD) (T : Fin 4096) (k : Fin 512) : (val_main_v34 (F := Ideal) (a0 m c) (a1 m c) (ix2 T k) : EReal) = D m c T (hi k) := by
  rw [← v32_at]
  unfold hi
  pointwise [val_main_v34]

theorem v7_at (c : Dev nD) (T : Fin 4096) : (val_main_v7 (F := Ideal) (a2 m c) (ix2 T 0) : EReal) = rs cw (X m c T) := by
  unfold rs cw ep
  rw [← div512]
  simp only [X_at]
  pointwise [val_main_v7, val_main_v6, val_main_cst_1, val_main_v5, val_main_v4, val_main_cst_0, val_main_v3, val_main_v2, val_main_v1, val_main_v0, val_main_cst]
theorem v10_at (c : Dev nD) (T : Fin 4096) : (val_main_v10 (F := Ideal) (a2 m c) (ix2 T 0) : EReal)
    = Ideal.ofBits .f32 0xBF000000#32 * Ideal.div (rs cw (X m c T)) ((∑ j, X m c T j * X m c T j) * cw + ep) := by
  rw [← v7_at]
  unfold cw ep
  rw [← div512]
  simp only [X_at]
  pointwise [val_main_v10, val_main_v9, val_main_cst_2, val_main_v8, val_main_v6, val_main_cst_1, val_main_v5, val_main_v4, val_main_cst_0, val_main_v3, val_main_v2, val_main_v1, val_main_v0, val_main_cst]
theorem v12_at (c : Dev nD) (T : Fin 4096) (k : Fin 512) : (val_main_v12 (F := Ideal) (a2 m c) (ix2 T k) : EReal) = X m c T k * rs cw (X m c T) := by
  rw [← v7_at, X_at]
  pointwise [val_main_v12, val_main_v11]
theorem v58_at (c : Dev nD) (T : Fin 4096) (k : Fin 512) : (val_main_v58 (F := Ideal) (a0 m c) (a1 m c) (a4 m c) (ix2 T k) : EReal) = P m c T k := by
  unfold P
  rw [← v33_at, G_at]
  pointwise [val_main_v58, val_main_v57]

theorem v22_at (c : Dev nD) (T : Fin 4096) : (val_main_v22 (F := Ideal) (a3 m c) (ix2 T 0) : EReal) = rs cw (Y m c T) := by
  unfold rs cw ep
  rw [← div512]
  simp only [Y_at]
  pointwise [val_main_v22, val_main_v21, val_main_cst_5, val_main_v20, val_main_v19, val_main_cst_4, val_main_v18, val_main_v17, val_main_v16, val_main_v15, val_main_cst_3]
theorem v25_at (c : Dev nD) (T : Fin 4096) : (val_main_v25 (F := Ideal) (a3 m c) (ix2 T 0) : EReal)
    = Ideal.ofBits .f32 0xBF000000#32 * Ideal.div (rs cw (Y m c T)) ((∑ j, Y m c T j * Y m c T j) * cw + ep) := by
  rw [← v22_at]
  unfold cw ep
  rw [← div512]
  simp only [Y_at]
  pointwise [val_main_v25, val_main_v24, val_main_cst_6, val_main_v23, val_main_v21, val_main_cst_5, val_main_v20, val_main_v19, val_main_cst_4, val_main_v18, val_main_v17, val_main_v16, val_main_v15, val_main_cst_3]
theorem v27_at (c : Dev nD) (T : Fin 4096) (k : Fin 512) : (val_main_v27 (F := Ideal) (a3 m c) (ix2 T k) : EReal) = Y m c T k * rs cw (Y m c T) := by
  rw [← v22_at, Y_at]
  pointwise [val_main_v27, val_main_v26]
theorem v39_at (c : Dev nD) (T : Fin 4096) (k : Fin 512) : (val_main_v39 (F := Ideal) (a0 m c) (a1 m c) (a5 m c) (ix2 T k) : EReal) = Q m c T k := by
  unfold Q
  rw [← v34_at, H_at]
  pointwise [val_main_v39, val_main_v38]

/-- Every argument is finite. -/
structure Fin11 (c : Dev nD) : Prop where
  h0 : ∀ i, R (a0 m c i)
  h1 : ∀ i, R (a1 m c i)
  h2 : ∀ i, R (a2 m c i)
  h3 : ∀ i, R (a3 m c i)
  h4 : ∀ i, R (a4 m c i)
  h5 : ∀ i, R (a5 m c i)

theorem fD (c : Dev nD) (h : Fin11 m c) (T : Fin 4096) (q : Fin 1024) : R (D m c T q) := by
  unfold D
  simp only [E_at, W_at]
  exact R.sum _ _ fun k => (h.h0 _).mul (h.h1 _)
theorem fX (c : Dev nD) (h : Fin11 m c) (T : Fin 4096) (k : Fin 512) : R (X m c T k) := by
  rw [X_at]; exact h.h2 _
theorem fY (c : Dev nD) (h : Fin11 m c) (T : Fin 4096) (k : Fin 512) : R (Y m c T k) := by
  rw [Y_at]; exact h.h3 _
theorem fP (c : Dev nD) (h : Fin11 m c) (T : Fin 4096) (k : Fin 512) : R (P m c T k) := by
  unfold P; rw [G_at]; exact (fD m c h T _).mul (h.h4 _)
theorem fQ (c : Dev nD) (h : Fin11 m c) (T : Fin 4096) (k : Fin 512) : R (Q m c T k) := by
  unfold Q; rw [H_at]; exact (fD m c h T _).mul (h.h5 _)
theorem kw : ∃ r : ℝ, 0 < r ∧ cw = (r : EReal) := n512

theorem final6 (c : Dev nD) (h : Fin11 m c) : (dats m 0 c).arrAt 6 (cfgs 0).N = val_main_v72 (F := Ideal) (a0 m c) (a1 m c) (a2 m c) (a4 m c) := by
  rw [out6]
  funext i
  idx_vars i
  show (gn cw (X m c i0) (P m c i0) i1 : EReal) = _
  rw [gn_alg kw _ _ (fX m c h i0) (fP m c h i0)]
  unfold th
  rw [← v10_at, ← v7_at]
  unfold cw
  simp only [← v58_at, X_at]
  pointwise [val_main_v72, val_main_v71, val_main_v70, val_main_v69, val_main_v68, val_main_v67, val_main_v66, val_main_v65, val_main_v64, val_main_v63, val_main_v62, val_main_v61, val_main_v60, val_main_v59, val_main_cst_12, val_main_cst_13, val_main_cst_14]
  rw [Fin.sum_univ_one]
  simp only [div512]
theorem final7 (c : Dev nD) (h : Fin11 m c) : (dats m 0 c).arrAt 7 (cfgs 0).N = val_main_v53 (F := Ideal) (a0 m c) (a1 m c) (a3 m c) (a5 m c) := by
  rw [out7]
  funext i
  idx_vars i
  show (gn cw (Y m c i0) (Q m c i0) i1 : EReal) = _
  rw [gn_alg kw _ _ (fY m c h i0) (fQ m c h i0)]
  unfold th
  rw [← v25_at, ← v22_at]
  unfold cw
  simp only [← v39_at, Y_at]
  pointwise [val_main_v53, val_main_v52, val_main_v51, val_main_v50, val_main_v49, val_main_v48, val_main_v47, val_main_v46, val_main_v45, val_main_v44, val_main_v43, val_main_v42, val_main_v41, val_main_v40, val_main_cst_8, val_main_cst_9, val_main_cst_10]
  rw [Fin.sum_univ_one]
  simp only [div512]

theorem final8 (c : Dev nD) : (dats m 0 c).arrAt 8 (cfgs 0).N = val_main_v56 (F := Ideal) (a0 m c) (a1 m c) (a2 m c) := by
  rw [out8]
  funext i
  idx_vars i
  show (∑ T, G1 m c i1 T : EReal) = _
  unfold G1
  simp only [← v12_at, ← v33_at]
  pointwise [val_main_v56, val_main_v55, val_main_v54, val_main_cst_11]
  exact Finset.sum_congr rfl fun T _ => mul_comm _ _
theorem final9 (c : Dev nD) : (dats m 0 c).arrAt 9 (cfgs 0).N = val_main_v37 (F := Ideal) (a0 m c) (a1 m c) (a3 m c) := by
  rw [out9]
  funext i
  idx_vars i
  show (∑ T, H1 m c i1 T : EReal) = _
  unfold H1
  simp only [← v27_at, ← v34_at]
  pointwise [val_main_v37, val_main_v36, val_main_v35, val_main_cst_7]
  exact Finset.sum_congr rfl fun T _ => mul_comm _ _

end Cert.Kernel11Ideal.OutBwd

end
-- ==== Proof.Rest.lean ====
/- The value claims and the references' frames of the six calls around the attention and the norms. -/
module
public import proofs.«01_k».proof.Defs
public import proofs.«01_k».proof.Proof.UpBwd
public import proofs.«01_k».proof.Proof.InBwd
public import proofs.«01_k».proof.Proof.ProjIn
public import proofs.«01_k».proof.Proof.WOut
public import proofs.«01_k».proof.Proof.OutNorm
public import proofs.«01_k».proof.Proof.OutBwd
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import Idealize.ShloMosaic.Adequacy
public import Idealize.ShloMosaic.Init
@[expose] public section
set_option maxRecDepth 16384
noncomputable section

namespace Cert.Rest
open Idealize.ShloMosaic Idealize.ShloMosaic.TcCoe Idealize.SL.Sem Cert.Finite

/-! The two preconditions say that every argument is finite. -/

theorem preFacts6 : Cert.Pre_finite6.Facts where
  bcast_S_S4096x2816 := by decide
  bcast_S_S1024x5632 := by decide
  bcast_S_S4096x1024 := by decide
  bcast_S_S1x1024 := by decide

theorem preFacts11 : Cert.Pre_finite11.Facts where
  bcast_S_S4096x1024 := by decide
  bcast_S_S1024x1024 := by decide
  bcast_S_S4096x512 := by decide
  bcast_S_S1x512 := by decide

open Cert.Kernel6Ideal in
theorem fin6 [Cert.Pre_finite6.Facts] (m : (ℓ : Loc nD τ sig) → Buf (Elt Ideal) ℓ) (h : Cert.Pre_Kernel6Ideal_finite6 m) (c : Dev nD) : Cert.Kernel6Ideal.UpBwd.Fin6 m c := by
  obtain ⟨p0, p1, p2, p3, p4, p5⟩ := h c
  constructor <;> intro i <;> apply R.of_abs
  · have q := congrFun p0 i; pointwise [Cert.Pre_finite6.fn] at q; exact q
  · have q := congrFun p1 i; pointwise [Cert.Pre_finite6.fn] at q; exact q
  · have q := congrFun p2 i; pointwise [Cert.Pre_finite6.fn] at q; exact q
  · have q := congrFun p3 i; pointwise [Cert.Pre_finite6.fn] at q; exact q
  · have q := congrFun p4 i; pointwise [Cert.Pre_finite6.fn] at q; exact q
  · have q := congrFun p5 i; pointwise [Cert.Pre_finite6.fn] at q; exact q

open Cert.Kernel11Ideal in
theorem fin11 [Cert.Pre_finite11.Facts] (m : (ℓ : Loc nD τ sig) → Buf (Elt Ideal) ℓ) (h : Cert.Pre_Kernel11Ideal_finite11 m) (c : Dev nD) : Cert.Kernel11Ideal.OutBwd.Fin11 m c := by
  obtain ⟨p0, p1, p2, p3, p4, p5⟩ := h c
  constructor <;> intro i <;> apply R.of_abs
  · have q := congrFun p0 i; pointwise [Cert.Pre_finite11.fn] at q; exact q
  · have q := congrFun p1 i; pointwise [Cert.Pre_finite11.fn] at q; exact q
  · have q := congrFun p2 i; pointwise [Cert.Pre_finite11.fn] at q; exact q
  · have q := congrFun p3 i; pointwise [Cert.Pre_finite11.fn] at q; exact q
  · have q := congrFun p4 i; pointwise [Cert.Pre_finite11.fn] at q; exact q
  · have q := congrFun p5 i; pointwise [Cert.Pre_finite11.fn] at q; exact q

/-! The gradient through the up projection and its norm. -/

set_option maxHeartbeats 2000000 in
open Cert.Reference6Ideal.Read in
theorem algebraic6 : Cert.algebraic_Kernel6Ideal_Reference6Ideal_pre_finite6 (hKernel6Ideal := Cert.Kernel6Ideal.Gen.facts)
    (hReference6Ideal := Cert.Reference6Ideal.Gen.facts) (hPre_finite6 := preFacts6) := by
  intro m g m' g' hpre hagree
  have hf := @fin6 preFacts6 m hpre
  have e : ∀ c, Cert.Reference6Ideal.Value.res_main_v37 m' c = (Cert.Kernel6Ideal.Gen.dats m 0 c).arrAt 6 (Cert.Kernel6Ideal.cfgs 0).N := fun c => by
    obtain ⟨q0, q1, q2, q3, q4, q5⟩ := hagree c
    rw [val_main_v37_eq, q0, q1, q2, q3, q4, q5]
    exact (Cert.Kernel6Ideal.UpBwd.final6 m c (hf c)).symm
  refine ⟨_, _, Cert.Kernel6Ideal.Value.run_blocks m g, ?_⟩
  refine (θ_run (Cert.Reference6Ideal.defs (F := Ideal)) _ _).mono (fun r h c =>
    ⟨((h c).1).trans (e c), ((h c).2.1).trans ((val_main_v20_eq _ _ _ _).trans ?_), (h c).2.2⟩)
    (Cert.Reference6Ideal.Value.run (F := Ideal) m' g')
  obtain ⟨q0, q1, q2, q3, q4, q5⟩ := hagree c
  rw [q0, q1, q2, q3]
  exact (Cert.Kernel6Ideal.UpBwd.final7 m c).symm

theorem frame_reference6 : Cert.quiescent_Reference6Ideal (hReference6Ideal := Cert.Reference6Ideal.Gen.facts) := fun m g _ =>
  (θ_run (Cert.Reference6Ideal.defs (F := Ideal)) _ _).mono
    (fun r h => And.intro (fun c => (h c).2.2) (sem_eq_zero_of_no_sems (by decide) r.2))
    (Cert.Reference6Ideal.Value.run (F := Ideal) m g)

/-! The gradient through the projection in. -/

set_option maxHeartbeats 2000000 in
open Cert.Reference7Ideal.Read in
theorem algebraic7 : Cert.algebraic_Kernel7Ideal_Reference7Ideal (hKernel7Ideal := Cert.Kernel7Ideal.Gen.facts)
    (hReference7Ideal := Cert.Reference7Ideal.Gen.facts) := by
  intro m g m' g' _ hagree
  refine ⟨_, Cert.Kernel7Ideal.Value.run_blocks m g, ?_⟩
  refine (θ_run (Cert.Reference7Ideal.defs (F := Ideal)) _ _).mono (fun r h c =>
    ⟨((h c).1).trans ((val_main_v4_eq _ _ _ _ _ _).trans ?_), (h c).2⟩)
    (Cert.Reference7Ideal.Value.run (F := Ideal) m' g')
  obtain ⟨q0, q1, q2, q3, q4, q5⟩ := hagree c
  rw [q0, q1, q2, q3, q4, q5]
  exact (Cert.Kernel7Ideal.InBwd.final m c).symm

theorem frame_reference7 : Cert.quiescent_Reference7Ideal (hReference7Ideal := Cert.Reference7Ideal.Gen.facts) := fun m g _ =>
  (θ_run (Cert.Reference7Ideal.defs (F := Ideal)) _ _).mono
    (fun r h => And.intro (fun c => (h c).2) (sem_eq_zero_of_no_sems (by decide) r.2))
    (Cert.Reference7Ideal.Value.run (F := Ideal) m g)

/-! The projection in. -/

set_option maxHeartbeats 2000000 in
open Cert.Reference8Ideal.Read in
theorem algebraic8 : Cert.algebraic_Kernel8Ideal_Reference8Ideal (hKernel8Ideal := Cert.Kernel8Ideal.Gen.facts)
    (hReference8Ideal := Cert.Reference8Ideal.Gen.facts) := by
  intro m g m' g' _ hagree
  refine ⟨_, Cert.Kernel8Ideal.Value.run_blocks m g, ?_⟩
  refine (θ_run (Cert.Reference8Ideal.defs (F := Ideal)) _ _).mono (fun r h c =>
    ⟨((h c).1).trans ((val_main_v1_eq _ _).trans ?_), (h c).2⟩)
    (Cert.Reference8Ideal.Value.run (F := Ideal) m' g')
  obtain ⟨q0, q1⟩ := hagree c
  rw [q0, q1]
  exact (Cert.Kernel8Ideal.ProjIn.final m c).symm

theorem frame_reference8 : Cert.quiescent_Reference8Ideal (hReference8Ideal := Cert.Reference8Ideal.Gen.facts) := fun m g _ =>
  (θ_run (Cert.Reference8Ideal.defs (F := Ideal)) _ _).mono
    (fun r h => And.intro (fun c => (h c).2) (sem_eq_zero_of_no_sems (by decide) r.2))
    (Cert.Reference8Ideal.Value.run (F := Ideal) m g)

/-! The weight gradient of the projection out. -/

set_option maxHeartbeats 2000000 in
open Cert.Reference9Ideal.Read in
theorem algebraic9 : Cert.algebraic_Kernel9Ideal_Reference9Ideal (hKernel9Ideal := Cert.Kernel9Ideal.Gen.facts)
    (hReference9Ideal := Cert.Reference9Ideal.Gen.facts) := by
  intro m g m' g' _ hagree
  refine ⟨_, Cert.Kernel9Ideal.Value.run_blocks m g, ?_⟩
  refine (θ_run (Cert.Reference9Ideal.defs (F := Ideal)) _ _).mono (fun r h c =>
    ⟨((h c).1).trans ((val_main_v3_eq _ _).trans ?_), (h c).2⟩)
    (Cert.Reference9Ideal.Value.run (F := Ideal) m' g')
  obtain ⟨q0, q1⟩ := hagree c
  rw [q0, q1]
  exact (Cert.Kernel9Ideal.WOut.final m c).symm

theorem frame_reference9 : Cert.quiescent_Reference9Ideal (hReference9Ideal := Cert.Reference9Ideal.Gen.facts) := fun m g _ =>
  (θ_run (Cert.Reference9Ideal.defs (F := Ideal)) _ _).mono
    (fun r h => And.intro (fun c => (h c).2) (sem_eq_zero_of_no_sems (by decide) r.2))
    (Cert.Reference9Ideal.Value.run (F := Ideal) m g)

/-! The two norms, the projection out, and the norm after the residual. -/

set_option maxHeartbeats 2000000 in
open Cert.Reference10Ideal.Read in
theorem algebraic10 : Cert.algebraic_Kernel10Ideal_Reference10Ideal (hKernel10Ideal := Cert.Kernel10Ideal.Gen.facts)
    (hReference10Ideal := Cert.Reference10Ideal.Gen.facts) := by
  intro m g m' g' _ hagree
  have e : ∀ c, Cert.Reference10Ideal.Value.res_main_v40 m' c = (Cert.Kernel10Ideal.Gen.dats m 0 c).arrAt 9 (Cert.Kernel10Ideal.cfgs 0).N := fun c => by
    obtain ⟨q0, q1, q2, q3, q4, q5, q6⟩ := hagree c
    rw [val_main_v40_eq, q0, q1, q2, q3, q4, q5, q6]
    exact (Cert.Kernel10Ideal.OutNorm.final9 m c).symm
  refine ⟨_, _, _, Cert.Kernel10Ideal.Value.run_blocks m g, ?_⟩
  refine (θ_run (Cert.Reference10Ideal.defs (F := Ideal)) _ _).mono (fun r h c =>
    ⟨((h c).1).trans ((val_main_v27_eq _ _ _ _).trans ?_), ((h c).2.1).trans ((val_main_v26_eq _ _ _ _ _ _).trans ?_),
      ((h c).2.2.1).trans (e c), (h c).2.2.2⟩)
    (Cert.Reference10Ideal.Value.run (F := Ideal) m' g')
  · obtain ⟨q0, q1, q2, q3, q4, q5, q6⟩ := hagree c
    rw [q0, q1, q2, q3]
    exact (Cert.Kernel10Ideal.OutNorm.final7 m c).symm
  · obtain ⟨q0, q1, q2, q3, q4, q5, q6⟩ := hagree c
    rw [q0, q1, q2, q3, q4, q5]
    exact (Cert.Kernel10Ideal.OutNorm.final8 m c).symm

theorem frame_reference10 : Cert.quiescent_Reference10Ideal (hReference10Ideal := Cert.Reference10Ideal.Gen.facts) := fun m g _ =>
  (θ_run (Cert.Reference10Ideal.defs (F := Ideal)) _ _).mono
    (fun r h => And.intro (fun c => (h c).2.2.2) (sem_eq_zero_of_no_sems (by decide) r.2))
    (Cert.Reference10Ideal.Value.run (F := Ideal) m g)

/-! The gradient through the projection out and the two norms. -/

set_option maxHeartbeats 2000000 in
open Cert.Reference11Ideal.Read in
theorem algebraic11 : Cert.algebraic_Kernel11Ideal_Reference11Ideal_pre_finite11 (hKernel11Ideal := Cert.Kernel11Ideal.Gen.facts)
    (hReference11Ideal := Cert.Reference11Ideal.Gen.facts) (hPre_finite11 := preFacts11) := by
  intro m g m' g' hpre hagree
  have hf := @fin11 preFacts11 m hpre
  have e6 : ∀ c, Cert.Reference11Ideal.Value.res_main_v72 m' c = (Cert.Kernel11Ideal.Gen.dats m 0 c).arrAt 6 (Cert.Kernel11Ideal.cfgs 0).N := fun c => by
    obtain ⟨q0, q1, q2, q3, q4, q5⟩ := hagree c
    rw [val_main_v72_eq, q0, q1, q2, q4]
    exact (Cert.Kernel11Ideal.OutBwd.final6 m c (hf c)).symm
  have e7 : ∀ c, Cert.Reference11Ideal.Value.res_main_v53 m' c = (Cert.Kernel11Ideal.Gen.dats m 0 c).arrAt 7 (Cert.Kernel11Ideal.cfgs 0).N := fun c => by
    obtain ⟨q0, q1, q2, q3, q4, q5⟩ := hagree c
    rw [val_main_v53_eq, q0, q1, q3, q5]
    exact (Cert.Kernel11Ideal.OutBwd.final7 m c (hf c)).symm
  refine ⟨_, _, _, _, Cert.Kernel11Ideal.Value.run_blocks m g, ?_⟩
  refine (θ_run (Cert.Reference11Ideal.defs (F := Ideal)) _ _).mono (fun r h c =>
    ⟨((h c).1).trans (e6 c), ((h c).2.1).trans (e7 c), ((h c).2.2.1).trans ((val_main_v56_eq _ _ _).trans ?_),
      ((h c).2.2.2.1).trans ((val_main_v37_eq _ _ _).trans ?_), (h c).2.2.2.2⟩)
    (Cert.Reference11Ideal.Value.run (F := Ideal) m' g')
  · obtain ⟨q0, q1, q2, q3, q4, q5⟩ := hagree c
    rw [q0, q1, q2]
    exact (Cert.Kernel11Ideal.OutBwd.final8 m c).symm
  · obtain ⟨q0, q1, q2, q3, q4, q5⟩ := hagree c
    rw [q0, q1, q3]
    exact (Cert.Kernel11Ideal.OutBwd.final9 m c).symm

theorem frame_reference11 : Cert.quiescent_Reference11Ideal (hReference11Ideal := Cert.Reference11Ideal.Gen.facts) := fun m g _ =>
  (θ_run (Cert.Reference11Ideal.defs (F := Ideal)) _ _).mono
    (fun r h => And.intro (fun c => (h c).2.2.2.2) (sem_eq_zero_of_no_sems (by decide) r.2))
    (Cert.Reference11Ideal.Value.run (F := Ideal) m g)

end Cert.Rest

end
-- ==== Proof.MixBwd.lean ====
/- The gradient through the norm in front of the mixers, on top of the residual's: what a tile leaves, and the scale's gradient
   over all tiles; over finite arguments the results are the reference's. -/
module
public import proofs.«01_k».proof.Proof.Norm
public import proofs.«01_k».proof.Proof.Gen.Kernel12Ideal.Value
public import proofs.«01_k».proof.Proof.Gen.Reference12Ideal.Read
public import Idealize.ShloMosaic.Lib.Pointwise
public import Idealize.ShloMosaic.Lib.Claim
public import Idealize.ShloMosaic.Lib.Pipeline.ValueKit
public import Idealize.ShloMosaic.Lib.Pipeline.ReadBack
@[expose] public section
set_option maxRecDepth 16384
set_option maxHeartbeats 1000000
noncomputable section

namespace Cert.Kernel12Ideal.MixBwd
open Cert.Kernel12Ideal Cert.Kernel12Ideal.Gen Idealize.ShloMosaic Idealize.ShloMosaic.TcCoe Idealize.SL.Sem
open Cert.Reference12Ideal.Read Cert.Finite Cert.Norm
open Cert.Kernel5Ideal.Loss (ep)
variable (m : (ℓ : Loc nD τ sig) → Buf (Elt Ideal) ℓ)

/-- One over 1024. -/
def ct : EReal := Ideal.ofBits .f32 0x3A800000#32

/-! What the body computes. -/

theorem pay4_at (x : Vec Ideal S512x1024 .f32) (g : Vec Ideal S1x1024 .f32) (d y : Vec Ideal S512x1024 .f32) (r : Fin 512) (q : Fin 1024) :
    k0_pay4 (F := Ideal) x g d y (ix2 r q) = (y (ix2 r q) : EReal) + gn ct (fun q => x (ix2 r q)) (fun q => (d (ix2 r q) : EReal) * g (ix2 0 q)) q := by
  unfold gn rs ct ep
  pointwise [k0_pay4, k0_pay3, k0_pay2]

theorem pay5_at (x d : Vec Ideal S512x1024 .f32) (acc : Vec Ideal S1x1024 .f32) (q : Fin 1024) :
    k0_pay5 (F := Ideal) x d acc (ix2 0 q) = (acc (ix2 0 q) : EReal) + ∑ r : Fin 512, (d (ix2 r q) : EReal) * ((x (ix2 r q) : EReal) * rs ct (fun q => x (ix2 r q))) := by
  unfold rs ct ep
  pointwise [k0_pay5, k0_pay3, k0_pay2]

theorem pay1_at (q : Fin 1024) : (k0_pay1 (F := Ideal) (ix2 0 q) : EReal) = 0 := by
  pointwise [k0_pay1]

/-! What a grid point leaves. -/

theorem pred_lt (t : Fin cfg0.N) : t.val - 1 < cfg0.N := lt_of_le_of_lt (Nat.sub_le _ _) t.isLt

/-- The blocks of a point, as rows. -/
def bx (c : Dev nD) (t : Fin cfg0.N) (r : Fin 512) (q : Fin 1024) : EReal := iblk m c 0 t (ix2 r q)
def bg (c : Dev nD) (t : Fin cfg0.N) (q : Fin 1024) : EReal := iblk m c 1 t (ix2 0 q)
def bd (c : Dev nD) (t : Fin cfg0.N) (r : Fin 512) (q : Fin 1024) : EReal := iblk m c 2 t (ix2 r q)
def bq (c : Dev nD) (t : Fin cfg0.N) (r : Fin 512) (q : Fin 1024) : EReal := iblk m c 3 t (ix2 r q)
/-- What the scale's gradient held before the point. -/
def old (c : Dev nD) (t : Fin cfg0.N) (q : Fin 1024) : EReal :=
  if t.val % 8 = 0 then 0 else (outsAt0 m c (t.val - 1) (pred_lt t)).2 (ix2 0 q)

theorem outX (c : Dev nD) (t : Fin cfg0.N) (r : Fin 512) (q : Fin 1024) :
    ((outsAt0 m c t.val t.isLt).1 (ix2 r q) : EReal) = bq m c t r q + gn ct (bx m c t r) (fun q => bd m c t r q * bg m c t q) q := by
  by_cases h0 : t.val % 8 = 0
  · rw [outsAt0_A m c t h0]; frame_out
    exact pay4_at _ _ _ _ r q
  · rw [outsAt0_B m c t h0]; frame_out
    exact pay4_at _ _ _ _ r q

theorem outG (c : Dev nD) (t : Fin cfg0.N) (q : Fin 1024) :
    ((outsAt0 m c t.val t.isLt).2 (ix2 0 q) : EReal) = old m c t q + ∑ r : Fin 512, bd m c t r q * (bx m c t r q * rs ct (bx m c t r)) := by
  by_cases h0 : t.val % 8 = 0
  · rw [outsAt0_A m c t h0]; frame_out
    refine (pay5_at _ _ _ q).trans (congrArg₂ (fun a b : EReal => a + b) ?_ rfl)
    unfold old
    rw [if_pos h0]
    exact pay1_at q
  · rw [outsAt0_B m c t h0]; frame_out
    refine (pay5_at _ _ _ q).trans (congrArg₂ (fun a b : EReal => a + b) ?_ rfl)
    unfold old
    rw [if_neg h0]

/-! Over all tokens. -/

abbrev a0 (c : Dev nD) : FVec Ideal S4096x1024 .f32 := m ((c : Thread nD τ).loc main_arg0)
abbrev a1 (c : Dev nD) : FVec Ideal S1x1024 .f32 := m ((c : Thread nD τ).loc main_arg1)
abbrev a2 (c : Dev nD) : FVec Ideal S4096x1024 .f32 := m ((c : Thread nD τ).loc main_arg2)
abbrev a3 (c : Dev nD) : FVec Ideal S4096x1024 .f32 := m ((c : Thread nD τ).loc main_arg3)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)
theorem odx : ∀ t : Fin cfg0.N, win0_4.index t = ![t.val, 0] ∧ win0_5.index t = ![0, 0] :=
  (by decide +kernel : ∀ t : Fin grid0.N, _)
theorem lt8 (t : Fin cfg0.N) : t.val < 8 := lt_of_lt_of_eq t.isLt N_0
/-- The token of a tile's row. -/
def tk (t : Fin cfg0.N) (k : Fin 512) : Fin 4096 := ⟨512 * t.val + k, by have := lt8 t; omega⟩

def X (c : Dev nD) (T : Fin 4096) (q : Fin 1024) : EReal := V m c main_arg0 (ix2 T q)
def G (c : Dev nD) (q : Fin 1024) : EReal := V m c main_arg1 (ix2 0 q)
def D (c : Dev nD) (T : Fin 4096) (q : Fin 1024) : EReal := V m c main_arg2 (ix2 T q)
def Y (c : Dev nD) (T : Fin 4096) (q : Fin 1024) : EReal := V m c main_arg3 (ix2 T q)
theorem X_at (c : Dev nD) (T : Fin 4096) (q : Fin 1024) : X m c T q = a0 m c (ix2 T q) := by
  unfold X; rw [V_main_arg0]
theorem G_at (c : Dev nD) (q : Fin 1024) : G m c q = a1 m c (ix2 0 q) := by
  unfold G; rw [V_main_arg1]
theorem D_at (c : Dev nD) (T : Fin 4096) (q : Fin 1024) : D m c T q = a2 m c (ix2 T q) := by
  unfold D; rw [V_main_arg2]
theorem Y_at (c : Dev nD) (T : Fin 4096) (q : Fin 1024) : Y m c T q = a3 m c (ix2 T q) := by
  unfold Y; rw [V_main_arg3]

theorem bx_at (c : Dev nD) (t : Fin cfg0.N) (r : Fin 512) : bx m c t r = X m c (tk t r) := by
  funext q
  unfold bx X tk
  blk_ext [iblk, V, idx t]
theorem bg_at (c : Dev nD) (t : Fin cfg0.N) : bg m c t = G m c := by
  funext q
  unfold bg G
  blk_ext [iblk, V, idx t]
theorem bd_at (c : Dev nD) (t : Fin cfg0.N) (r : Fin 512) (q : Fin 1024) : bd m c t r q = D m c (tk t r) q := by
  unfold bd D tk
  blk_ext [iblk, V, idx t]
theorem bq_at (c : Dev nD) (t : Fin cfg0.N) (r : Fin 512) (q : Fin 1024) : bq m c t r q = Y m c (tk t r) q := by
  unfold bq Y tk
  blk_ext [iblk, V, idx t]

/-- What goes through the norm, and what a token adds to the scale's gradient. -/
def P (c : Dev nD) (T : Fin 4096) (q : Fin 1024) : EReal := D m c T q * G m c q
def G1 (c : Dev nD) (q : Fin 1024) (T : Fin 4096) : EReal := D m c T q * (X m c T q * rs ct (X m c T))

theorem rowX (c : Dev nD) (t : Fin cfg0.N) (r : Fin 512) (q : Fin 1024) :
    ((outsAt0 m c t.val t.isLt).1 (ix2 r q) : EReal) = Y m c (tk t r) q + gn ct (X m c (tk t r)) (P m c (tk t r)) q := by
  rw [outX, bq_at, bx_at, bg_at]
  simp only [bd_at]
  rfl
theorem step (c : Dev nD) (t : Fin cfg0.N) (q : Fin 1024) :
    ((outsAt0 m c t.val t.isLt).2 (ix2 0 q) : EReal) = old m c t q + ∑ r : Fin 512, G1 m c q (tk t r) := by
  rw [outG]
  simp only [bd_at, bx_at]
  rfl
theorem last (c : Dev nD) (t : Fin cfg0.N) (ht : t.val % 8 = 7) (q : Fin 1024) :
    ((outsAt0 m c t.val t.isLt).2 (ix2 0 q) : EReal) = ∑ T, G1 m c q T := by
  rw [← Cert.Kernel4Ideal.In.sum_tiles (G1 m c q)]
  refine held_last (fun n h => ((outsAt0 m c n h).2 (ix2 0 q) : EReal)) _ (fun h => ?_) (fun n h h8 => ?_) t.val t.isLt (by have := lt8 t; omega)
  · refine (step m c ⟨0, h⟩ q).trans ?_
    unfold old
    rw [if_pos (show ((⟨0, h⟩ : Fin cfg0.N) : ℕ) % 8 = 0 from rfl), zero_add]
    rfl
  · refine (step m c ⟨n + 1, h⟩ q).trans ?_
    unfold old
    rw [if_neg (by dsimp only; omega)]
    rfl

/-! The results as arrays. -/

def rX (c : Dev nD) : S4096x1024.Idx → EReal := fun i => Y m c (i 0) (i 1) + gn ct (X m c (i 0)) (P m c (i 0)) (i 1)
theorem rX_at (c : Dev nD) (i : S4096x1024.Idx) (T : Fin 4096) (q : Fin 1024) (h0 : (i 0 : ℕ) = T) (h1 : (i 1 : ℕ) = q) :
    Y m c T q + gn ct (X m c T) (P m c T) q = rX m c i := by
  unfold rX
  rw [show i 0 = T from Fin.ext h0, show i 1 = q from Fin.ext h1]
def rG (c : Dev nD) : S1x1024.Idx → EReal := fun i => ∑ T, G1 m c (i 1) T
theorem rG_at (c : Dev nD) (i : S1x1024.Idx) (q : Fin 1024) (h1 : (i 1 : ℕ) = q) : ∑ T, G1 m c q T = rG m c i := by
  unfold rG
  rw [show i 1 = q from Fin.ext h1]

theorem out4 (c : Dev nD) : (dats m 0 c).arrAt 4 (cfgs 0).N = rX m c := by
  refine (dats m 0 c).arrAt_eq_of_covers 4 _ (by decide +kernel) fun t hf y => ?_
  blk_simp
  idx_vars y
  rw [after0_4]
  refine (rowX m c t _ _).trans <| rX_at m c _ _ _ ?_ ?_
  · blk_simp [odx t] <;> first | omega | (simp only [tk]; omega)
  · blk_simp [odx t] <;> first | omega | (simp only [tk]; omega)
theorem out5 (c : Dev nD) : (dats m 0 c).arrAt 5 (cfgs 0).N = rG m c := by
  refine (dats m 0 c).arrAt_eq_of_covers 5 _ (by decide +kernel) fun t hf y => ?_
  blk_simp
  idx_vars y
  obtain rfl : y0 = 0 := Subsingleton.elim _ _
  rw [after0_5]
  refine (last m c t ((flush0_5 t).mp hf) _).trans <| rG_at m c _ _ ?_
  blk_simp [odx t] <;> first | omega | (dsimp only; omega)

/-! The reference, read at a token and a column. -/

theorem v7_at (c : Dev nD) (T : Fin 4096) : (val_main_v7 (F := Ideal) (a0 m c) (ix2 T 0) : EReal) = rs ct (X m c T) := by
  unfold rs ct ep
  rw [← div1024]
  simp only [X_at]
  pointwise [val_main_v7, val_main_v6, val_main_cst_1, val_main_v5, val_main_v4, val_main_cst_0, val_main_v3, val_main_v2, val_main_v1, val_main_v0, val_main_cst]

theorem v10_at (c : Dev nD) (T : Fin 4096) : (val_main_v10 (F := Ideal) (a0 m c) (ix2 T 0) : EReal)
    = Ideal.ofBits .f32 0xBF000000#32 * Ideal.div (rs ct (X m c T)) ((∑ j, X m c T j * X m c T j) * ct + ep) := by
  rw [← v7_at]
  unfold ct ep
  rw [← div1024]
  simp only [X_at]
  pointwise [val_main_v10, val_main_v9, val_main_cst_2, val_main_v8, val_main_v6, val_main_cst_1, val_main_v5, val_main_v4, val_main_cst_0, val_main_v3, val_main_v2, val_main_v1, val_main_v0, val_main_cst]

theorem v12_at (c : Dev nD) (T : Fin 4096) (q : Fin 1024) : (val_main_v12 (F := Ideal) (a0 m c) (ix2 T q) : EReal) = X m c T q * rs ct (X m c T) := by
  rw [← v7_at, X_at]
  pointwise [val_main_v12, val_main_v11]

theorem v19_at (c : Dev nD) (T : Fin 4096) (q : Fin 1024) : (val_main_v19 (F := Ideal) (a1 m c) (a2 m c) (ix2 T q) : EReal) = P m c T q := by
  unfold P
  rw [D_at, G_at]
  pointwise [val_main_v19, val_main_v18]

/-- Every argument is finite. -/
structure Fin12 (c : Dev nD) : Prop where
  h0 : ∀ i, R (a0 m c i)
  h1 : ∀ i, R (a1 m c i)
  h2 : ∀ i, R (a2 m c i)
  h3 : ∀ i, R (a3 m c i)

theorem fX (c : Dev nD) (h : Fin12 m c) (T : Fin 4096) (q : Fin 1024) : R (X m c T q) := by
  rw [X_at]; exact h.h0 _
theorem fP (c : Dev nD) (h : Fin12 m c) (T : Fin 4096) (q : Fin 1024) : R (P m c T q) := by
  unfold P
  rw [D_at, G_at]
  exact (h.h2 _).mul (h.h1 _)

theorem final4 (c : Dev nD) (h : Fin12 m c) : (dats m 0 c).arrAt 4 (cfgs 0).N = val_main_v34 (F := Ideal) (a0 m c) (a1 m c) (a2 m c) (a3 m c) := by
  rw [out4]
  funext i
  idx_vars i
  show (Y m c i0 i1 + gn ct (X m c i0) (P m c i0) i1 : EReal) = _
  have hk : ∃ r : ℝ, 0 < r ∧ ct = (r : EReal) := n1024
  rw [gn_alg hk _ _ (fX m c h i0) (fP m c h i0)]
  unfold th
  rw [← add_assoc, ← add_assoc, ← v10_at, ← v7_at, Y_at]
  unfold ct
  simp only [← v19_at, X_at]
  pointwise [val_main_v34, val_main_v33, val_main_v32, val_main_v31, val_main_v30, val_main_v29, val_main_v28, val_main_v27, val_main_v26, val_main_v25, val_main_v24, val_main_v23, val_main_v22, val_main_v21, val_main_v20, val_main_cst_4, val_main_cst_5, val_main_cst_6]
  rw [Fin.sum_univ_one]
  simp only [div1024]

theorem final5 (c : Dev nD) : (dats m 0 c).arrAt 5 (cfgs 0).N = val_main_v17 (F := Ideal) (a0 m c) (a2 m c) := by
  rw [out5]
  funext i
  idx_vars i
  show (∑ T, G1 m c i1 T : EReal) = _
  unfold G1
  simp only [← v12_at, D_at]
  pointwise [val_main_v17, val_main_v16, val_main_v15, val_main_cst_3]
  exact Finset.sum_congr rfl fun T _ => mul_comm _ _

end Cert.Kernel12Ideal.MixBwd

end
-- ==== Proof.Adam.lean ====
/- The optimiser's step, of the weights taken a tile of rows at a time: every number of the results comes from the four numbers at
   its own place, and a tile of a result holds what the same tiles of the gradient, the weight and the two moments give. -/
module
public import proofs.«01_k».proof.Proof.Gen.Kernel13Ideal.Value
public import proofs.«01_k».proof.Proof.Gen.Kernel14Ideal.Value
public import proofs.«01_k».proof.Proof.Gen.Kernel16Ideal.Value
public import proofs.«01_k».proof.Proof.Gen.Kernel17Ideal.Value
public import proofs.«01_k».proof.Proof.Gen.Reference13Ideal.Read
public import proofs.«01_k».proof.Proof.Gen.Reference14Ideal.Read
public import proofs.«01_k».proof.Proof.Gen.Reference16Ideal.Read
public import proofs.«01_k».proof.Proof.Gen.Reference17Ideal.Read
public import Idealize.ShloMosaic.Lib.Pointwise
public import Idealize.ShloMosaic.Lib.Claim
public import Idealize.ShloMosaic.Lib.Pipeline.ValueKit
public import Idealize.ShloMosaic.Lib.Pipeline.ReadBack
@[expose] public section
set_option maxRecDepth 16384
set_option maxHeartbeats 1000000
noncomputable section

namespace Cert.Adam
open Idealize.ShloMosaic Idealize.ShloMosaic.TcCoe Idealize.SL.Sem

open Cert.Kernel13Ideal Cert.Kernel13Ideal.Gen Cert.Reference13Ideal.Read in
theorem w_up (m : (ℓ : Loc nD τ sig) → Buf (Elt Ideal) ℓ) (c : Dev nD) (g w n v : FVec Ideal S1024x1408 .f32)
    (h0 : g = m ((c : Thread nD τ).loc main_arg0)) (h1 : w = m ((c : Thread nD τ).loc main_arg1))
    (h2 : n = m ((c : Thread nD τ).loc main_arg2)) (h3 : v = m ((c : Thread nD τ).loc main_arg3)) :
    (dats m 0 c).arrAt 4 (cfgs 0).N = g ∧ (dats m 0 c).arrAt 5 (cfgs 0).N = val_main_v23 (F := Ideal) g w n v
      ∧ (dats m 0 c).arrAt 6 (cfgs 0).N = val_main_v4 (F := Ideal) g n ∧ (dats m 0 c).arrAt 7 (cfgs 0).N = val_main_v10 (F := Ideal) g v := by
  subst h0 h1 h2 h3
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · rw [after0_4]; frame_out; rfl
  · rw [after0_5]; frame_out; rfl
  · rw [after0_6]; frame_out; rfl
  · rw [after0_7]; frame_out; rfl

open Cert.Kernel14Ideal Cert.Kernel14Ideal.Gen Cert.Reference14Ideal.Read in
theorem w_down (m : (ℓ : Loc nD τ sig) → Buf (Elt Ideal) ℓ) (c : Dev nD) (g w n v : FVec Ideal S704x1024 .f32)
    (h0 : g = m ((c : Thread nD τ).loc main_arg0)) (h1 : w = m ((c : Thread nD τ).loc main_arg1))
    (h2 : n = m ((c : Thread nD τ).loc main_arg2)) (h3 : v = m ((c : Thread nD τ).loc main_arg3)) :
    (dats m 0 c).arrAt 4 (cfgs 0).N = g ∧ (dats m 0 c).arrAt 5 (cfgs 0).N = val_main_v23 (F := Ideal) g w n v
      ∧ (dats m 0 c).arrAt 6 (cfgs 0).N = val_main_v4 (F := Ideal) g n ∧ (dats m 0 c).arrAt 7 (cfgs 0).N = val_main_v10 (F := Ideal) g v := by
  subst h0 h1 h2 h3
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · rw [after0_4]; frame_out; rfl
  · rw [after0_5]; frame_out; rfl
  · rw [after0_6]; frame_out; rfl
  · rw [after0_7]; frame_out; rfl

open Cert.Kernel16Ideal Cert.Kernel16Ideal.Gen Cert.Reference16Ideal.Read in
theorem w_in (m : (ℓ : Loc nD τ sig) → Buf (Elt Ideal) ℓ) (c : Dev nD) (g w n v : FVec Ideal S552x1024 .f32)
    (h0 : g = m ((c : Thread nD τ).loc main_arg0)) (h1 : w = m ((c : Thread nD τ).loc main_arg1))
    (h2 : n = m ((c : Thread nD τ).loc main_arg2)) (h3 : v = m ((c : Thread nD τ).loc main_arg3)) :
    (dats m 0 c).arrAt 4 (cfgs 0).N = g ∧ (dats m 0 c).arrAt 5 (cfgs 0).N = val_main_v23 (F := Ideal) g w n v
      ∧ (dats m 0 c).arrAt 6 (cfgs 0).N = val_main_v4 (F := Ideal) g n ∧ (dats m 0 c).arrAt 7 (cfgs 0).N = val_main_v10 (F := Ideal) g v := by
  subst h0 h1 h2 h3
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · rw [after0_4]; frame_out; rfl
  · rw [after0_5]; frame_out; rfl
  · rw [after0_6]; frame_out; rfl
  · rw [after0_7]; frame_out; rfl

open Cert.Kernel17Ideal Cert.Kernel17Ideal.Gen Cert.Reference17Ideal.Read in
theorem w_uq (m : (ℓ : Loc nD τ sig) → Buf (Elt Ideal) ℓ) (c : Dev nD) (g w n v : FVec Ideal S384x192 .f32)
    (h0 : g = m ((c : Thread nD τ).loc main_arg0)) (h1 : w = m ((c : Thread nD τ).loc main_arg1))
    (h2 : n = m ((c : Thread nD τ).loc main_arg2)) (h3 : v = m ((c : Thread nD τ).loc main_arg3)) :
    (dats m 0 c).arrAt 4 (cfgs 0).N = g ∧ (dats m 0 c).arrAt 5 (cfgs 0).N = val_main_v23 (F := Ideal) g w n v
      ∧ (dats m 0 c).arrAt 6 (cfgs 0).N = val_main_v4 (F := Ideal) g n ∧ (dats m 0 c).arrAt 7 (cfgs 0).N = val_main_v10 (F := Ideal) g v := by
  subst h0 h1 h2 h3
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · rw [after0_4]; frame_out; rfl
  · rw [after0_5]; frame_out; rfl
  · rw [after0_6]; frame_out; rfl
  · rw [after0_7]; frame_out; rfl

end Cert.Adam

end
-- ==== Proof.AdamWhole.lean ====
/- The optimiser's step, of the weights taken whole: the one tile is the array. -/
module
public import proofs.«01_k».proof.Proof.Gen.Kernel15Ideal.Value
public import proofs.«01_k».proof.Proof.Gen.Kernel18Ideal.Value
public import proofs.«01_k».proof.Proof.Gen.Kernel19Ideal.Value
public import proofs.«01_k».proof.Proof.Gen.Kernel20Ideal.Value
public import proofs.«01_k».proof.Proof.Gen.Reference15Ideal.Read
public import proofs.«01_k».proof.Proof.Gen.Reference18Ideal.Read
public import proofs.«01_k».proof.Proof.Gen.Reference19Ideal.Read
public import proofs.«01_k».proof.Proof.Gen.Reference20Ideal.Read
public import Idealize.ShloMosaic.Lib.Pointwise
public import Idealize.ShloMosaic.Lib.Claim
public import Idealize.ShloMosaic.Lib.Pipeline.ValueKit
public import Idealize.ShloMosaic.Lib.Pipeline.ReadBack
@[expose] public section
set_option maxRecDepth 16384
set_option maxHeartbeats 1000000
noncomputable section

namespace Cert.Adam
open Idealize.ShloMosaic Idealize.ShloMosaic.TcCoe Idealize.SL.Sem

open Cert.Kernel15Ideal Cert.Kernel15Ideal.Gen Cert.Reference15Ideal.Read in
theorem w_out (m : (ℓ : Loc nD τ sig) → Buf (Elt Ideal) ℓ) (c : Dev nD) (g w n v : FVec Ideal S256x1024 .f32)
    (h0 : g = m ((c : Thread nD τ).loc main_arg0)) (h1 : w = m ((c : Thread nD τ).loc main_arg1))
    (h2 : n = m ((c : Thread nD τ).loc main_arg2)) (h3 : v = m ((c : Thread nD τ).loc main_arg3)) :
    (dats m 0 c).arrAt 4 (cfgs 0).N = g ∧ (dats m 0 c).arrAt 5 (cfgs 0).N = val_main_v23 (F := Ideal) g w n v
      ∧ (dats m 0 c).arrAt 6 (cfgs 0).N = val_main_v4 (F := Ideal) g n ∧ (dats m 0 c).arrAt 7 (cfgs 0).N = val_main_v10 (F := Ideal) g v := by
  subst h0 h1 h2 h3
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · rw [after0_4]; frame_out; rfl
  · rw [after0_5]; frame_out; rfl
  · rw [after0_6]; frame_out; rfl
  · rw [after0_7]; frame_out; rfl

open Cert.Kernel18Ideal Cert.Kernel18Ideal.Gen Cert.Reference18Ideal.Read in
theorem w_ukv (m : (ℓ : Loc nD τ sig) → Buf (Elt Ideal) ℓ) (c : Dev nD) (g w n v : FVec Ideal S256x256 .f32)
    (h0 : g = m ((c : Thread nD τ).loc main_arg0)) (h1 : w = m ((c : Thread nD τ).loc main_arg1))
    (h2 : n = m ((c : Thread nD τ).loc main_arg2)) (h3 : v = m ((c : Thread nD τ).loc main_arg3)) :
    (dats m 0 c).arrAt 4 (cfgs 0).N = g ∧ (dats m 0 c).arrAt 5 (cfgs 0).N = val_main_v23 (F := Ideal) g w n v
      ∧ (dats m 0 c).arrAt 6 (cfgs 0).N = val_main_v4 (F := Ideal) g n ∧ (dats m 0 c).arrAt 7 (cfgs 0).N = val_main_v10 (F := Ideal) g v := by
  subst h0 h1 h2 h3
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · rw [after0_4]; frame_out; rfl
  · rw [after0_5]; frame_out; rfl
  · rw [after0_6]; frame_out; rfl
  · rw [after0_7]; frame_out; rfl

open Cert.Kernel19Ideal Cert.Kernel19Ideal.Gen Cert.Reference19Ideal.Read in
theorem conv_w (m : (ℓ : Loc nD τ sig) → Buf (Elt Ideal) ℓ) (c : Dev nD) (g w n v : FVec Ideal S3x1408 .f32)
    (h0 : g = m ((c : Thread nD τ).loc main_arg0)) (h1 : w = m ((c : Thread nD τ).loc main_arg1))
    (h2 : n = m ((c : Thread nD τ).loc main_arg2)) (h3 : v = m ((c : Thread nD τ).loc main_arg3)) :
    (dats m 0 c).arrAt 4 (cfgs 0).N = g ∧ (dats m 0 c).arrAt 5 (cfgs 0).N = val_main_v23 (F := Ideal) g w n v
      ∧ (dats m 0 c).arrAt 6 (cfgs 0).N = val_main_v4 (F := Ideal) g n ∧ (dats m 0 c).arrAt 7 (cfgs 0).N = val_main_v10 (F := Ideal) g v := by
  subst h0 h1 h2 h3
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · rw [after0_4]; frame_out; rfl
  · rw [after0_5]; frame_out; rfl
  · rw [after0_6]; frame_out; rfl
  · rw [after0_7]; frame_out; rfl

open Cert.Kernel20Ideal Cert.Kernel20Ideal.Gen Cert.Reference20Ideal.Read in
/-- The small weights, packed into one array. -/
theorem small (m : (ℓ : Loc nD τ sig) → Buf (Elt Ideal) ℓ) (c : Dev nD) (g w n v : FVec Ideal S216x128 .f32)
    (h0 : g = m ((c : Thread nD τ).loc main_arg0)) (h1 : w = m ((c : Thread nD τ).loc main_arg1))
    (h2 : n = m ((c : Thread nD τ).loc main_arg2)) (h3 : v = m ((c : Thread nD τ).loc main_arg3)) :
    (dats m 0 c).arrAt 4 (cfgs 0).N = g ∧ (dats m 0 c).arrAt 5 (cfgs 0).N = val_main_v23 (F := Ideal) g w n v
      ∧ (dats m 0 c).arrAt 6 (cfgs 0).N = val_main_v4 (F := Ideal) g n ∧ (dats m 0 c).arrAt 7 (cfgs 0).N = val_main_v10 (F := Ideal) g v := by
  subst h0 h1 h2 h3
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  · rw [after0_4]; frame_out; rfl
  · rw [after0_5]; frame_out; rfl
  · rw [after0_6]; frame_out; rfl
  · rw [after0_7]; frame_out; rfl

end Cert.Adam

end
-- ==== Proof.Last.lean ====
/- The value claims and the references' frames of the gradient to the step's input and of the optimiser's steps. -/
module
public import proofs.«01_k».proof.Defs
public import proofs.«01_k».proof.Proof.MixBwd
public import proofs.«01_k».proof.Proof.Adam
public import proofs.«01_k».proof.Proof.AdamWhole
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import Idealize.ShloMosaic.Adequacy
public import Idealize.ShloMosaic.Init
@[expose] public section
set_option maxRecDepth 16384
set_option maxHeartbeats 2000000
noncomputable section

namespace Cert.Last
open Idealize.ShloMosaic Idealize.ShloMosaic.TcCoe Idealize.SL.Sem Cert.Finite

/-! The gradient to the step's input, whose precondition says that every argument is finite. -/

theorem preFacts12 : Cert.Pre_finite12.Facts where
  bcast_S_S4096x1024 := by decide
  bcast_S_S1x1024 := by decide

open Cert.Kernel12Ideal in
theorem fin12 [Cert.Pre_finite12.Facts] (m : (ℓ : Loc nD τ sig) → Buf (Elt Ideal) ℓ) (h : Cert.Pre_Kernel12Ideal_finite12 m) (c : Dev nD) : Cert.Kernel12Ideal.MixBwd.Fin12 m c := by
  obtain ⟨p0, p1, p2, p3⟩ := h c
  constructor <;> intro i <;> apply R.of_abs
  · have q := congrFun p0 i; pointwise [Cert.Pre_finite12.fn] at q; exact q
  · have q := congrFun p1 i; pointwise [Cert.Pre_finite12.fn] at q; exact q
  · have q := congrFun p2 i; pointwise [Cert.Pre_finite12.fn] at q; exact q
  · have q := congrFun p3 i; pointwise [Cert.Pre_finite12.fn] at q; exact q

open Cert.Reference12Ideal.Read in
theorem algebraic12 : Cert.algebraic_Kernel12Ideal_Reference12Ideal_pre_finite12 (hKernel12Ideal := Cert.Kernel12Ideal.Gen.facts)
    (hReference12Ideal := Cert.Reference12Ideal.Gen.facts) (hPre_finite12 := preFacts12) := by
  intro m g m' g' hpre hagree
  have hf := @fin12 preFacts12 m hpre
  refine ⟨_, _, Cert.Kernel12Ideal.Value.run_blocks m g, ?_⟩
  refine (θ_run (Cert.Reference12Ideal.defs (F := Ideal)) _ _).mono (fun r h c =>
    ⟨((h c).1).trans ((val_main_v34_eq _ _ _ _).trans ?_), ((h c).2.1).trans ((val_main_v17_eq _ _).trans ?_), (h c).2.2⟩)
    (Cert.Reference12Ideal.Value.run (F := Ideal) m' g')
  · obtain ⟨q0, q1, q2, q3⟩ := hagree c
    rw [q0, q1, q2, q3]
    exact (Cert.Kernel12Ideal.MixBwd.final4 m c (hf c)).symm
  · obtain ⟨q0, q1, q2, q3⟩ := hagree c
    rw [q0, q2]
    exact (Cert.Kernel12Ideal.MixBwd.final5 m c).symm

theorem frame_reference12 : Cert.quiescent_Reference12Ideal (hReference12Ideal := Cert.Reference12Ideal.Gen.facts) := fun m g _ =>
  (θ_run (Cert.Reference12Ideal.defs (F := Ideal)) _ _).mono
    (fun r h => And.intro (fun c => (h c).2.2) (sem_eq_zero_of_no_sems (by decide) r.2))
    (Cert.Reference12Ideal.Value.run (F := Ideal) m g)

/-! The optimiser's steps. Each has four results. `four` takes a run of the reference, what its operations compute, and the same of the
    call, to the equality of the four, whatever else the run says; `kept` leaves what else it says. -/

theorem four {A B C D : Type} {x0 y0 z0 : A} {x1 y1 w1 z1 : B} {x2 y2 w2 z2 : C} {x3 y3 w3 z3 : D} {P : Prop}
    (h : x0 = y0 ∧ x1 = y1 ∧ x2 = y2 ∧ x3 = y3 ∧ P) (e1 : y1 = w1) (e2 : y2 = w2) (e3 : y3 = w3)
    (k : z0 = y0 ∧ z1 = w1 ∧ z2 = w2 ∧ z3 = w3) : x0 = z0 ∧ x1 = z1 ∧ x2 = z2 ∧ x3 = z3 ∧ P := by
  obtain ⟨h0, h1, h2, h3, p⟩ := h
  obtain ⟨k0, k1, k2, k3⟩ := k
  exact ⟨h0.trans k0.symm, h1.trans (e1.trans k1.symm), h2.trans (e2.trans k2.symm), h3.trans (e3.trans k3.symm), p⟩

theorem kept {I : Type} {A B C D P : I → Prop} {Q : Prop} (h : ∀ c, A c ∧ B c ∧ C c ∧ D c ∧ P c) (q : Q) : (∀ c, P c) ∧ Q :=
  ⟨fun c => (h c).2.2.2.2, q⟩

open Cert.Reference13Ideal.Read in
theorem algebraic13 : Cert.algebraic_Kernel13Ideal_Reference13Ideal (hKernel13Ideal := Cert.Kernel13Ideal.Gen.facts)
    (hReference13Ideal := Cert.Reference13Ideal.Gen.facts) := fun m g m' g' _ ha =>
  ⟨_, _, _, _, Cert.Kernel13Ideal.Value.run_blocks m g, (θ_run (Cert.Reference13Ideal.defs (F := Ideal)) _ _).mono (fun r h c =>
    four (h c) (val_main_v23_eq _ _ _ _) (val_main_v4_eq _ _) (val_main_v10_eq _ _)
      (Cert.Adam.w_up m c _ _ _ _ (ha c).1 (ha c).2.1 (ha c).2.2.1 (ha c).2.2.2)) (Cert.Reference13Ideal.Value.run m' g')⟩

theorem frame_reference13 : Cert.quiescent_Reference13Ideal (hReference13Ideal := Cert.Reference13Ideal.Gen.facts) := fun m g _ =>
  (θ_run (Cert.Reference13Ideal.defs (F := Ideal)) _ _).mono (fun r h => kept h (sem_eq_zero_of_no_sems (by decide) r.2))
    (Cert.Reference13Ideal.Value.run m g)

open Cert.Reference14Ideal.Read in
theorem algebraic14 : Cert.algebraic_Kernel14Ideal_Reference14Ideal (hKernel14Ideal := Cert.Kernel14Ideal.Gen.facts)
    (hReference14Ideal := Cert.Reference14Ideal.Gen.facts) := fun m g m' g' _ ha =>
  ⟨_, _, _, _, Cert.Kernel14Ideal.Value.run_blocks m g, (θ_run (Cert.Reference14Ideal.defs (F := Ideal)) _ _).mono (fun r h c =>
    four (h c) (val_main_v23_eq _ _ _ _) (val_main_v4_eq _ _) (val_main_v10_eq _ _)
      (Cert.Adam.w_down m c _ _ _ _ (ha c).1 (ha c).2.1 (ha c).2.2.1 (ha c).2.2.2)) (Cert.Reference14Ideal.Value.run m' g')⟩

theorem frame_reference14 : Cert.quiescent_Reference14Ideal (hReference14Ideal := Cert.Reference14Ideal.Gen.facts) := fun m g _ =>
  (θ_run (Cert.Reference14Ideal.defs (F := Ideal)) _ _).mono (fun r h => kept h (sem_eq_zero_of_no_sems (by decide) r.2))
    (Cert.Reference14Ideal.Value.run m g)

open Cert.Reference15Ideal.Read in
theorem algebraic15 : Cert.algebraic_Kernel15Ideal_Reference15Ideal (hKernel15Ideal := Cert.Kernel15Ideal.Gen.facts)
    (hReference15Ideal := Cert.Reference15Ideal.Gen.facts) := fun m g m' g' _ ha =>
  ⟨_, _, _, _, Cert.Kernel15Ideal.Value.run_blocks m g, (θ_run (Cert.Reference15Ideal.defs (F := Ideal)) _ _).mono (fun r h c =>
    four (h c) (val_main_v23_eq _ _ _ _) (val_main_v4_eq _ _) (val_main_v10_eq _ _)
      (Cert.Adam.w_out m c _ _ _ _ (ha c).1 (ha c).2.1 (ha c).2.2.1 (ha c).2.2.2)) (Cert.Reference15Ideal.Value.run m' g')⟩

theorem frame_reference15 : Cert.quiescent_Reference15Ideal (hReference15Ideal := Cert.Reference15Ideal.Gen.facts) := fun m g _ =>
  (θ_run (Cert.Reference15Ideal.defs (F := Ideal)) _ _).mono (fun r h => kept h (sem_eq_zero_of_no_sems (by decide) r.2))
    (Cert.Reference15Ideal.Value.run m g)

open Cert.Reference16Ideal.Read in
theorem algebraic16 : Cert.algebraic_Kernel16Ideal_Reference16Ideal (hKernel16Ideal := Cert.Kernel16Ideal.Gen.facts)
    (hReference16Ideal := Cert.Reference16Ideal.Gen.facts) := fun m g m' g' _ ha =>
  ⟨_, _, _, _, Cert.Kernel16Ideal.Value.run_blocks m g, (θ_run (Cert.Reference16Ideal.defs (F := Ideal)) _ _).mono (fun r h c =>
    four (h c) (val_main_v23_eq _ _ _ _) (val_main_v4_eq _ _) (val_main_v10_eq _ _)
      (Cert.Adam.w_in m c _ _ _ _ (ha c).1 (ha c).2.1 (ha c).2.2.1 (ha c).2.2.2)) (Cert.Reference16Ideal.Value.run m' g')⟩

theorem frame_reference16 : Cert.quiescent_Reference16Ideal (hReference16Ideal := Cert.Reference16Ideal.Gen.facts) := fun m g _ =>
  (θ_run (Cert.Reference16Ideal.defs (F := Ideal)) _ _).mono (fun r h => kept h (sem_eq_zero_of_no_sems (by decide) r.2))
    (Cert.Reference16Ideal.Value.run m g)

open Cert.Reference17Ideal.Read in
theorem algebraic17 : Cert.algebraic_Kernel17Ideal_Reference17Ideal (hKernel17Ideal := Cert.Kernel17Ideal.Gen.facts)
    (hReference17Ideal := Cert.Reference17Ideal.Gen.facts) := fun m g m' g' _ ha =>
  ⟨_, _, _, _, Cert.Kernel17Ideal.Value.run_blocks m g, (θ_run (Cert.Reference17Ideal.defs (F := Ideal)) _ _).mono (fun r h c =>
    four (h c) (val_main_v23_eq _ _ _ _) (val_main_v4_eq _ _) (val_main_v10_eq _ _)
      (Cert.Adam.w_uq m c _ _ _ _ (ha c).1 (ha c).2.1 (ha c).2.2.1 (ha c).2.2.2)) (Cert.Reference17Ideal.Value.run m' g')⟩

theorem frame_reference17 : Cert.quiescent_Reference17Ideal (hReference17Ideal := Cert.Reference17Ideal.Gen.facts) := fun m g _ =>
  (θ_run (Cert.Reference17Ideal.defs (F := Ideal)) _ _).mono (fun r h => kept h (sem_eq_zero_of_no_sems (by decide) r.2))
    (Cert.Reference17Ideal.Value.run m g)

open Cert.Reference18Ideal.Read in
theorem algebraic18 : Cert.algebraic_Kernel18Ideal_Reference18Ideal (hKernel18Ideal := Cert.Kernel18Ideal.Gen.facts)
    (hReference18Ideal := Cert.Reference18Ideal.Gen.facts) := fun m g m' g' _ ha =>
  ⟨_, _, _, _, Cert.Kernel18Ideal.Value.run_blocks m g, (θ_run (Cert.Reference18Ideal.defs (F := Ideal)) _ _).mono (fun r h c =>
    four (h c) (val_main_v23_eq _ _ _ _) (val_main_v4_eq _ _) (val_main_v10_eq _ _)
      (Cert.Adam.w_ukv m c _ _ _ _ (ha c).1 (ha c).2.1 (ha c).2.2.1 (ha c).2.2.2)) (Cert.Reference18Ideal.Value.run m' g')⟩

theorem frame_reference18 : Cert.quiescent_Reference18Ideal (hReference18Ideal := Cert.Reference18Ideal.Gen.facts) := fun m g _ =>
  (θ_run (Cert.Reference18Ideal.defs (F := Ideal)) _ _).mono (fun r h => kept h (sem_eq_zero_of_no_sems (by decide) r.2))
    (Cert.Reference18Ideal.Value.run m g)

open Cert.Reference19Ideal.Read in
theorem algebraic19 : Cert.algebraic_Kernel19Ideal_Reference19Ideal (hKernel19Ideal := Cert.Kernel19Ideal.Gen.facts)
    (hReference19Ideal := Cert.Reference19Ideal.Gen.facts) := fun m g m' g' _ ha =>
  ⟨_, _, _, _, Cert.Kernel19Ideal.Value.run_blocks m g, (θ_run (Cert.Reference19Ideal.defs (F := Ideal)) _ _).mono (fun r h c =>
    four (h c) (val_main_v23_eq _ _ _ _) (val_main_v4_eq _ _) (val_main_v10_eq _ _)
      (Cert.Adam.conv_w m c _ _ _ _ (ha c).1 (ha c).2.1 (ha c).2.2.1 (ha c).2.2.2)) (Cert.Reference19Ideal.Value.run m' g')⟩

theorem frame_reference19 : Cert.quiescent_Reference19Ideal (hReference19Ideal := Cert.Reference19Ideal.Gen.facts) := fun m g _ =>
  (θ_run (Cert.Reference19Ideal.defs (F := Ideal)) _ _).mono (fun r h => kept h (sem_eq_zero_of_no_sems (by decide) r.2))
    (Cert.Reference19Ideal.Value.run m g)

open Cert.Reference20Ideal.Read in
theorem algebraic20 : Cert.algebraic_Kernel20Ideal_Reference20Ideal (hKernel20Ideal := Cert.Kernel20Ideal.Gen.facts)
    (hReference20Ideal := Cert.Reference20Ideal.Gen.facts) := fun m g m' g' _ ha =>
  ⟨_, _, _, _, Cert.Kernel20Ideal.Value.run_blocks m g, (θ_run (Cert.Reference20Ideal.defs (F := Ideal)) _ _).mono (fun r h c =>
    four (h c) (val_main_v23_eq _ _ _ _) (val_main_v4_eq _ _) (val_main_v10_eq _ _)
      (Cert.Adam.small m c _ _ _ _ (ha c).1 (ha c).2.1 (ha c).2.2.1 (ha c).2.2.2)) (Cert.Reference20Ideal.Value.run m' g')⟩

theorem frame_reference20 : Cert.quiescent_Reference20Ideal (hReference20Ideal := Cert.Reference20Ideal.Gen.facts) := fun m g _ =>
  (θ_run (Cert.Reference20Ideal.defs (F := Ideal)) _ _).mono (fun r h => kept h (sem_eq_zero_of_no_sems (by decide) r.2))
    (Cert.Reference20Ideal.Value.run m g)

end Cert.Last

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Pre
public import proofs.«01_k».proof.Proof.Others
public import proofs.«01_k».proof.Proof.Rest
public import proofs.«01_k».proof.Proof.Last
public import Idealize.ShloMosaic.Adequacy
public import Idealize.ShloMosaic.Init

@[expose] public section

noncomputable section

namespace Cert.Proof

open Idealize.ShloMosaic Idealize.SL.Sem Cert.Kernel

set_option maxHeartbeats 2000000 in
open Cert.KernelIdeal.Result Cert.ReferenceIdeal.Read in
/-- The kernel's results are the reference's, over the same finite arguments. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hagree
  have hf := @fin6 preFacts m hpre
  have e9 : ∀ c, Cert.ReferenceIdeal.Value.res_main_v88 m' c = (Cert.KernelIdeal.Gen.dats m 0 c).arrAt 9 (Cert.KernelIdeal.cfgs 0).N := fun c => by
    obtain ⟨q0, q1, q2, q3, q4, q5⟩ := hagree c
    rw [val_main_v88_eq, q0, q1, q2, q3, q4, q5]
    exact (final9 m c (hf c)).symm
  have e10 : ∀ c, Cert.ReferenceIdeal.Value.res_main_v90 m' c = (Cert.KernelIdeal.Gen.dats m 0 c).arrAt 10 (Cert.KernelIdeal.cfgs 0).N := fun c => by
    obtain ⟨q0, q1, q2, q3, q4, q5⟩ := hagree c
    rw [val_main_v90_eq, q0, q1, q2, q3, q4, q5]
    exact (final10 m c).symm
  have e11 : ∀ c, Cert.ReferenceIdeal.Value.res_main_v86 m' c = (Cert.KernelIdeal.Gen.dats m 0 c).arrAt 11 (Cert.KernelIdeal.cfgs 0).N := fun c => by
    obtain ⟨q0, q1, q2, q3, q4, q5⟩ := hagree c
    rw [val_main_v86_eq, q0, q1, q2, q3, q4, q5]
    exact (final11 m c (hf c)).symm
  have e12 : ∀ c, Cert.ReferenceIdeal.Value.res_main_v91 m' c = (Cert.KernelIdeal.Gen.dats m 0 c).arrAt 12 (Cert.KernelIdeal.cfgs 0).N := fun c => by
    obtain ⟨q0, q1, q2, q3, q4, q5⟩ := hagree c
    rw [val_main_v91_eq, q0, q1, q2, q3, q4, q5]
    exact (final12 m c (hf c)).symm
  have e13 : ∀ c, Cert.ReferenceIdeal.Value.res_main_v92 m' c = (Cert.KernelIdeal.Gen.dats m 0 c).arrAt 13 (Cert.KernelIdeal.cfgs 0).N := fun c => by
    obtain ⟨q0, q1, q2, q3, q4, q5⟩ := hagree c
    rw [val_main_v92_eq, q0, q1, q2, q3, q4, q5]
    exact (final13 m c).symm
  have e14 : ∀ c, Cert.ReferenceIdeal.Value.res_main_v93 m' c = (Cert.KernelIdeal.Gen.dats m 0 c).arrAt 14 (Cert.KernelIdeal.cfgs 0).N := fun c => by
    obtain ⟨q0, q1, q2, q3, q4, q5⟩ := hagree c
    rw [val_main_v93_eq, q0, q1, q2, q3, q4, q5]
    exact (final14 m c (hf c)).symm
  have e15 : ∀ c, Cert.ReferenceIdeal.Value.res_main_v94 m' c = (Cert.KernelIdeal.Gen.dats m 0 c).arrAt 15 (Cert.KernelIdeal.cfgs 0).N := fun c => by
    obtain ⟨q0, q1, q2, q3, q4, q5⟩ := hagree c
    rw [val_main_v94_eq, q0, q1, q2, q3, q4, q5]
    exact (final15 m c).symm
  refine ⟨_, _, _, _, _, _, _, Cert.KernelIdeal.Value.run_blocks m g, ?_⟩
  exact (θ_run (Cert.ReferenceIdeal.defs (F := Ideal)) _ _).mono (fun r h c =>
    ⟨((h c).1).trans (e9 c), ((h c).2.1).trans (e10 c), ((h c).2.2.1).trans (e11 c), ((h c).2.2.2.1).trans (e12 c), ((h c).2.2.2.2.1).trans (e13 c), ((h c).2.2.2.2.2.1).trans (e14 c), ((h c).2.2.2.2.2.2.1).trans (e15 c), (h c).2.2.2.2.2.2.2⟩)
    (Cert.ReferenceIdeal.Value.run (F := Ideal) m' g')

/-- The reference's operations leave its arguments alone, and it has no semaphore. -/
theorem frame_reference : Cert.quiescent_ReferenceIdeal (hReferenceIdeal := Cert.ReferenceIdeal.Gen.facts) := fun m g _ =>
  (θ_run (Cert.ReferenceIdeal.defs (F := Ideal)) _ _).mono
    (fun r h => And.intro (fun c => (h c).2.2.2.2.2.2.2) (sem_eq_zero_of_no_sems (by decide) r.2))
    (Cert.ReferenceIdeal.Value.run (F := Ideal) m g)

open Cert.Others Cert.Rest Cert.Last in
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.KernelIdeal.Result.preFacts, preFacts3, preFacts5, preFacts6, preFacts11, preFacts12,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, fun m ρ _ => Cert.Kernel5Ideal.Gen.frame m ρ,
  frame_reference5, fun m ρ _ => frame_reference5 m ρ trivial,
  fun m ρ _ => Cert.Kernel6.Gen.frame m ρ, fun m ρ _ => Cert.Kernel6Ideal.Gen.frame m ρ, fun m ρ _ => Cert.Kernel6Ideal.Gen.frame m ρ,
  frame_reference6, fun m ρ _ => frame_reference6 m ρ trivial,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, fun m ρ _ => Cert.Kernel11Ideal.Gen.frame m ρ,
  frame_reference11, fun m ρ _ => frame_reference11 m ρ trivial,
  fun m ρ _ => Cert.Kernel12.Gen.frame m ρ, fun m ρ _ => Cert.Kernel12Ideal.Gen.frame m ρ, fun m ρ _ => Cert.Kernel12Ideal.Gen.frame m ρ,
  frame_reference12, fun m ρ _ => frame_reference12 m ρ trivial,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  trivial, algebraic, trivial, algebraic2, trivial, algebraic3, trivial, algebraic4, trivial, algebraic5,
  trivial, algebraic6, trivial, algebraic7, trivial, algebraic8, trivial, algebraic9, trivial, algebraic10, trivial, algebraic11,
  trivial, algebraic12, trivial, algebraic13, trivial, algebraic14, trivial, algebraic15, trivial, algebraic16,
  trivial, algebraic17, trivial, algebraic18, trivial, algebraic19, trivial, algebraic20⟩

end Cert.Proof

end
